-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)) (v2 : (c : Dev Cert.KernelIdeal.nD) → Buf (Elt Ideal) ((c.tc : Thread Cert.KernelIdeal.nD Cert.KernelIdeal.τ).loc Cert.KernelIdeal.main_v63_2)) (v3 : (c : Dev Cert.KernelIdeal.nD) → Buf (Elt Ideal) ((c.tc : Thread Cert.KernelIdeal.nD Cert.KernelIdeal.τ).loc Cert.KernelIdeal.main_v63_3)) (v4 : (c : Dev Cert.KernelIdeal.nD) → Buf (Elt Ideal) ((c.tc : Thread Cert.KernelIdeal.nD Cert.KernelIdeal.τ).loc Cert.KernelIdeal.main_v63_4)) (v5 : (c : Dev Cert.KernelIdeal.nD) → Buf (Elt Ideal) ((c.tc : Thread Cert.KernelIdeal.nD Cert.KernelIdeal.τ).loc Cert.KernelIdeal.main_v63_5)) (v6 : (c : Dev Cert.KernelIdeal.nD) → Buf (Elt Ideal) ((c.tc : Thread Cert.KernelIdeal.nD Cert.KernelIdeal.τ).loc Cert.KernelIdeal.main_v63_6)) (v7 : (c : Dev Cert.KernelIdeal.nD) → Buf (Elt Ideal) ((c.tc : Thread Cert.KernelIdeal.nD Cert.KernelIdeal.τ).loc Cert.KernelIdeal.main_v63_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_v63_2) = v2 c
          ∧ r.2.mem ((c.tc : Thread Cert.KernelIdeal.nD Cert.KernelIdeal.τ).loc Cert.KernelIdeal.main_v63_3) = v3 c
          ∧ r.2.mem ((c.tc : Thread Cert.KernelIdeal.nD Cert.KernelIdeal.τ).loc Cert.KernelIdeal.main_v63_4) = v4 c
          ∧ r.2.mem ((c.tc : Thread Cert.KernelIdeal.nD Cert.KernelIdeal.τ).loc Cert.KernelIdeal.main_v63_5) = v5 c
          ∧ r.2.mem ((c.tc : Thread Cert.KernelIdeal.nD Cert.KernelIdeal.τ).loc Cert.KernelIdeal.main_v63_6) = v6 c
          ∧ r.2.mem ((c.tc : Thread Cert.KernelIdeal.nD Cert.KernelIdeal.τ).loc Cert.KernelIdeal.main_v63_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v163) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_v165) = v4 c
          ∧ r.2.mem ((c.tc : Thread Cert.ReferenceIdeal.nD Cert.ReferenceIdeal.τ).loc Cert.ReferenceIdeal.main_v167) = v5 c
          ∧ r.2.mem ((c.tc : Thread Cert.ReferenceIdeal.nD Cert.ReferenceIdeal.τ).loc Cert.ReferenceIdeal.main_v169) = v6 c
          ∧ r.2.mem ((c.tc : Thread Cert.ReferenceIdeal.nD Cert.ReferenceIdeal.τ).loc Cert.ReferenceIdeal.main_v171) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v84) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v16_0)) (v1 : (c : Dev Cert.Kernel3Ideal.nD) → Buf (Elt Ideal) ((c.tc : Thread Cert.Kernel3Ideal.nD Cert.Kernel3Ideal.τ).loc Cert.Kernel3Ideal.main_v16_1)) (v2 : (c : Dev Cert.Kernel3Ideal.nD) → Buf (Elt Ideal) ((c.tc : Thread Cert.Kernel3Ideal.nD Cert.Kernel3Ideal.τ).loc Cert.Kernel3Ideal.main_v16_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_0) = v0 c
          ∧ r.2.mem ((c.tc : Thread Cert.Kernel3Ideal.nD Cert.Kernel3Ideal.τ).loc Cert.Kernel3Ideal.main_v16_1) = v1 c
          ∧ r.2.mem ((c.tc : Thread Cert.Kernel3Ideal.nD Cert.Kernel3Ideal.τ).loc Cert.Kernel3Ideal.main_v16_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_v85) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v39) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v54)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v54) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
-- ==== Pre_finite.lean ====
abbrev S2x8192x8x64 : Shape := ⟨4, ![2, 8192, 8, 64]⟩
abbrev S2x8192x2x64 : Shape := ⟨4, ![2, 8192, 2, 64]⟩
abbrev S2x256x2x64 : Shape := ⟨4, ![2, 256, 2, 64]⟩
abbrev S1x8 : Shape := ⟨2, ![1, 8]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel
  bcast_S_S2x8192x2x64 : S_.BroadcastsInDim S2x8192x2x64 (![] : Fin 0 → Fin S2x8192x2x64.rank)
  reducesTo_S2x8192x2x64_S_d0_1_2_3 : S2x8192x2x64.ReducesTo [0, 1, 2, 3] S_
  bcast_S_S2x256x2x64 : S_.BroadcastsInDim S2x256x2x64 (![] : Fin 0 → Fin S2x256x2x64.rank)
  reducesTo_S2x256x2x64_S_d0_1_2_3 : S2x256x2x64.ReducesTo [0, 1, 2, 3] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_v13 : IVec S_ 1) (main_v16 : IVec S1x8 1) : IVec S_ 1 :=
  let main_c_5 : IVec S_ 1 := constantI S_ 1 1#1
  let main_v17 : IVec S_ 1 := (fun x v => Host.reduce IntOp.andi x v reducesTo_S1x8_S_d0_1 h_S_) main_v16 main_c_5
  let main_v18 : IVec S_ 1 := andi main_v13 main_v17
  main_v18

def fn {F : FTy → Type} [FloatOps F] (main_arg0 : FVec F S2x8192x8x64 .f32) (main_arg1 : FVec F S2x8192x2x64 .f32) (main_arg2 : FVec F S2x8192x2x64 .f32) (main_arg3 : FVec F S2x256x2x64 .f32) (main_arg4 : FVec F S2x256x2x64 .f32) (main_arg5 : FVec F S1x8 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x2x64 .f32 := Host.absf main_arg1
  let main_cst_0 : FVec F S_ .f32 := constant S_ .f32 0x7F800000#32
  let main_v5 : FVec F S2x8192x2x64 .f32 := broadcastInDim S2x8192x2x64 ![] bcast_S_S2x8192x2x64 main_cst_0
  let main_v6 : IVec S2x8192x2x64 1 := cmpf .olt main_v4 main_v5
  let main_c_1 : IVec S_ 1 := constantI S_ 1 1#1
  let main_v7 : IVec S_ 1 := (fun x v => Host.reduce IntOp.andi x v reducesTo_S2x8192x2x64_S_d0_1_2_3 h_S_) main_v6 main_c_1
  let main_v8 : IVec S_ 1 := andi main_v3 main_v7
  let main_v9 : FVec F S2x256x2x64 .f32 := Host.absf main_arg3
  let main_cst_2 : FVec F S_ .f32 := constant S_ .f32 0x7F800000#32
  let main_v10 : FVec F S2x256x2x64 .f32 := broadcastInDim S2x256x2x64 ![] bcast_S_S2x256x2x64 main_cst_2
  let main_v11 : IVec S2x256x2x64 1 := cmpf .olt main_v9 main_v10
  let main_c_3 : IVec S_ 1 := constantI S_ 1 1#1
  let main_v12 : IVec S_ 1 := (fun x v => Host.reduce IntOp.andi x v reducesTo_S2x256x2x64_S_d0_1_2_3 h_S_) main_v11 main_c_3
  let main_v13 : IVec S_ 1 := andi main_v8 main_v12
  let main_v14 : FVec F S1x8 .f32 := Host.absf main_arg5
  let main_cst_4 : FVec F S_ .f32 := constant S_ .f32 0x7F800000#32
  let main_v15 : FVec F S1x8 .f32 := broadcastInDim S1x8 ![] bcast_S_S1x8 main_cst_4
  let main_v16 : IVec S1x8 1 := cmpf .olt main_v14 main_v15
  fn_part1 (F := F) main_v13 main_v16
-- ==== Kernel.lean ====
abbrev S2x8192x1024 : Shape := ⟨3, ![2, 8192, 1024]⟩
abbrev S8x6144 : Shape := ⟨2, ![8, 6144]⟩
abbrev S1x1024 : Shape := ⟨2, ![1, 1024]⟩
abbrev S1x1024x3328 : Shape := ⟨3, ![1, 1024, 3328]⟩
abbrev S1x512x1024 : Shape := ⟨3, ![1, 512, 1024]⟩
abbrev S1x1024x1024 : Shape := ⟨3, ![1, 1024, 1024]⟩
abbrev S16 : Shape := ⟨1, ![16]⟩
abbrev S_ : Shape := ⟨0, ![]⟩
abbrev S128 : Shape := ⟨1, ![128]⟩
abbrev S128x1 : Shape := ⟨2, ![128, 1]⟩
abbrev S1x16 : Shape := ⟨2, ![1, 16]⟩
abbrev S128x16 : Shape := ⟨2, ![128, 16]⟩
abbrev S64 : Shape := ⟨1, ![64]⟩
abbrev S64x1 : Shape := ⟨2, ![64, 1]⟩
abbrev S64x16 : Shape := ⟨2, ![64, 16]⟩
abbrev S128x32 : Shape := ⟨2, ![128, 32]⟩
abbrev S64x32 : Shape := ⟨2, ![64, 32]⟩
abbrev S128x64 : Shape := ⟨2, ![128, 64]⟩
abbrev S1x128x1x64 : Shape := ⟨4, ![1, 128, 1, 64]⟩
abbrev S1x128x2x64 : Shape := ⟨4, ![1, 128, 2, 64]⟩
abbrev S128x128 : Shape := ⟨2, ![128, 128]⟩
abbrev S64x64 : Shape := ⟨2, ![64, 64]⟩
abbrev S1x64x1x64 : Shape := ⟨4, ![1, 64, 1, 64]⟩
abbrev S1x64x2x64 : Shape := ⟨4, ![1, 64, 2, 64]⟩
abbrev S64x128 : Shape := ⟨2, ![64, 128]⟩
abbrev S1024 : Shape := ⟨1, ![1024]⟩
abbrev S16384x1024 : Shape := ⟨2, ![16384, 1024]⟩
abbrev S1024x3328 : Shape := ⟨2, ![1024, 3328]⟩
abbrev S512x1024 : Shape := ⟨2, ![512, 1024]⟩
abbrev S1024x1024 : Shape := ⟨2, ![1024, 1024]⟩
abbrev S16384x512 : Shape := ⟨2, ![16384, 512]⟩
abbrev S16384x128 : Shape := ⟨2, ![16384, 128]⟩
abbrev S128x16384 : Shape := ⟨2, ![128, 16384]⟩
abbrev S1024x2048 : Shape := ⟨2, ![1024, 2048]⟩
abbrev S1024x1280 : Shape := ⟨2, ![1024, 1280]⟩
abbrev S16x128 : Shape := ⟨2, ![16, 128]⟩
abbrev S64x2048 : Shape := ⟨2, ![64, 2048]⟩
abbrev S32x1024 : Shape := ⟨2, ![32, 1024]⟩
abbrev S64x1024 : Shape := ⟨2, ![64, 1024]⟩
abbrev S1024x512 : Shape := ⟨2, ![1024, 512]⟩
abbrev S1024x128 : Shape := ⟨2, ![1024, 128]⟩
abbrev S128x1024 : Shape := ⟨2, ![128, 1024]⟩
abbrev S1024x768 : Shape := ⟨2, ![1024, 768]⟩
abbrev S1024x1 : Shape := ⟨2, ![1024, 1]⟩
abbrev S1x128 : Shape := ⟨2, ![1, 128]⟩
abbrev S1024x256 : Shape := ⟨2, ![1024, 256]⟩

abbrev nBuf : Space → Nat
  | .hbm => 84
  | .vmem => 36
  | .smem => 0
  | _ => 0

abbrev bufTy : (tb : Table) → Fin (tcTables nBuf tb) → BufTy
  | .hbm, ⟨0, _⟩ => ⟨S2x8192x1024, .f32⟩
  | .hbm, ⟨1, _⟩ => ⟨S8x6144, .f32⟩
  | .hbm, ⟨2, _⟩ => ⟨S1x1024, .f32⟩
  | .hbm, ⟨3, _⟩ => ⟨S1x1024x3328, .f32⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S128, .i32⟩
  | .hbm, ⟨22, _⟩ => ⟨S128, .f32⟩
  | .hbm, ⟨23, _⟩ => ⟨S128x1, .f32⟩
  | .hbm, ⟨24, _⟩ => ⟨S1x16, .f32⟩
  | .hbm, ⟨25, _⟩ => ⟨S128x16, .f32⟩
  | .hbm, ⟨26, _⟩ => ⟨S128x16, .f32⟩
  | .hbm, ⟨27, _⟩ => ⟨S128x16, .f32⟩
  | .hbm, ⟨28, _⟩ => ⟨S64, .i32⟩
  | .hbm, ⟨29, _⟩ => ⟨S64, .f32⟩
  | .hbm, ⟨30, _⟩ => ⟨S64x1, .f32⟩
  | .hbm, ⟨31, _⟩ => ⟨S1x16, .f32⟩
  | .hbm, ⟨32, _⟩ => ⟨S64x16, .f32⟩
  | .hbm, ⟨33, _⟩ => ⟨S64x16, .f32⟩
  | .hbm, ⟨34, _⟩ => ⟨S64x16, .f32⟩
  | .hbm, ⟨35, _⟩ => ⟨S_, .f32⟩
  | .hbm, ⟨36, _⟩ => ⟨S128x32, .f32⟩
  | .hbm, ⟨37, _⟩ => ⟨S_, .f32⟩
  | .hbm, ⟨38, _⟩ => ⟨S64x32, .f32⟩
  | .hbm, ⟨39, _⟩ => ⟨S128x16, .f32⟩
  | .hbm, ⟨40, _⟩ => ⟨S128x16, .f32⟩
  | .hbm, ⟨41, _⟩ => ⟨S128x32, .f32⟩
  | .hbm, ⟨42, _⟩ => ⟨S128x64, .f32⟩
  | .hbm, ⟨43, _⟩ => ⟨S1x128x1x64, .f32⟩
  | .hbm, ⟨44, _⟩ => ⟨S1x128x2x64, .f32⟩
  | .hbm, ⟨45, _⟩ => ⟨S128x128, .f32⟩
  | .hbm, ⟨46, _⟩ => ⟨S128x16, .f32⟩
  | .hbm, ⟨47, _⟩ => ⟨S128x16, .f32⟩
  | .hbm, ⟨48, _⟩ => ⟨S128x16, .f32⟩
  | .hbm, ⟨49, _⟩ => ⟨S128x32, .f32⟩
  | .hbm, ⟨50, _⟩ => ⟨S128x64, .f32⟩
  | .hbm, ⟨51, _⟩ => ⟨S1x128x1x64, .f32⟩
  | .hbm, ⟨52, _⟩ => ⟨S1x128x2x64, .f32⟩
  | .hbm, ⟨53, _⟩ => ⟨S128x128, .f32⟩
  | .hbm, ⟨54, _⟩ => ⟨S64x16, .f32⟩
  | .hbm, ⟨55, _⟩ => ⟨S64x16, .f32⟩
  | .hbm, ⟨56, _⟩ => ⟨S64x32, .f32⟩
  | .hbm, ⟨57, _⟩ => ⟨S64x64, .f32⟩
  | .hbm, ⟨58, _⟩ => ⟨S1x64x1x64, .f32⟩
  | .hbm, ⟨59, _⟩ => ⟨S1x64x2x64, .f32⟩
  | .hbm, ⟨60, _⟩ => ⟨S64x128, .f32⟩
  | .hbm, ⟨61, _⟩ => ⟨S64x16, .f32⟩
  | .hbm, ⟨62, _⟩ => ⟨S64x16, .f32⟩
  | .hbm, ⟨63, _⟩ => ⟨S64x16, .f32⟩
  | .hbm, ⟨64, _⟩ => ⟨S64x32, .f32⟩
  | .hbm, ⟨65, _⟩ => ⟨S64x64, .f32⟩
  | .hbm, ⟨66, _⟩ => ⟨S1x64x1x64, .f32⟩
  | .hbm, ⟨67, _⟩ => ⟨S1x64x2x64, .f32⟩
  | .hbm, ⟨68, _⟩ => ⟨S64x128, .f32⟩
  | .hbm, ⟨69, _⟩ => ⟨S1024, .f32⟩
  | .hbm, ⟨70, _⟩ => ⟨S1x1024, .f32⟩
  | .hbm, ⟨71, _⟩ => ⟨S16384x1024, .f32⟩
  | .hbm, ⟨72, _⟩ => ⟨S1024x3328, .f32⟩
  | .hbm, ⟨73, _⟩ => ⟨S512x1024, .f32⟩
  | .hbm, ⟨74, _⟩ => ⟨S512x1024, .f32⟩
  | .hbm, ⟨75, _⟩ => ⟨S1024x1024, .f32⟩
  | .hbm, ⟨76, _⟩ => ⟨S16384x512, .bf16⟩
  | .hbm, ⟨77, _⟩ => ⟨S16384x128, .bf16⟩
  | .hbm, ⟨78, _⟩ => ⟨S128x16384, .bf16⟩
  | .hbm, ⟨79, _⟩ => ⟨S16384x512, .f32⟩
  | .hbm, ⟨80, _⟩ => ⟨S1024x2048, .bf16⟩
  | .hbm, ⟨81, _⟩ => ⟨S512x1024, .bf16⟩
  | .hbm, ⟨82, _⟩ => ⟨S512x1024, .bf16⟩
  | .hbm, ⟨83, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S8x6144, .f32⟩
  | .local _ .vmem, ⟨3, _⟩ => ⟨S1x1024, .f32⟩
  | .local _ .vmem, ⟨4, _⟩ => ⟨S1024x1280, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S64x128, .f32⟩
  | .local _ .vmem, ⟨10, _⟩ => ⟨S64x128, .f32⟩
  | .local _ .vmem, ⟨11, _⟩ => ⟨S64x2048, .f32⟩
  | .local _ .vmem, ⟨12, _⟩ => ⟨S64x2048, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S64x1024, .f32⟩
  | .local _ .vmem, ⟨18, _⟩ => ⟨S64x1024, .f32⟩
  | .local _ .vmem, ⟨19, _⟩ => ⟨S1024x512, .bf16⟩
  | .local _ .vmem, ⟨20, _⟩ => ⟨S1024x512, .bf16⟩
  | .local _ .vmem, ⟨21, _⟩ => ⟨S1024x128, .bf16⟩
  | .local _ .vmem, ⟨22, _⟩ => ⟨S1024x128, .bf16⟩
  | .local _ .vmem, ⟨23, _⟩ => ⟨S128x1024, .bf16⟩
  | .local _ .vmem, ⟨24, _⟩ => ⟨S128x1024, .bf16⟩
  | .local _ .vmem, ⟨25, _⟩ => ⟨S1024x512, .f32⟩
  | .local _ .vmem, ⟨26, _⟩ => ⟨S1024x512, .f32⟩
  | .local _ .vmem, ⟨27, _⟩ => ⟨S64x2048, .bf16⟩
  | .local _ .vmem, ⟨28, _⟩ => ⟨S64x2048, .bf16⟩
  | .local _ .vmem, ⟨29, _⟩ => ⟨S32x1024, .bf16⟩
  | .local _ .vmem, ⟨30, _⟩ => ⟨S32x1024, .bf16⟩
  | .local _ .vmem, ⟨31, _⟩ => ⟨S32x1024, .bf16⟩
  | .local _ .vmem, ⟨32, _⟩ => ⟨S32x1024, .bf16⟩
  | .local _ .vmem, ⟨33, _⟩ => ⟨S64x1024, .bf16⟩
  | .local _ .vmem, ⟨34, _⟩ => ⟨S64x1024, .bf16⟩
  | .local _ .vmem, ⟨35, _⟩ => ⟨S1024x1280, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63_0 : Ref sig .tc := ⟨.hbm, 76, rfl⟩
abbrev main_v63_1 : Ref sig .tc := ⟨.hbm, 77, rfl⟩
abbrev main_v63_2 : Ref sig .tc := ⟨.hbm, 78, rfl⟩
abbrev main_v63_3 : Ref sig .tc := ⟨.hbm, 79, rfl⟩
abbrev main_v63_4 : Ref sig .tc := ⟨.hbm, 80, rfl⟩
abbrev main_v63_5 : Ref sig .tc := ⟨.hbm, 81, rfl⟩
abbrev main_v63_6 : Ref sig .tc := ⟨.hbm, 82, rfl⟩
abbrev main_v63_7 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c0_i32_16 : BitVec 32 := 0#32
  let v20 : BitVec 1 := Scalar.cmpi .sgt arg0 c0_i32_16
  let v21 : BitVec 32 := Scalar.extui v20
  let c0_i32_17 : BitVec 32 := 0#32
  let v22 : BitVec 1 := Scalar.cmpi .slt arg0 c0_i32_17
  let v23 : BitVec 32 := Scalar.extui v22
  let v24 : BitVec 32 := Scalar.subi v21 v23
  let c8_i32 : BitVec 32 := 8#32
  let c0_i32_18 : BitVec 32 := 0#32
  let v25 : BitVec 1 := Scalar.cmpi .sgt c8_i32 c0_i32_18
  let v26 : BitVec 32 := Scalar.extui v25
  let c0_i32_19 : BitVec 32 := 0#32
  let v27 : BitVec 1 := Scalar.cmpi .slt c8_i32 c0_i32_19
  let v28 : BitVec 32 := Scalar.extui v27
  let v29 : BitVec 32 := Scalar.subi v26 v28
  let v30 : BitVec 1 := Scalar.cmpi .ne v24 v29
  let v31 : BitVec 32 := Scalar.remsi arg0 c8_i32
  let c0_i32_20 : BitVec 32 := 0#32
  let v32 : BitVec 1 := Scalar.cmpi .ne v31 c0_i32_20
  let v33 : BitVec 1 := Scalar.andi v30 v32
  let v19 : BitVec 32 := Scalar.divsi arg0 c8_i32
  let c1_i32 : BitVec 32 := 1#32
  let v34 : BitVec 32 := Scalar.subi v19 c1_i32
  let v35 : BitVec 32 := Scalar.select v33 v34 v19
  let v36 : Index := Scalar.indexCast v35
  let c0_21 : Index := 0#32
  ![v36.toNat, 0]
def k0_off2 (i : grid0.Coords) : Fin 2 → Nat :=
  let arg0 : BitVec 32 := BitVec.ofNat 32 (i 0).val
  let c0_i32_16 : BitVec 32 := 0#32
  let v20 : BitVec 1 := Scalar.cmpi .sgt arg0 c0_i32_16
  let v21 : BitVec 32 := Scalar.extui v20
  let c0_i32_17 : BitVec 32 := 0#32
  let v22 : BitVec 1 := Scalar.cmpi .slt arg0 c0_i32_17
  let v23 : BitVec 32 := Scalar.extui v22
  let v24 : BitVec 32 := Scalar.subi v21 v23
  let c8_i32 : BitVec 32 := 8#32
  let c0_i32_18 : BitVec 32 := 0#32
  let v25 : BitVec 1 := Scalar.cmpi .sgt c8_i32 c0_i32_18
  let v26 : BitVec 32 := Scalar.extui v25
  let c0_i32_19 : BitVec 32 := 0#32
  let v27 : BitVec 1 := Scalar.cmpi .slt c8_i32 c0_i32_19
  let v28 : BitVec 32 := Scalar.extui v27
  let v29 : BitVec 32 := Scalar.subi v26 v28
  let v30 : BitVec 1 := Scalar.cmpi .ne v24 v29
  let v31 : BitVec 32 := Scalar.remsi arg0 c8_i32
  let c0_i32_20 : BitVec 32 := 0#32
  let v32 : BitVec 1 := Scalar.cmpi .ne v31 c0_i32_20
  let v33 : BitVec 1 := Scalar.andi v30 v32
  let v19 : BitVec 32 := Scalar.divsi arg0 c8_i32
  let c1_i32 : BitVec 32 := 1#32
  let v34 : BitVec 32 := Scalar.subi v19 c1_i32
  let v35 : BitVec 32 := Scalar.select v33 v34 v19
  let v38 : Index := Scalar.indexCast v35
  let c1024 : Index := 1024#32
  ![v38.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c64_i32 : BitVec 32 := 64#32
  let v0 : BitVec 32 := Scalar.muli arg0 c64_i32
  let c1280_i32 : BitVec 32 := 1280#32
  let c0_i32 : BitVec 32 := 0#32
  ![v0.toNat, c1280_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S2x8192x1024 : Shape := ⟨3, ![2, 8192, 1024]⟩
abbrev S8x6144 : Shape := ⟨2, ![8, 6144]⟩
abbrev S1x1024 : Shape := ⟨2, ![1, 1024]⟩
abbrev S1x1024x3328 : Shape := ⟨3, ![1, 1024, 3328]⟩
abbrev S1x512x1024 : Shape := ⟨3, ![1, 512, 1024]⟩
abbrev S1x1024x1024 : Shape := ⟨3, ![1, 1024, 1024]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S16 : Shape := ⟨1, ![16]⟩
abbrev S_ : Shape := ⟨0, ![]⟩
abbrev S8192x1 : Shape := ⟨2, ![8192, 1]⟩
abbrev S1x16 : Shape := ⟨2, ![1, 16]⟩
abbrev S8192x16 : Shape := ⟨2, ![8192, 16]⟩
abbrev S8192x1x16 : Shape := ⟨3, ![8192, 1, 16]⟩
abbrev S2x6144 : Shape := ⟨2, ![2, 6144]⟩
abbrev S2x1024 : Shape := ⟨2, ![2, 1024]⟩
abbrev S2x1x1024 : Shape := ⟨3, ![2, 1, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x3328 : Shape := ⟨2, ![1024, 3328]⟩
abbrev S2x8192x3328 : Shape := ⟨3, ![2, 8192, 3328]⟩
abbrev S2x8192x512 : Shape := ⟨3, ![2, 8192, 512]⟩
abbrev S2x8192x128 : Shape := ⟨3, ![2, 8192, 128]⟩
abbrev S2x8192x8x64 : Shape := ⟨4, ![2, 8192, 8, 64]⟩
abbrev S2x8192x8x32 : Shape := ⟨4, ![2, 8192, 8, 32]⟩
abbrev S2x8192x8x16 : Shape := ⟨4, ![2, 8192, 8, 16]⟩
abbrev S1x8192x1x16 : Shape := ⟨4, ![1, 8192, 1, 16]⟩
abbrev S2x8192x2x64 : Shape := ⟨4, ![2, 8192, 2, 64]⟩
abbrev S2x8192x2x32 : Shape := ⟨4, ![2, 8192, 2, 32]⟩
abbrev S2x8192x2x16 : Shape := ⟨4, ![2, 8192, 2, 16]⟩
abbrev S16384x2x4x64 : Shape := ⟨4, ![16384, 2, 4, 64]⟩
abbrev S16384x4x2x64 : Shape := ⟨4, ![16384, 4, 2, 64]⟩
abbrev S16384x512 : Shape := ⟨2, ![16384, 512]⟩
abbrev S1024x2048 : Shape := ⟨2, ![1024, 2048]⟩
abbrev S16384x128 : Shape := ⟨2, ![16384, 128]⟩
abbrev S128x16384 : Shape := ⟨2, ![128, 16384]⟩
abbrev S512x1024 : Shape := ⟨2, ![512, 1024]⟩
abbrev S1024x1024 : Shape := ⟨2, ![1024, 1024]⟩

abbrev nBuf : Space → Nat
  | .hbm => 188
  | .vmem => 0
  | .smem => 0
  | _ => 0

abbrev hbmTy0_0 (i : Nat) : BufTy := match i % 128 with
  | 0 => ⟨S2x8192x1024, .f32⟩
  | 1 => ⟨S8x6144, .f32⟩
  | 2 => ⟨S1x1024, .f32⟩
  | 3 => ⟨S1x1024x3328, .f32⟩
  | 4 => ⟨S1x512x1024, .f32⟩
  | 5 => ⟨S1x512x1024, .f32⟩
  | 6 => ⟨S1x1024x1024, .f32⟩
  | 7 => ⟨S128, .i32⟩
  | 8 => ⟨S128x64, .i32⟩
  | 9 => ⟨S8192, .i32⟩
  | 10 => ⟨S8192, .f32⟩
  | 11 => ⟨S64, .i32⟩
  | 12 => ⟨S1x64, .i32⟩
  | 13 => ⟨S128x64, .i32⟩
  | 14 => ⟨S8192, .i32⟩
  | 15 => ⟨S8192, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S16, .f32⟩
  | 24 => ⟨S_, .f32⟩
  | 25 => ⟨S16, .f32⟩
  | 26 => ⟨S16, .f32⟩
  | 27 => ⟨S_, .f32⟩
  | 28 => ⟨S16, .f32⟩
  | 29 => ⟨S16, .f32⟩
  | 30 => ⟨S8192x1, .f32⟩
  | 31 => ⟨S1x16, .f32⟩
  | 32 => ⟨S8192x16, .f32⟩
  | 33 => ⟨S8192x16, .f32⟩
  | 34 => ⟨S8192x16, .f32⟩
  | 35 => ⟨S8192x1x16, .f32⟩
  | 36 => ⟨S8192x1, .f32⟩
  | 37 => ⟨S1x16, .f32⟩
  | 38 => ⟨S8192x16, .f32⟩
  | 39 => ⟨S8192x16, .f32⟩
  | 40 => ⟨S8192x16, .f32⟩
  | 41 => ⟨S8192x1x16, .f32⟩
  | 42 => ⟨S8192x1x16, .f32⟩
  | 43 => ⟨S8192x1x16, .f32⟩
  | 44 => ⟨S8192x1x16, .f32⟩
  | 45 => ⟨S8192x1x16, .f32⟩
  | 46 => ⟨S2x6144, .f32⟩
  | 47 => ⟨S2x1024, .f32⟩
  | 48 => ⟨S2x1024, .f32⟩
  | 49 => ⟨S2x1024, .f32⟩
  | 50 => ⟨S2x1024, .f32⟩
  | 51 => ⟨S2x1024, .f32⟩
  | 52 => ⟨S2x1024, .f32⟩
  | 53 => ⟨S2x1x1024, .f32⟩
  | 54 => ⟨S2x1x1024, .f32⟩
  | 55 => ⟨S2x1x1024, .f32⟩
  | 56 => ⟨S2x1x1024, .f32⟩
  | 57 => ⟨S2x1x1024, .f32⟩
  | 58 => ⟨S2x1x1024, .f32⟩
  | 59 => ⟨S1024, .f32⟩
  | 60 => ⟨S2x8192x1024, .f32⟩
  | 61 => ⟨S_, .f32⟩
  | 62 => ⟨S2x8192, .f32⟩
  | 63 => ⟨S2x8192x1, .f32⟩
  | 64 => ⟨S_, .f32⟩
  | 65 => ⟨S2x8192x1, .f32⟩
  | 66 => ⟨S2x8192x1, .f32⟩
  | 67 => ⟨S_, .f32⟩
  | 68 => ⟨S2x8192x1, .f32⟩
  | 69 => ⟨S2x8192x1, .f32⟩
  | 70 => ⟨S2x8192x1, .f32⟩
  | 71 => ⟨S2x8192x1024, .f32⟩
  | 72 => ⟨S2x8192x1024, .f32⟩
  | 73 => ⟨S1x1x1024, .f32⟩
  | 74 => ⟨S2x8192x1024, .f32⟩
  | 75 => ⟨S2x8192x1024, .f32⟩
  | 76 => ⟨S_, .f32⟩
  | 77 => ⟨S2x1x1024, .f32⟩
  | 78 => ⟨S2x1x1024, .f32⟩
  | 79 => ⟨S2x8192x1024, .f32⟩
  | 80 => ⟨S2x8192x1024, .f32⟩
  | 81 => ⟨S2x8192x1024, .f32⟩
  | 82 => ⟨S2x8192x1024, .f32⟩
  | 83 => ⟨S1024x3328, .f32⟩
  | 84 => ⟨S2x8192x3328, .f32⟩
  | 85 => ⟨S2x8192x512, .f32⟩
  | 86 => ⟨S2x8192x128, .f32⟩
  | 87 => ⟨S2x8192x128, .f32⟩
  | 88 => ⟨S2x8192x512, .f32⟩
  | 89 => ⟨S2x8192x1024, .f32⟩
  | 90 => ⟨S2x8192x1024, .f32⟩
  | 91 => ⟨S2x8192x8x64, .f32⟩
  | 92 => ⟨S2x8192x8x32, .f32⟩
  | 93 => ⟨S2x8192x8x32, .f32⟩
  | 94 => ⟨S2x8192x8x16, .f32⟩
  | 95 => ⟨S2x8192x8x16, .f32⟩
  | 96 => ⟨S1x8192x1x16, .f32⟩
  | 97 => ⟨S2x8192x8x16, .f32⟩
  | 98 => ⟨S2x8192x8x16, .f32⟩
  | 99 => ⟨S1x8192x1x16, .f32⟩
  | 100 => ⟨S2x8192x8x16, .f32⟩
  | 101 => ⟨S2x8192x8x16, .f32⟩
  | 102 => ⟨S2x8192x8x16, .f32⟩
  | 103 => ⟨S1x8192x1x16, .f32⟩
  | 104 => ⟨S2x8192x8x16, .f32⟩
  | 105 => ⟨S2x8192x8x16, .f32⟩
  | 106 => ⟨S1x8192x1x16, .f32⟩
  | 107 => ⟨S2x8192x8x16, .f32⟩
  | 108 => ⟨S2x8192x8x16, .f32⟩
  | 109 => ⟨S2x8192x8x16, .f32⟩
  | 110 => ⟨S2x8192x8x32, .f32⟩
  | 111 => ⟨S2x8192x8x16, .f32⟩
  | 112 => ⟨S2x8192x8x16, .f32⟩
  | 113 => ⟨S1x8192x1x16, .f32⟩
  | 114 => ⟨S2x8192x8x16, .f32⟩
  | 115 => ⟨S2x8192x8x16, .f32⟩
  | 116 => ⟨S1x8192x1x16, .f32⟩
  | 117 => ⟨S2x8192x8x16, .f32⟩
  | 118 => ⟨S2x8192x8x16, .f32⟩
  | 119 => ⟨S2x8192x8x16, .f32⟩
  | 120 => ⟨S1x8192x1x16, .f32⟩
  | 121 => ⟨S2x8192x8x16, .f32⟩
  | 122 => ⟨S2x8192x8x16, .f32⟩
  | 123 => ⟨S1x8192x1x16, .f32⟩
  | 124 => ⟨S2x8192x8x16, .f32⟩
  | 125 => ⟨S2x8192x8x16, .f32⟩
  | 126 => ⟨S2x8192x8x16, .f32⟩
  | 127 => ⟨S2x8192x8x32, .f32⟩
  | _ => ⟨S2x8192x1024, .f32⟩

abbrev hbmTy0_1 (i : Nat) : BufTy := match i % 128 with
  | 0 => ⟨S2x8192x8x64, .f32⟩
  | 1 => ⟨S2x8192x2x64, .f32⟩
  | 2 => ⟨S2x8192x2x32, .f32⟩
  | 3 => ⟨S2x8192x2x32, .f32⟩
  | 4 => ⟨S2x8192x2x16, .f32⟩
  | 5 => ⟨S2x8192x2x16, .f32⟩
  | 6 => ⟨S1x8192x1x16, .f32⟩
  | 7 => ⟨S2x8192x2x16, .f32⟩
  | 8 => ⟨S2x8192x2x16, .f32⟩
  | 9 => ⟨S1x8192x1x16, .f32⟩
  | 10 => ⟨S2x8192x2x16, .f32⟩
  | 11 => ⟨S2x8192x2x16, .f32⟩
  | 12 => ⟨S2x8192x2x16, .f32⟩
  | 13 => ⟨S1x8192x1x16, .f32⟩
  | 14 => ⟨S2x8192x2x16, .f32⟩
  | 15 => ⟨S2x8192x2x16, .f32⟩
  | 16 => ⟨S1x8192x1x16, .f32⟩
  | 17 => ⟨S2x8192x2x16, .f32⟩
  | 18 => ⟨S2x8192x2x16, .f32⟩
  | 19 => ⟨S2x8192x2x16, .f32⟩
  | 20 => ⟨S2x8192x2x32, .f32⟩
  | 21 => ⟨S2x8192x2x16, .f32⟩
  | 22 => ⟨S2x8192x2x16, .f32⟩
  | 23 => ⟨S1x8192x1x16, .f32⟩
  | 24 => ⟨S2x8192x2x16, .f32⟩
  | 25 => ⟨S2x8192x2x16, .f32⟩
  | 26 => ⟨S1x8192x1x16, .f32⟩
  | 27 => ⟨S2x8192x2x16, .f32⟩
  | 28 => ⟨S2x8192x2x16, .f32⟩
  | 29 => ⟨S2x8192x2x16, .f32⟩
  | 30 => ⟨S1x8192x1x16, .f32⟩
  | 31 => ⟨S2x8192x2x16, .f32⟩
  | 32 => ⟨S2x8192x2x16, .f32⟩
  | 33 => ⟨S1x8192x1x16, .f32⟩
  | 34 => ⟨S2x8192x2x16, .f32⟩
  | 35 => ⟨S2x8192x2x16, .f32⟩
  | 36 => ⟨S2x8192x2x16, .f32⟩
  | 37 => ⟨S2x8192x2x32, .f32⟩
  | 38 => ⟨S2x8192x2x64, .f32⟩
  | 39 => ⟨S_, .f32⟩
  | 40 => ⟨S2x8192x8x64, .f32⟩
  | 41 => ⟨S2x8192x8x64, .f32⟩
  | 42 => ⟨S16384x2x4x64, .f32⟩
  | 43 => ⟨S16384x4x2x64, .f32⟩
  | 44 => ⟨S16384x512, .f32⟩
  | 45 => ⟨S1024x2048, .f32⟩
  | 46 => ⟨S16384x512, .bf16⟩
  | 47 => ⟨S16384x128, .f32⟩
  | 48 => ⟨S16384x128, .bf16⟩
  | 49 => ⟨S16384x128, .f32⟩
  | 50 => ⟨S128x16384, .f32⟩
  | 51 => ⟨S128x16384, .bf16⟩
  | 52 => ⟨S16384x512, .f32⟩
  | 53 => ⟨S1024x2048, .bf16⟩
  | 54 => ⟨S512x1024, .f32⟩
  | 55 => ⟨S512x1024, .bf16⟩
  | 56 => ⟨S512x1024, .f32⟩
  | 57 => ⟨S512x1024, .bf16⟩
  | 58 => ⟨S1024x1024, .f32⟩
  | 59 => ⟨S1024x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_v50 : Ref sig .tc := ⟨.hbm, 62, rfl⟩
abbrev main_v51 : Ref sig .tc := ⟨.hbm, 63, rfl⟩
abbrev main_cst_4 : Ref sig .tc := ⟨.hbm, 64, rfl⟩
abbrev main_v52 : Ref sig .tc := ⟨.hbm, 65, rfl⟩
abbrev main_v53 : Ref sig .tc := ⟨.hbm, 66, rfl⟩
abbrev main_cst_5 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_cst_7 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩

abbrev nD : Nat := 1
abbrev τ : Topo := Topo.v7x

variable {F : FTy → Type} [FloatOps F]
-- ==== Kernel2.lean ====
abbrev S2x8192x1024 : Shape := ⟨3, ![2, 8192, 1024]⟩
abbrev S8x6144 : Shape := ⟨2, ![8, 6144]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024x1024 : Shape := ⟨2, ![1024, 1024]⟩
abbrev S8x1024 : Shape := ⟨2, ![8, 1024]⟩
abbrev S1024x2816 : Shape := ⟨2, ![1024, 2816]⟩
abbrev S1024x1 : Shape := ⟨2, ![1024, 1]⟩
abbrev S8 : Shape := ⟨1, ![8]⟩
abbrev S8x1 : Shape := ⟨2, ![8, 1]⟩
abbrev S1040x1024 : Shape := ⟨2, ![1040, 1024]⟩
abbrev S1024x256 : Shape := ⟨2, ![1024, 256]⟩
abbrev S1040x256 : Shape := ⟨2, ![1040, 256]⟩
abbrev S1x256 : Shape := ⟨2, ![1, 256]⟩

abbrev nBuf : Space → Nat
  | .hbm => 21
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S8x6144, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S1024x5632, .f32⟩
  | .hbm, ⟨14, _⟩ => ⟨S1024x5632, .bf16⟩
  | .hbm, ⟨15, _⟩ => ⟨S3x2816, .f32⟩
  | .hbm, ⟨16, _⟩ => ⟨S2816, .f32⟩
  | .hbm, ⟨17, _⟩ => ⟨S2816x1024, .f32⟩
  | .hbm, ⟨18, _⟩ => ⟨S2816x1024, .bf16⟩
  | .hbm, ⟨19, _⟩ => ⟨S1x2816, .f32⟩
  | .hbm, ⟨20, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x6144, .f32⟩
  | .local _ .vmem, ⟨7, _⟩ => ⟨S1x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S3x2816, .f32⟩
  | .local _ .vmem, ⟨12, _⟩ => ⟨S1x2816, .f32⟩
  | .local _ .vmem, ⟨13, _⟩ => ⟨S2816x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c0_i32_12 : BitVec 32 := 0#32
  let v29 : BitVec 1 := Scalar.cmpi .sgt arg0 c0_i32_12
  let v30 : BitVec 32 := Scalar.extui v29
  let c0_i32_13 : BitVec 32 := 0#32
  let v31 : BitVec 1 := Scalar.cmpi .slt arg0 c0_i32_13
  let v32 : BitVec 32 := Scalar.extui v31
  let v33 : BitVec 32 := Scalar.subi v30 v32
  let c8_i32_11 : BitVec 32 := 8#32
  let c0_i32_14 : BitVec 32 := 0#32
  let v34 : BitVec 1 := Scalar.cmpi .sgt c8_i32_11 c0_i32_14
  let v35 : BitVec 32 := Scalar.extui v34
  let c0_i32_15 : BitVec 32 := 0#32
  let v36 : BitVec 1 := Scalar.cmpi .slt c8_i32_11 c0_i32_15
  let v37 : BitVec 32 := Scalar.extui v36
  let v38 : BitVec 32 := Scalar.subi v35 v37
  let v39 : BitVec 1 := Scalar.cmpi .ne v33 v38
  let v40 : BitVec 32 := Scalar.remsi arg0 c8_i32_11
  let c0_i32_16 : BitVec 32 := 0#32
  let v41 : BitVec 1 := Scalar.cmpi .ne v40 c0_i32_16
  let v42 : BitVec 1 := Scalar.andi v39 v41
  let v28 : BitVec 32 := Scalar.divsi arg0 c8_i32_11
  let c1_i32_17 : BitVec 32 := 1#32
  let v43 : BitVec 32 := Scalar.subi v28 c1_i32_17
  let v44 : BitVec 32 := Scalar.select v42 v43 v28
  let v45 : Index := Scalar.indexCast v44
  let c3072 : Index := 3072#32
  ![v45.toNat, 3072]
def k0_off2 (i : grid0.Coords) : Fin 2 → Nat :=
  let arg0 : BitVec 32 := BitVec.ofNat 32 (i 0).val
  let c0_i32_12 : BitVec 32 := 0#32
  let v29 : BitVec 1 := Scalar.cmpi .sgt arg0 c0_i32_12
  let v30 : BitVec 32 := Scalar.extui v29
  let c0_i32_13 : BitVec 32 := 0#32
  let v31 : BitVec 1 := Scalar.cmpi .slt arg0 c0_i32_13
  let v32 : BitVec 32 := Scalar.extui v31
  let v33 : BitVec 32 := Scalar.subi v30 v32
  let c8_i32_11 : BitVec 32 := 8#32
  let c0_i32_14 : BitVec 32 := 0#32
  let v34 : BitVec 1 := Scalar.cmpi .sgt c8_i32_11 c0_i32_14
  let v35 : BitVec 32 := Scalar.extui v34
  let c0_i32_15 : BitVec 32 := 0#32
  let v36 : BitVec 1 := Scalar.cmpi .slt c8_i32_11 c0_i32_15
  let v37 : BitVec 32 := Scalar.extui v36
  let v38 : BitVec 32 := Scalar.subi v35 v37
  let v39 : BitVec 1 := Scalar.cmpi .ne v33 v38
  let v40 : BitVec 32 := Scalar.remsi arg0 c8_i32_11
  let c0_i32_16 : BitVec 32 := 0#32
  let v41 : BitVec 1 := Scalar.cmpi .ne v40 c0_i32_16
  let v42 : BitVec 1 := Scalar.andi v39 v41
  let v28 : BitVec 32 := Scalar.divsi arg0 c8_i32_11
  let c1_i32_17 : BitVec 32 := 1#32
  let v43 : BitVec 32 := Scalar.subi v28 c1_i32_17
  let v44 : BitVec 32 := Scalar.select v42 v43 v28
  let v47 : Index := Scalar.indexCast v44
  let c4096 : Index := 4096#32
  ![v47.toNat, 4096]
def k0_off3 (i : grid0.Coords) : Fin 2 → Nat :=
  let arg0 : BitVec 32 := BitVec.ofNat 32 (i 0).val
  let c0_i32_12 : BitVec 32 := 0#32
  let v29 : BitVec 1 := Scalar.cmpi .sgt arg0 c0_i32_12
  let v30 : BitVec 32 := Scalar.extui v29
  let c0_i32_13 : BitVec 32 := 0#32
  let v31 : BitVec 1 := Scalar.cmpi .slt arg0 c0_i32_13
  let v32 : BitVec 32 := Scalar.extui v31
  let v33 : BitVec 32 := Scalar.subi v30 v32
  let c8_i32_11 : BitVec 32 := 8#32
  let c0_i32_14 : BitVec 32 := 0#32
  let v34 : BitVec 1 := Scalar.cmpi .sgt c8_i32_11 c0_i32_14
  let v35 : BitVec 32 := Scalar.extui v34
  let c0_i32_15 : BitVec 32 := 0#32
  let v36 : BitVec 1 := Scalar.cmpi .slt c8_i32_11 c0_i32_15
  let v37 : BitVec 32 := Scalar.extui v36
  let v38 : BitVec 32 := Scalar.subi v35 v37
  let v39 : BitVec 1 := Scalar.cmpi .ne v33 v38
  let v40 : BitVec 32 := Scalar.remsi arg0 c8_i32_11
  let c0_i32_16 : BitVec 32 := 0#32
  let v41 : BitVec 1 := Scalar.cmpi .ne v40 c0_i32_16
  let v42 : BitVec 1 := Scalar.andi v39 v41
  let v28 : BitVec 32 := Scalar.divsi arg0 c8_i32_11
  let c1_i32_17 : BitVec 32 := 1#32
  let v43 : BitVec 32 := Scalar.subi v28 c1_i32_17
  let v44 : BitVec 32 := Scalar.select v42 v43 v28
  let v49 : Index := Scalar.indexCast v44
  let c5120 : Index := 5120#32
  ![v49.toNat, 5120]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c128_i32 : BitVec 32 := 128#32
  let v1 : BitVec 32 := Scalar.muli v0 c128_i32
  let c2047_i32 : BitVec 32 := 2047#32
  let v2 : BitVec 32 := Scalar.minsi v1 c2047_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x2816 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2816 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S2x8192x1024 : Shape := ⟨3, ![2, 8192, 1024]⟩
abbrev S8x6144 : Shape := ⟨2, ![8, 6144]⟩
abbrev S1x1024 : Shape := ⟨2, ![1, 1024]⟩
abbrev S1x1024x5632 : Shape := ⟨3, ![1, 1024, 5632]⟩
abbrev S1x3x2816 : Shape := ⟨3, ![1, 3, 2816]⟩
abbrev S1x2816 : Shape := ⟨2, ![1, 2816]⟩
abbrev S1x2816x1024 : Shape := ⟨3, ![1, 2816, 1024]⟩
abbrev S2x6144 : Shape := ⟨2, ![2, 6144]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S2x8192x5632 : Shape := ⟨3, ![2, 8192, 5632]⟩
abbrev S2x8192x2816 : Shape := ⟨3, ![2, 8192, 2816]⟩
abbrev S2x8194x2816 : Shape := ⟨3, ![2, 8194, 2816]⟩
abbrev S1x1x2816 : Shape := ⟨3, ![1, 1, 2816]⟩
abbrev S16384x1024 : Shape := ⟨2, ![16384, 1024]⟩

abbrev nBuf : Space → Nat
  | .hbm => 110
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S8x6144, .f32⟩
  | .hbm, ⟨2, _⟩ => ⟨S1x1024, .f32⟩
  | .hbm, ⟨3, _⟩ => ⟨S1x1024, .f32⟩
  | .hbm, ⟨4, _⟩ => ⟨S1x1024x5632, .f32⟩
  | .hbm, ⟨5, _⟩ => ⟨S1x3x2816, .f32⟩
  | .hbm, ⟨6, _⟩ => ⟨S1x2816, .f32⟩
  | .hbm, ⟨7, _⟩ => ⟨S1x2816x1024, .f32⟩
  | .hbm, ⟨8, _⟩ => ⟨S2x6144, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S1024, .f32⟩
  | .hbm, ⟨22, _⟩ => ⟨S2x8192x1024, .f32⟩
  | .hbm, ⟨23, _⟩ => ⟨S_, .f32⟩
  | .hbm, ⟨24, _⟩ => ⟨S2x8192, .f32⟩
  | .hbm, ⟨25, _⟩ => ⟨S2x8192x1, .f32⟩
  | .hbm, ⟨26, _⟩ => ⟨S_, .f32⟩
  | .hbm, ⟨27, _⟩ => ⟨S2x8192x1, .f32⟩
  | .hbm, ⟨28, _⟩ => ⟨S2x8192x1, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S1x1x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x1x1024, .f32⟩
  | .hbm, ⟨40, _⟩ => ⟨S2x1x1024, .f32⟩
  | .hbm, ⟨41, _⟩ => ⟨S2x8192x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S1024x5632, .f32⟩
  | .hbm, ⟨46, _⟩ => ⟨S3x2816, .f32⟩
  | .hbm, ⟨47, _⟩ => ⟨S2816, .f32⟩
  | .hbm, ⟨48, _⟩ => ⟨S2816x1024, .f32⟩
  | .hbm, ⟨49, _⟩ => ⟨S2x8192x5632, .f32⟩
  | .hbm, ⟨50, _⟩ => ⟨S2x8192x2816, .f32⟩
  | .hbm, ⟨51, _⟩ => ⟨S2x8192x2816, .f32⟩
  | .hbm, ⟨52, _⟩ => ⟨S_, .i32⟩
  | .hbm, ⟨53, _⟩ => ⟨S_, .f32⟩
  | .hbm, ⟨54, _⟩ => ⟨S2x8194x2816, .f32⟩
  | .hbm, ⟨55, _⟩ => ⟨S2x8192x2816, .f32⟩
  | .hbm, ⟨56, _⟩ => ⟨S1x2816, .f32⟩
  | .hbm, ⟨57, _⟩ => ⟨S2816, .f32⟩
  | .hbm, ⟨58, _⟩ => ⟨S1x1x2816, .f32⟩
  | .hbm, ⟨59, _⟩ => ⟨S2x8192x2816, .f32⟩
  | .hbm, ⟨60, _⟩ => ⟨S2x8192x2816, .f32⟩
  | .hbm, ⟨61, _⟩ => ⟨S2x8192x2816, .f32⟩
  | .hbm, ⟨62, _⟩ => ⟨S1x2816, .f32⟩
  | .hbm, ⟨63, _⟩ => ⟨S2816, .f32⟩
  | .hbm, ⟨64, _⟩ => ⟨S1x1x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x2816, .f32⟩
  | .hbm, ⟨69, _⟩ => ⟨S1x2816, .f32⟩
  | .hbm, ⟨70, _⟩ => ⟨S2816, .f32⟩
  | .hbm, ⟨71, _⟩ => ⟨S1x1x2816, .f32⟩
  | .hbm, ⟨72, _⟩ => ⟨S2x8192x2816, .f32⟩
  | .hbm, ⟨73, _⟩ => ⟨S2x8192x2816, .f32⟩
  | .hbm, ⟨74, _⟩ => ⟨S2x8192x2816, .f32⟩
  | .hbm, ⟨75, _⟩ => ⟨S1x1x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S2x8192x2816, .f32⟩
  | .hbm, ⟨80, _⟩ => ⟨S_, .f32⟩
  | .hbm, ⟨81, _⟩ => ⟨S2x8192x2816, .f32⟩
  | .hbm, ⟨82, _⟩ => ⟨S2x8192x2816, .f32⟩
  | .hbm, ⟨83, _⟩ => ⟨S_, .f32⟩
  | .hbm, ⟨84, _⟩ => ⟨S2x8192x2816, .f32⟩
  | .hbm, ⟨85, _⟩ => ⟨S2x8192x2816, .f32⟩
  | .hbm, ⟨86, _⟩ => ⟨S2x8192x2816, .f32⟩
  | .hbm, ⟨87, _⟩ => ⟨S2x8192x2816, .f32⟩
  | .hbm, ⟨88, _⟩ => ⟨S2x8192x1024, .f32⟩
  | .hbm, ⟨89, _⟩ => ⟨S1024, .f32⟩
  | .hbm, ⟨90, _⟩ => ⟨S2x8192x1024, .f32⟩
  | .hbm, ⟨91, _⟩ => ⟨S_, .f32⟩
  | .hbm, ⟨92, _⟩ => ⟨S2x8192, .f32⟩
  | .hbm, ⟨93, _⟩ => ⟨S2x8192x1, .f32⟩
  | .hbm, ⟨94, _⟩ => ⟨S_, .f32⟩
  | .hbm, ⟨95, _⟩ => ⟨S2x8192x1, .f32⟩
  | .hbm, ⟨96, _⟩ => ⟨S2x8192x1, .f32⟩
  | .hbm, ⟨97, _⟩ => ⟨S_, .f32⟩
  | .hbm, ⟨98, _⟩ => ⟨S2x8192x1, .f32⟩
  | .hbm, ⟨99, _⟩ => ⟨S2x8192x1, .f32⟩
  | .hbm, ⟨100, _⟩ => ⟨S2x8192x1, .f32⟩
  | .hbm, ⟨101, _⟩ => ⟨S2x8192x1024, .f32⟩
  | .hbm, ⟨102, _⟩ => ⟨S2x8192x1024, .f32⟩
  | .hbm, ⟨103, _⟩ => ⟨S1x1x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S2x8192x1024, .f32⟩
  | .hbm, ⟨108, _⟩ => ⟨S2x8192x1024, .f32⟩
  | .hbm, ⟨109, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_call0_v0 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_3 : Ref sig .tc := ⟨.hbm, 91, rfl⟩
abbrev main_v69 : Ref sig .tc := ⟨.hbm, 92, rfl⟩
abbrev main_v70 : Ref sig .tc := ⟨.hbm, 93, rfl⟩
abbrev main_cst_4 : Ref sig .tc := ⟨.hbm, 94, rfl⟩
abbrev main_v71 : Ref sig .tc := ⟨.hbm, 95, rfl⟩
abbrev main_v72 : Ref sig .tc := ⟨.hbm, 96, rfl⟩
abbrev main_cst_5 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== Kernel3.lean ====
abbrev S2x8192x1024 : Shape := ⟨3, ![2, 8192, 1024]⟩
abbrev S16384x512 : Shape := ⟨2, ![16384, 512]⟩
abbrev S8x6144 : Shape := ⟨2, ![8, 6144]⟩
abbrev S1x1024 : Shape := ⟨2, ![1, 1024]⟩
abbrev S1x1024x3328 : Shape := ⟨3, ![1, 1024, 3328]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1024 : Shape := ⟨1, ![1024]⟩
abbrev S16384x1024 : Shape := ⟨2, ![16384, 1024]⟩
abbrev S1024x3328 : Shape := ⟨2, ![1024, 3328]⟩
abbrev S1024x2048 : Shape := ⟨2, ![1024, 2048]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1024x512 : Shape := ⟨2, ![1024, 512]⟩
abbrev S64x5632 : Shape := ⟨2, ![64, 5632]⟩
abbrev S176x1024 : Shape := ⟨2, ![176, 1024]⟩
abbrev S1024x1 : Shape := ⟨2, ![1024, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 31
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S8x6144, .f32⟩
  | .hbm, ⟨4, _⟩ => ⟨S1x1024, .f32⟩
  | .hbm, ⟨5, _⟩ => ⟨S1x1024, .f32⟩
  | .hbm, ⟨6, _⟩ => ⟨S1x1024x3328, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024x5632, .f32⟩
  | .hbm, ⟨11, _⟩ => ⟨S1x2816x1024, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S16384x1024, .f32⟩
  | .hbm, ⟨17, _⟩ => ⟨S1024x3328, .f32⟩
  | .hbm, ⟨18, _⟩ => ⟨S1024x2048, .f32⟩
  | .hbm, ⟨19, _⟩ => ⟨S1024x2048, .bf16⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1024x1024, .f32⟩
  | .hbm, ⟨25, _⟩ => ⟨S1024x1024, .bf16⟩
  | .hbm, ⟨26, _⟩ => ⟨S1024x5632, .f32⟩
  | .hbm, ⟨27, _⟩ => ⟨S2816x1024, .f32⟩
  | .hbm, ⟨28, _⟩ => ⟨S16384x1024, .f32⟩
  | .hbm, ⟨29, _⟩ => ⟨S1024x5632, .bf16⟩
  | .hbm, ⟨30, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S8x6144, .f32⟩
  | .local _ .vmem, ⟨7, _⟩ => ⟨S1x1024, .f32⟩
  | .local _ .vmem, ⟨8, _⟩ => ⟨S1x1024, .f32⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S64x5632, .f32⟩
  | .local _ .vmem, ⟨14, _⟩ => ⟨S64x5632, .f32⟩
  | .local _ .vmem, ⟨15, _⟩ => ⟨S176x1024, .f32⟩
  | .local _ .vmem, ⟨16, _⟩ => ⟨S176x1024, .f32⟩
  | .local _ .vmem, ⟨17, _⟩ => ⟨S1024x1024, .f32⟩
  | .local _ .vmem, ⟨18, _⟩ => ⟨S1024x1024, .f32⟩
  | .local _ .vmem, ⟨19, _⟩ => ⟨S64x5632, .bf16⟩
  | .local _ .vmem, ⟨20, _⟩ => ⟨S64x5632, .bf16⟩
  | .local _ .vmem, ⟨21, _⟩ => ⟨S176x1024, .bf16⟩
  | .local _ .vmem, ⟨22, _⟩ => ⟨S176x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c0_i32 : BitVec 32 := 0#32
  let v11 : BitVec 1 := Scalar.cmpi .sgt arg0 c0_i32
  let v12 : BitVec 32 := Scalar.extui v11
  let c0_i32_9 : BitVec 32 := 0#32
  let v13 : BitVec 1 := Scalar.cmpi .slt arg0 c0_i32_9
  let v14 : BitVec 32 := Scalar.extui v13
  let v15 : BitVec 32 := Scalar.subi v12 v14
  let c8_i32 : BitVec 32 := 8#32
  let c0_i32_10 : BitVec 32 := 0#32
  let v16 : BitVec 1 := Scalar.cmpi .sgt c8_i32 c0_i32_10
  let v17 : BitVec 32 := Scalar.extui v16
  let c0_i32_11 : BitVec 32 := 0#32
  let v18 : BitVec 1 := Scalar.cmpi .slt c8_i32 c0_i32_11
  let v19 : BitVec 32 := Scalar.extui v18
  let v20 : BitVec 32 := Scalar.subi v17 v19
  let v21 : BitVec 1 := Scalar.cmpi .ne v15 v20
  let v22 : BitVec 32 := Scalar.remsi arg0 c8_i32
  let c0_i32_12 : BitVec 32 := 0#32
  let v23 : BitVec 1 := Scalar.cmpi .ne v22 c0_i32_12
  let v24 : BitVec 1 := Scalar.andi v21 v23
  let v10 : BitVec 32 := Scalar.divsi arg0 c8_i32
  let c1_i32 : BitVec 32 := 1#32
  let v25 : BitVec 32 := Scalar.subi v10 c1_i32
  let v26 : BitVec 32 := Scalar.select v24 v25 v10
  let v27 : Index := Scalar.indexCast v26
  let c0_13 : Index := 0#32
  ![v27.toNat, 0]
def k0_off2 (i : grid0.Coords) : Fin 2 → Nat :=
  let arg0 : BitVec 32 := BitVec.ofNat 32 (i 0).val
  let c0_i32 : BitVec 32 := 0#32
  let v11 : BitVec 1 := Scalar.cmpi .sgt arg0 c0_i32
  let v12 : BitVec 32 := Scalar.extui v11
  let c0_i32_9 : BitVec 32 := 0#32
  let v13 : BitVec 1 := Scalar.cmpi .slt arg0 c0_i32_9
  let v14 : BitVec 32 := Scalar.extui v13
  let v15 : BitVec 32 := Scalar.subi v12 v14
  let c8_i32 : BitVec 32 := 8#32
  let c0_i32_10 : BitVec 32 := 0#32
  let v16 : BitVec 1 := Scalar.cmpi .sgt c8_i32 c0_i32_10
  let v17 : BitVec 32 := Scalar.extui v16
  let c0_i32_11 : BitVec 32 := 0#32
  let v18 : BitVec 1 := Scalar.cmpi .slt c8_i32 c0_i32_11
  let v19 : BitVec 32 := Scalar.extui v18
  let v20 : BitVec 32 := Scalar.subi v17 v19
  let v21 : BitVec 1 := Scalar.cmpi .ne v15 v20
  let v22 : BitVec 32 := Scalar.remsi arg0 c8_i32
  let c0_i32_12 : BitVec 32 := 0#32
  let v23 : BitVec 1 := Scalar.cmpi .ne v22 c0_i32_12
  let v24 : BitVec 1 := Scalar.andi v21 v23
  let v10 : BitVec 32 := Scalar.divsi arg0 c8_i32
  let c1_i32 : BitVec 32 := 1#32
  let v25 : BitVec 32 := Scalar.subi v10 c1_i32
  let v26 : BitVec 32 := Scalar.select v24 v25 v10
  let v29 : Index := Scalar.indexCast v26
  let c1024 : Index := 1024#32
  ![v29.toNat, 1024]
def k0_off3 (i : grid0.Coords) : Fin 2 → Nat :=
  let arg0 : BitVec 32 := BitVec.ofNat 32 (i 0).val
  let c0_i32 : BitVec 32 := 0#32
  let v11 : BitVec 1 := Scalar.cmpi .sgt arg0 c0_i32
  let v12 : BitVec 32 := Scalar.extui v11
  let c0_i32_9 : BitVec 32 := 0#32
  let v13 : BitVec 1 := Scalar.cmpi .slt arg0 c0_i32_9
  let v14 : BitVec 32 := Scalar.extui v13
  let v15 : BitVec 32 := Scalar.subi v12 v14
  let c8_i32 : BitVec 32 := 8#32
  let c0_i32_10 : BitVec 32 := 0#32
  let v16 : BitVec 1 := Scalar.cmpi .sgt c8_i32 c0_i32_10
  let v17 : BitVec 32 := Scalar.extui v16
  let c0_i32_11 : BitVec 32 := 0#32
  let v18 : BitVec 1 := Scalar.cmpi .slt c8_i32 c0_i32_11
  let v19 : BitVec 32 := Scalar.extui v18
  let v20 : BitVec 32 := Scalar.subi v17 v19
  let v21 : BitVec 1 := Scalar.cmpi .ne v15 v20
  let v22 : BitVec 32 := Scalar.remsi arg0 c8_i32
  let c0_i32_12 : BitVec 32 := 0#32
  let v23 : BitVec 1 := Scalar.cmpi .ne v22 c0_i32_12
  let v24 : BitVec 1 := Scalar.andi v21 v23
  let v10 : BitVec 32 := Scalar.divsi arg0 c8_i32
  let c1_i32 : BitVec 32 := 1#32
  let v25 : BitVec 32 := Scalar.subi v10 c1_i32
  let v26 : BitVec 32 := Scalar.select v24 v25 v10
  let v31 : Index := Scalar.indexCast v26
  let c2048 : Index := 2048#32
  ![v31.toNat, 2048]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S2x8192x1024 : Shape := ⟨3, ![2, 8192, 1024]⟩
abbrev S16384x512 : Shape := ⟨2, ![16384, 512]⟩
abbrev S8x6144 : Shape := ⟨2, ![8, 6144]⟩
abbrev S1x1024 : Shape := ⟨2, ![1, 1024]⟩
abbrev S1x1024x3328 : Shape := ⟨3, ![1, 1024, 3328]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S2x6144 : Shape := ⟨2, ![2, 6144]⟩
abbrev S2x1024 : Shape := ⟨2, ![2, 1024]⟩
abbrev S2x1x1024 : Shape := ⟨3, ![2, 1, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3328 : Shape := ⟨2, ![1024, 3328]⟩
abbrev S2x8192x3328 : Shape := ⟨3, ![2, 8192, 3328]⟩
abbrev S2x8192x512 : Shape := ⟨3, ![2, 8192, 512]⟩
abbrev S2x8192x128 : Shape := ⟨3, ![2, 8192, 128]⟩
abbrev S512x1024 : Shape := ⟨2, ![512, 1024]⟩
abbrev S1024x1024 : Shape := ⟨2, ![1024, 1024]⟩
abbrev S16384x1024 : Shape := ⟨2, ![16384, 1024]⟩
abbrev S1024x5632 : Shape := ⟨2, ![1024, 5632]⟩
abbrev S2816x1024 : Shape := ⟨2, ![2816, 1024]⟩

abbrev nBuf : Space → Nat
  | .hbm => 111
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S8x6144, .f32⟩
  | .hbm, ⟨4, _⟩ => ⟨S1x1024, .f32⟩
  | .hbm, ⟨5, _⟩ => ⟨S1x1024, .f32⟩
  | .hbm, ⟨6, _⟩ => ⟨S1x1024x3328, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S1x1024x5632, .f32⟩
  | .hbm, ⟨11, _⟩ => ⟨S1x2816x1024, .f32⟩
  | .hbm, ⟨12, _⟩ => ⟨S2x6144, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x1024, .f32⟩
  | .hbm, ⟨38, _⟩ => ⟨S2x8192x1024, .f32⟩
  | .hbm, ⟨39, _⟩ => ⟨S1x1x1024, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x1x1024, .f32⟩
  | .hbm, ⟨44, _⟩ => ⟨S2x1x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S1024x3328, .f32⟩
  | .hbm, ⟨50, _⟩ => ⟨S2x8192x3328, .f32⟩
  | .hbm, ⟨51, _⟩ => ⟨S2x8192x512, .f32⟩
  | .hbm, ⟨52, _⟩ => ⟨S2x8192x128, .f32⟩
  | .hbm, ⟨53, _⟩ => ⟨S2x8192x128, .f32⟩
  | .hbm, ⟨54, _⟩ => ⟨S2x8192x512, .f32⟩
  | .hbm, ⟨55, _⟩ => ⟨S2x8192x1024, .f32⟩
  | .hbm, ⟨56, _⟩ => ⟨S2x8192x1024, .f32⟩
  | .hbm, ⟨57, _⟩ => ⟨S16384x512, .f32⟩
  | .hbm, ⟨58, _⟩ => ⟨S2x8192x512, .f32⟩
  | .hbm, ⟨59, _⟩ => ⟨S16384x512, .f32⟩
  | .hbm, ⟨60, _⟩ => ⟨S2x8192x512, .f32⟩
  | .hbm, ⟨61, _⟩ => ⟨S512x1024, .f32⟩
  | .hbm, ⟨62, _⟩ => ⟨S512x1024, .f32⟩
  | .hbm, ⟨63, _⟩ => ⟨S1024x1024, .f32⟩
  | .hbm, ⟨64, _⟩ => ⟨S2x8192x1024, .f32⟩
  | .hbm, ⟨65, _⟩ => ⟨S2x8192x1024, .f32⟩
  | .hbm, ⟨66, _⟩ => ⟨S_, .f32⟩
  | .hbm, ⟨67, _⟩ => ⟨S2x8192x1024, .f32⟩
  | .hbm, ⟨68, _⟩ => ⟨S2x8192x1024, .f32⟩
  | .hbm, ⟨69, _⟩ => ⟨S_, .f32⟩
  | .hbm, ⟨70, _⟩ => ⟨S2x8192x1024, .f32⟩
  | .hbm, ⟨71, _⟩ => ⟨S2x8192x1024, .f32⟩
  | .hbm, ⟨72, _⟩ => ⟨S2x8192x1024, .f32⟩
  | .hbm, ⟨73, _⟩ => ⟨S2x8192x1024, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x8192x1024, .f32⟩
  | .hbm, ⟨78, _⟩ => ⟨S2x8192x1024, .f32⟩
  | .hbm, ⟨79, _⟩ => ⟨S_, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | .hbm, ⟨84, _⟩ => ⟨S2x8192x1024, .f32⟩
  | .hbm, ⟨85, _⟩ => ⟨S2x8192x1024, .f32⟩
  | .hbm, ⟨86, _⟩ => ⟨S1024, .f32⟩
  | .hbm, ⟨87, _⟩ => ⟨S2x8192x1024, .f32⟩
  | .hbm, ⟨88, _⟩ => ⟨S_, .f32⟩
  | .hbm, ⟨89, _⟩ => ⟨S2x8192, .f32⟩
  | .hbm, ⟨90, _⟩ => ⟨S2x8192x1, .f32⟩
  | .hbm, ⟨91, _⟩ => ⟨S_, .f32⟩
  | .hbm, ⟨92, _⟩ => ⟨S2x8192x1, .f32⟩
  | .hbm, ⟨93, _⟩ => ⟨S2x8192x1, .f32⟩
  | .hbm, ⟨94, _⟩ => ⟨S_, .f32⟩
  | .hbm, ⟨95, _⟩ => ⟨S2x8192x1, .f32⟩
  | .hbm, ⟨96, _⟩ => ⟨S2x8192x1, .f32⟩
  | .hbm, ⟨97, _⟩ => ⟨S2x8192x1, .f32⟩
  | .hbm, ⟨98, _⟩ => ⟨S2x8192x1024, .f32⟩
  | .hbm, ⟨99, _⟩ => ⟨S2x8192x1024, .f32⟩
  | .hbm, ⟨100, _⟩ => ⟨S1x1x1024, .f32⟩
  | .hbm, ⟨101, _⟩ => ⟨S2x8192x1024, .f32⟩
  | .hbm, ⟨102, _⟩ => ⟨S2x8192x1024, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S16384x1024, .f32⟩
  | .hbm, ⟨107, _⟩ => ⟨S1024x5632, .f32⟩
  | .hbm, ⟨108, _⟩ => ⟨S1024x5632, .bf16⟩
  | .hbm, ⟨109, _⟩ => ⟨S2816x1024, .f32⟩
  | .hbm, ⟨110, _⟩ => ⟨S2816x1024, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_5 : Ref sig .tc := ⟨.hbm, 76, rfl⟩
abbrev main_v58 : Ref sig .tc := ⟨.hbm, 77, rfl⟩
abbrev main_v59 : Ref sig .tc := ⟨.hbm, 78, rfl⟩
abbrev main_cst_6 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_7 : Ref sig .tc := ⟨.hbm, 88, rfl⟩
abbrev main_v68 : Ref sig .tc := ⟨.hbm, 89, rfl⟩
abbrev main_v69 : Ref sig .tc := ⟨.hbm, 90, rfl⟩
abbrev main_cst_8 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Kernel4.lean ====
abbrev S2x256x1024 : Shape := ⟨3, ![2, 256, 1024]⟩
abbrev S8x6144 : Shape := ⟨2, ![8, 6144]⟩
abbrev S1x1024 : Shape := ⟨2, ![1, 1024]⟩
abbrev S1x1024x3328 : Shape := ⟨3, ![1, 1024, 3328]⟩
abbrev S1024 : Shape := ⟨1, ![1024]⟩
abbrev S512x1024 : Shape := ⟨2, ![512, 1024]⟩
abbrev S1024x3328 : Shape := ⟨2, ![1024, 3328]⟩
abbrev S512x128 : Shape := ⟨2, ![512, 128]⟩
abbrev S128x512 : Shape := ⟨2, ![128, 512]⟩
abbrev S256x1024 : Shape := ⟨2, ![256, 1024]⟩
abbrev S1024x256 : Shape := ⟨2, ![1024, 256]⟩
abbrev S256x128 : Shape := ⟨2, ![256, 128]⟩
abbrev S128x256 : Shape := ⟨2, ![128, 256]⟩
abbrev S256 : Shape := ⟨1, ![256]⟩
abbrev S256x1 : Shape := ⟨2, ![256, 1]⟩
abbrev S256x256 : Shape := ⟨2, ![256, 256]⟩

abbrev nBuf : Space → Nat
  | .hbm => 10
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S8x6144, .f32⟩
  | .hbm, ⟨2, _⟩ => ⟨S1x1024, .f32⟩
  | .hbm, ⟨3, _⟩ => ⟨S1x1024x3328, .f32⟩
  | .hbm, ⟨4, _⟩ => ⟨S1024, .f32⟩
  | .hbm, ⟨5, _⟩ => ⟨S1x1024, .f32⟩
  | .hbm, ⟨6, _⟩ => ⟨S512x1024, .f32⟩
  | .hbm, ⟨7, _⟩ => ⟨S1024x3328, .f32⟩
  | .hbm, ⟨8, _⟩ => ⟨S512x128, .bf16⟩
  | .hbm, ⟨9, _⟩ => ⟨S128x512, .bf16⟩
  | .local _ .vmem, ⟨0, _⟩ => ⟨S256x1024, .f32⟩
  | .local _ .vmem, ⟨1, _⟩ => ⟨S256x1024, .f32⟩
  | .local _ .vmem, ⟨2, _⟩ => ⟨S8x6144, .f32⟩
  | .local _ .vmem, ⟨3, _⟩ => ⟨S1x1024, .f32⟩
  | .local _ .vmem, ⟨4, _⟩ => ⟨S1024x256, .f32⟩
  | .local _ .vmem, ⟨5, _⟩ => ⟨S256x128, .bf16⟩
  | .local _ .vmem, ⟨6, _⟩ => ⟨S256x128, .bf16⟩
  | .local _ .vmem, ⟨7, _⟩ => ⟨S128x256, .bf16⟩
  | .local _ .vmem, ⟨8, _⟩ => ⟨S128x256, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x256x1024 : Shape := ⟨3, ![2, 256, 1024]⟩
abbrev S8x6144 : Shape := ⟨2, ![8, 6144]⟩
abbrev S1x1024 : Shape := ⟨2, ![1, 1024]⟩
abbrev S1x1024x3328 : Shape := ⟨3, ![1, 1024, 3328]⟩
abbrev S1x6144 : Shape := ⟨2, ![1, 6144]⟩
abbrev S6144 : Shape := ⟨1, ![6144]⟩
abbrev S1024 : Shape := ⟨1, ![1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S1x1024x768 : Shape := ⟨3, ![1, 1024, 768]⟩
abbrev S1024x768 : Shape := ⟨2, ![1024, 768]⟩
abbrev S2x256x768 : Shape := ⟨3, ![2, 256, 768]⟩
abbrev S2x256x128 : Shape := ⟨3, ![2, 256, 128]⟩
abbrev S512x128 : Shape := ⟨2, ![512, 128]⟩
abbrev S128x512 : Shape := ⟨2, ![128, 512]⟩

abbrev nBuf : Space → Nat
  | .hbm => 48
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S8x6144, .f32⟩
  | .hbm, ⟨2, _⟩ => ⟨S1x1024, .f32⟩
  | .hbm, ⟨3, _⟩ => ⟨S1x1024x3328, .f32⟩
  | .hbm, ⟨4, _⟩ => ⟨S1x6144, .f32⟩
  | .hbm, ⟨5, _⟩ => ⟨S6144, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S2x256x1024, .f32⟩
  | .hbm, ⟨14, _⟩ => ⟨S_, .f32⟩
  | .hbm, ⟨15, _⟩ => ⟨S2x256, .f32⟩
  | .hbm, ⟨16, _⟩ => ⟨S2x256x1, .f32⟩
  | .hbm, ⟨17, _⟩ => ⟨S_, .f32⟩
  | .hbm, ⟨18, _⟩ => ⟨S2x256x1, .f32⟩
  | .hbm, ⟨19, _⟩ => ⟨S2x256x1, .f32⟩
  | .hbm, ⟨20, _⟩ => ⟨S_, .f32⟩
  | .hbm, ⟨21, _⟩ => ⟨S2x256x1, .f32⟩
  | .hbm, ⟨22, _⟩ => ⟨S2x256x1, .f32⟩
  | .hbm, ⟨23, _⟩ => ⟨S2x256x1, .f32⟩
  | .hbm, ⟨24, _⟩ => ⟨S2x256x1024, .f32⟩
  | .hbm, ⟨25, _⟩ => ⟨S2x256x1024, .f32⟩
  | .hbm, ⟨26, _⟩ => ⟨S1x1x1024, .f32⟩
  | .hbm, ⟨27, _⟩ => ⟨S2x256x1024, .f32⟩
  | .hbm, ⟨28, _⟩ => ⟨S2x256x1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1x1024, .f32⟩
  | .hbm, ⟨33, _⟩ => ⟨S2x256x1024, .f32⟩
  | .hbm, ⟨34, _⟩ => ⟨S2x256x1024, .f32⟩
  | .hbm, ⟨35, _⟩ => ⟨S1x1x1024, .f32⟩
  | .hbm, ⟨36, _⟩ => ⟨S2x256x1024, .f32⟩
  | .hbm, ⟨37, _⟩ => ⟨S2x256x1024, .f32⟩
  | .hbm, ⟨38, _⟩ => ⟨S1x1024x768, .f32⟩
  | .hbm, ⟨39, _⟩ => ⟨S1024x768, .f32⟩
  | .hbm, ⟨40, _⟩ => ⟨S2x256x768, .f32⟩
  | .hbm, ⟨41, _⟩ => ⟨S2x256x128, .f32⟩
  | .hbm, ⟨42, _⟩ => ⟨S512x128, .f32⟩
  | .hbm, ⟨43, _⟩ => ⟨S2x256x128, .f32⟩
  | .hbm, ⟨44, _⟩ => ⟨S512x128, .f32⟩
  | .hbm, ⟨45, _⟩ => ⟨S512x128, .bf16⟩
  | .hbm, ⟨46, _⟩ => ⟨S128x512, .f32⟩
  | .hbm, ⟨47, _⟩ => ⟨S128x512, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Kernel5.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩
abbrev S8x1024 : Shape := ⟨2, ![8, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S1024x6144, .f32⟩
  | .hbm, ⟨6, _⟩ => ⟨S6144, .f32⟩
  | .hbm, ⟨7, _⟩ => ⟨S1x6144, .f32⟩
  | .hbm, ⟨8, _⟩ => ⟨S8x6144, .f32⟩
  | .local _ .vmem, ⟨0, _⟩ => ⟨S2x1024, .f32⟩
  | .local _ .vmem, ⟨1, _⟩ => ⟨S1x1024, .f32⟩
  | .local _ .vmem, ⟨2, _⟩ => ⟨S1024x1536, .f32⟩
  | .local _ .vmem, ⟨3, _⟩ => ⟨S1024x1536, .f32⟩
  | .local _ .vmem, ⟨4, _⟩ => ⟨S1x1536, .f32⟩
  | .local _ .vmem, ⟨5, _⟩ => ⟨S1x1536, .f32⟩
  | .local _ .vmem, ⟨6, _⟩ => ⟨S8x1536, .f32⟩
  | .local _ .vmem, ⟨7, _⟩ => ⟨S8x1536, .f32⟩
  | .local _ .vmem, ⟨8, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S_ : Shape := ⟨0, ![]⟩
abbrev S5x1024 : Shape := ⟨2, ![5, 1024]⟩
abbrev S1024x6144 : Shape := ⟨2, ![1024, 6144]⟩
abbrev S6144 : Shape := ⟨1, ![6144]⟩
abbrev S2x6144 : Shape := ⟨2, ![2, 6144]⟩
abbrev S5x6144 : Shape := ⟨2, ![5, 6144]⟩
abbrev S8x6144 : Shape := ⟨2, ![8, 6144]⟩

abbrev nBuf : Space → Nat
  | .hbm => 51
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S_, .f32⟩
  | .hbm, ⟨5, _⟩ => ⟨S5x1024, .f32⟩
  | .hbm, ⟨6, _⟩ => ⟨S1024x6144, .f32⟩
  | .hbm, ⟨7, _⟩ => ⟨S6144, .f32⟩
  | .hbm, ⟨8, _⟩ => ⟨S2x1024, .f32⟩
  | .hbm, ⟨9, _⟩ => ⟨S2x1024, .f32⟩
  | .hbm, ⟨10, _⟩ => ⟨S_, .f32⟩
  | .hbm, ⟨11, _⟩ => ⟨S2x1024, .f32⟩
  | .hbm, ⟨12, _⟩ => ⟨S2x1024, .f32⟩
  | .hbm, ⟨13, _⟩ => ⟨S_, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x6144, .f32⟩
  | .hbm, ⟨18, _⟩ => ⟨S1x6144, .f32⟩
  | .hbm, ⟨19, _⟩ => ⟨S2x6144, .f32⟩
  | .hbm, ⟨20, _⟩ => ⟨S2x6144, .f32⟩
  | .hbm, ⟨21, _⟩ => ⟨S1024x6144, .f32⟩
  | .hbm, ⟨22, _⟩ => ⟨S6144, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1024, .f32⟩
  | .hbm, ⟨32, _⟩ => ⟨S6144, .f32⟩
  | .hbm, ⟨33, _⟩ => ⟨S6144, .f32⟩
  | .hbm, ⟨34, _⟩ => ⟨S1x6144, .f32⟩
  | .hbm, ⟨35, _⟩ => ⟨S1024x6144, .f32⟩
  | .hbm, ⟨36, _⟩ => ⟨S6144, .f32⟩
  | .hbm, ⟨37, _⟩ => ⟨S5x1024, .f32⟩
  | .hbm, ⟨38, _⟩ => ⟨S5x1024, .f32⟩
  | .hbm, ⟨39, _⟩ => ⟨S_, .f32⟩
  | .hbm, ⟨40, _⟩ => ⟨S5x1024, .f32⟩
  | .hbm, ⟨41, _⟩ => ⟨S5x1024, .f32⟩
  | .hbm, ⟨42, _⟩ => ⟨S_, .f32⟩
  | .hbm, ⟨43, _⟩ => ⟨S5x1024, .f32⟩
  | .hbm, ⟨44, _⟩ => ⟨S5x1024, .f32⟩
  | .hbm, ⟨45, _⟩ => ⟨S5x1024, .f32⟩
  | .hbm, ⟨46, _⟩ => ⟨S5x6144, .f32⟩
  | .hbm, ⟨47, _⟩ => ⟨S1x6144, .f32⟩
  | .hbm, ⟨48, _⟩ => ⟨S5x6144, .f32⟩
  | .hbm, ⟨49, _⟩ => ⟨S5x6144, .f32⟩
  | .hbm, ⟨50, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩

abbrev nD : Nat := 1
abbrev τ : Topo := Topo.v7x

variable {F : FTy → Type} [FloatOps F]
-- ==== Kernel6.lean ====
abbrev S2x8192x8x64 : Shape := ⟨4, ![2, 8192, 8, 64]⟩
abbrev S2x8192x2x64 : Shape := ⟨4, ![2, 8192, 2, 64]⟩
abbrev S2x256x2x64 : Shape := ⟨4, ![2, 256, 2, 64]⟩
abbrev S1x8 : Shape := ⟨2, ![1, 8]⟩
abbrev S128 : Shape := ⟨1, ![128]⟩
abbrev S128x1 : Shape := ⟨2, ![128, 1]⟩
abbrev S384 : Shape := ⟨1, ![384]⟩
abbrev S1x384 : Shape := ⟨2, ![1, 384]⟩
abbrev S_ : Shape := ⟨0, ![]⟩
abbrev S128x384 : Shape := ⟨2, ![128, 384]⟩
abbrev S1x128x1x384 : Shape := ⟨4, ![1, 128, 1, 384]⟩
abbrev S4x128x1x384 : Shape := ⟨4, ![4, 128, 1, 384]⟩
abbrev S512x384 : Shape := ⟨2, ![512, 384]⟩
abbrev S1x512x384 : Shape := ⟨3, ![1, 512, 384]⟩
abbrev S3x512x384 : Shape := ⟨3, ![3, 512, 384]⟩
abbrev S16384x2x4x64 : Shape := ⟨4, ![16384, 2, 4, 64]⟩
abbrev S16384x4x2x64 : Shape := ⟨4, ![16384, 4, 2, 64]⟩
abbrev S16384x512 : Shape := ⟨2, ![16384, 512]⟩
abbrev S16384x128 : Shape := ⟨2, ![16384, 128]⟩
abbrev S512x128 : Shape := ⟨2, ![512, 128]⟩
abbrev S8 : Shape := ⟨1, ![8]⟩
abbrev S128x512 : Shape := ⟨2, ![128, 512]⟩
abbrev S128x128 : Shape := ⟨2, ![128, 128]⟩
abbrev S256x128 : Shape := ⟨2, ![256, 128]⟩
abbrev S640x128 : Shape := ⟨2, ![640, 128]⟩
abbrev S512x640 : Shape := ⟨2, ![512, 640]⟩
abbrev S512x256 : Shape := ⟨2, ![512, 256]⟩
abbrev S1 : Shape := ⟨1, ![1]⟩
abbrev S512x1 : Shape := ⟨2, ![512, 1]⟩
abbrev S512 : Shape := ⟨1, ![512]⟩

abbrev nBuf : Space → Nat
  | .hbm => 78
  | .vmem => 22
  | .smem => 1
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S2x256x2x64, .f32⟩
  | .hbm, ⟨4, _⟩ => ⟨S2x256x2x64, .f32⟩
  | .hbm, ⟨5, _⟩ => ⟨S1x8, .f32⟩
  | .hbm, ⟨6, _⟩ => ⟨S128, .i32⟩
  | .hbm, ⟨7, _⟩ => ⟨S128x1, .i32⟩
  | .hbm, ⟨8, _⟩ => ⟨S384, .i32⟩
  | .hbm, ⟨9, _⟩ => ⟨S1x384, .i32⟩
  | .hbm, ⟨10, _⟩ => ⟨S_, .i32⟩
  | .hbm, ⟨11, _⟩ => ⟨S1x384, .i32⟩
  | .hbm, ⟨12, _⟩ => ⟨S1x384, .i32⟩
  | .hbm, ⟨13, _⟩ => ⟨S128x384, .i32⟩
  | .hbm, ⟨14, _⟩ => ⟨S128x384, .i32⟩
  | .hbm, ⟨15, _⟩ => ⟨S128x384, .i32⟩
  | .hbm, ⟨16, _⟩ => ⟨S128x384, .i32⟩
  | .hbm, ⟨17, _⟩ => ⟨S_, .i32⟩
  | .hbm, ⟨18, _⟩ => ⟨S128x384, .i32⟩
  | .hbm, ⟨19, _⟩ => ⟨S128x384, .i1⟩
  | .hbm, ⟨20, _⟩ => ⟨S_, .i32⟩
  | .hbm, ⟨21, _⟩ => ⟨S1x384, .i32⟩
  | .hbm, ⟨22, _⟩ => ⟨S1x384, .i1⟩
  | .hbm, ⟨23, _⟩ => ⟨S128x384, .i1⟩
  | .hbm, ⟨24, _⟩ => ⟨S128x384, .i1⟩
  | .hbm, ⟨25, _⟩ => ⟨S_, .f32⟩
  | .hbm, ⟨26, _⟩ => ⟨S_, .f32⟩
  | .hbm, ⟨27, _⟩ => ⟨S128x384, .f32⟩
  | .hbm, ⟨28, _⟩ => ⟨S128x384, .f32⟩
  | .hbm, ⟨29, _⟩ => ⟨S128x384, .f32⟩
  | .hbm, ⟨30, _⟩ => ⟨S128x384, .f32⟩
  | .hbm, ⟨31, _⟩ => ⟨S1x128x1x384, .f32⟩
  | .hbm, ⟨32, _⟩ => ⟨S4x128x1x384, .f32⟩
  | .hbm, ⟨33, _⟩ => ⟨S512x384, .f32⟩
  | .hbm, ⟨34, _⟩ => ⟨S_, .f32⟩
  | .hbm, ⟨35, _⟩ => ⟨S_, .f32⟩
  | .hbm, ⟨36, _⟩ => ⟨S128x384, .f32⟩
  | .hbm, ⟨37, _⟩ => ⟨S128x384, .f32⟩
  | .hbm, ⟨38, _⟩ => ⟨S128x384, .f32⟩
  | .hbm, ⟨39, _⟩ => ⟨S128x384, .f32⟩
  | .hbm, ⟨40, _⟩ => ⟨S1x128x1x384, .f32⟩
  | .hbm, ⟨41, _⟩ => ⟨S4x128x1x384, .f32⟩
  | .hbm, ⟨42, _⟩ => ⟨S512x384, .f32⟩
  | .hbm, ⟨43, _⟩ => ⟨S_, .i32⟩
  | .hbm, ⟨44, _⟩ => ⟨S1x384, .i32⟩
  | .hbm, ⟨45, _⟩ => ⟨S1x384, .i1⟩
  | .hbm, ⟨46, _⟩ => ⟨S128x384, .i1⟩
  | .hbm, ⟨47, _⟩ => ⟨S128x384, .i1⟩
  | .hbm, ⟨48, _⟩ => ⟨S_, .f32⟩
  | .hbm, ⟨49, _⟩ => ⟨S_, .f32⟩
  | .hbm, ⟨50, _⟩ => ⟨S128x384, .f32⟩
  | .hbm, ⟨51, _⟩ => ⟨S128x384, .f32⟩
  | .hbm, ⟨52, _⟩ => ⟨S128x384, .f32⟩
  | .hbm, ⟨53, _⟩ => ⟨S128x384, .f32⟩
  | .hbm, ⟨54, _⟩ => ⟨S1x128x1x384, .f32⟩
  | .hbm, ⟨55, _⟩ => ⟨S4x128x1x384, .f32⟩
  | .hbm, ⟨56, _⟩ => ⟨S512x384, .f32⟩
  | .hbm, ⟨57, _⟩ => ⟨S1x512x384, .f32⟩
  | .hbm, ⟨58, _⟩ => ⟨S1x512x384, .f32⟩
  | .hbm, ⟨59, _⟩ => ⟨S1x512x384, .f32⟩
  | .hbm, ⟨60, _⟩ => ⟨S3x512x384, .f32⟩
  | .hbm, ⟨61, _⟩ => ⟨S_, .f32⟩
  | .hbm, ⟨62, _⟩ => ⟨S2x8192x8x64, .f32⟩
  | .hbm, ⟨63, _⟩ => ⟨S2x8192x8x64, .f32⟩
  | .hbm, ⟨64, _⟩ => ⟨S16384x2x4x64, .f32⟩
  | .hbm, ⟨65, _⟩ => ⟨S16384x4x2x64, .f32⟩
  | .hbm, ⟨66, _⟩ => ⟨S16384x512, .f32⟩
  | .hbm, ⟨67, _⟩ => ⟨S16384x512, .bf16⟩
  | .hbm, ⟨68, _⟩ => ⟨S16384x128, .f32⟩
  | .hbm, ⟨69, _⟩ => ⟨S16384x128, .bf16⟩
  | .hbm, ⟨70, _⟩ => ⟨S16384x128, .f32⟩
  | .hbm, ⟨71, _⟩ => ⟨S16384x128, .bf16⟩
  | .hbm, ⟨72, _⟩ => ⟨S512x128, .f32⟩
  | .hbm, ⟨73, _⟩ => ⟨S512x128, .bf16⟩
  | .hbm, ⟨74, _⟩ => ⟨S512x128, .f32⟩
  | .hbm, ⟨75, _⟩ => ⟨S512x128, .bf16⟩
  | .hbm, ⟨76, _⟩ => ⟨S8, .f32⟩
  | .hbm, ⟨77, _⟩ => ⟨S16384x512, .bf16⟩
  | .local _ .vmem, ⟨0, _⟩ => ⟨S128x512, .bf16⟩
  | .local _ .vmem, ⟨1, _⟩ => ⟨S128x512, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S1x512x384, .f32⟩
  | .local _ .vmem, ⟨19, _⟩ => ⟨S1x512x384, .f32⟩
  | .local _ .vmem, ⟨20, _⟩ => ⟨S128x512, .bf16⟩
  | .local _ .vmem, ⟨21, _⟩ => ⟨S128x512, .bf16⟩
  | .local _ .smem, ⟨0, _⟩ => ⟨S8, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_cst_7 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c63_i32 : BitVec 32 := 63#32
  let v2 : BitVec 32 := Scalar.minsi v1 c63_i32
  let v3 : BitVec 32 := Scalar.addi v0 v2
  let c0_i32 : BitVec 32 := 0#32
  let c0_i32_0 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.addi arg1 c1_i32
  let c63_i32 : BitVec 32 := 63#32
  let v2 : BitVec 32 := Scalar.minsi v1 c63_i32
  let v3 : BitVec 32 := Scalar.addi v0 v2
  let c0_i32 : BitVec 32 := 0#32
  let c0_i32_0 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c63_i32 : BitVec 32 := 63#32
  let v1 : BitVec 1 := Scalar.cmpi .eq arg1 c63_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference6Ideal.lean ====
abbrev S2x8192x8x64 : Shape := ⟨4, ![2, 8192, 8, 64]⟩
abbrev S2x8192x2x64 : Shape := ⟨4, ![2, 8192, 2, 64]⟩
abbrev S2x256x2x64 : Shape := ⟨4, ![2, 256, 2, 64]⟩
abbrev S1x8 : Shape := ⟨2, ![1, 8]⟩
abbrev S8 : Shape := ⟨1, ![8]⟩
abbrev S2x64x128x2x4x64 : Shape := ⟨6, ![2, 64, 128, 2, 4, 64]⟩
abbrev S_ : Shape := ⟨0, ![]⟩
abbrev S2x8448x2x64 : Shape := ⟨4, ![2, 8448, 2, 64]⟩
abbrev S2x66x128x2x64 : Shape := ⟨5, ![2, 66, 128, 2, 64]⟩
abbrev S2x64x128x2x64 : Shape := ⟨5, ![2, 64, 128, 2, 64]⟩
abbrev S2x64x384x2x64 : Shape := ⟨5, ![2, 64, 384, 2, 64]⟩
abbrev S2x64x2x384x128x4 : Shape := ⟨6, ![2, 64, 2, 384, 128, 4]⟩
abbrev S2x64x2x4x128x384 : Shape := ⟨6, ![2, 64, 2, 4, 128, 384]⟩
abbrev S2x2x256x64x128x4 : Shape := ⟨6, ![2, 2, 256, 64, 128, 4]⟩
abbrev S2x64x2x4x128x256 : Shape := ⟨6, ![2, 64, 2, 4, 128, 256]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S1x1x2x4x1x1 : Shape := ⟨6, ![1, 1, 2, 4, 1, 1]⟩
abbrev S2x64x2x4x128x1 : Shape := ⟨6, ![2, 64, 2, 4, 128, 1]⟩
abbrev S2x64x2x4x128x641 : Shape := ⟨6, ![2, 64, 2, 4, 128, 641]⟩
abbrev S2x64x2x4x128 : Shape := ⟨5, ![2, 64, 2, 4, 128]⟩
abbrev S2x64x2x64x4x128 : Shape := ⟨6, ![2, 64, 2, 64, 4, 128]⟩
abbrev S2x2x64x64x4x128 : Shape := ⟨6, ![2, 2, 64, 64, 4, 128]⟩
abbrev S2x8192x512 : Shape := ⟨3, ![2, 8192, 512]⟩
abbrev S16384x2x4x64 : Shape := ⟨4, ![16384, 2, 4, 64]⟩
abbrev S16384x4x2x64 : Shape := ⟨4, ![16384, 4, 2, 64]⟩
abbrev S16384x512 : Shape := ⟨2, ![16384, 512]⟩

abbrev nBuf : Space → Nat
  | .hbm => 107
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x2x64, .f32⟩
  | .hbm, ⟨2, _⟩ => ⟨S2x8192x2x64, .f32⟩
  | .hbm, ⟨3, _⟩ => ⟨S2x256x2x64, .f32⟩
  | .hbm, ⟨4, _⟩ => ⟨S2x256x2x64, .f32⟩
  | .hbm, ⟨5, _⟩ => ⟨S1x8, .f32⟩
  | .hbm, ⟨6, _⟩ => ⟨S8, .f32⟩
  | .hbm, ⟨7, _⟩ => ⟨S2x64x128x2x4x64, .f32⟩
  | .hbm, ⟨8, _⟩ => ⟨S_, .i32⟩
  | .hbm, ⟨9, _⟩ => ⟨S_, .f32⟩
  | .hbm, ⟨10, _⟩ => ⟨S2x8448x2x64, .f32⟩
  | .hbm, ⟨11, _⟩ => ⟨S2x66x128x2x64, .f32⟩
  | .hbm, ⟨12, _⟩ => ⟨S2x64x128x2x64, .f32⟩
  | .hbm, ⟨13, _⟩ => ⟨S2x64x128x2x64, .f32⟩
  | .hbm, ⟨14, _⟩ => ⟨S2x64x128x2x64, .f32⟩
  | .hbm, ⟨15, _⟩ => ⟨S2x64x384x2x64, .f32⟩
  | .hbm, ⟨16, _⟩ => ⟨S_, .i32⟩
  | .hbm, ⟨17, _⟩ => ⟨S_, .f32⟩
  | .hbm, ⟨18, _⟩ => ⟨S2x8448x2x64, .f32⟩
  | .hbm, ⟨19, _⟩ => ⟨S2x66x128x2x64, .f32⟩
  | .hbm, ⟨20, _⟩ => ⟨S2x64x128x2x64, .f32⟩
  | .hbm, ⟨21, _⟩ => ⟨S2x64x128x2x64, .f32⟩
  | .hbm, ⟨22, _⟩ => ⟨S2x64x128x2x64, .f32⟩
  | .hbm, ⟨23, _⟩ => ⟨S2x64x384x2x64, .f32⟩
  | .hbm, ⟨24, _⟩ => ⟨S2x64x2x384x128x4, .f32⟩
  | .hbm, ⟨25, _⟩ => ⟨S2x64x2x4x128x384, .f32⟩
  | .hbm, ⟨26, _⟩ => ⟨S_, .f32⟩
  | .hbm, ⟨27, _⟩ => ⟨S2x64x2x4x128x384, .f32⟩
  | .hbm, ⟨28, _⟩ => ⟨S2x64x2x4x128x384, .f32⟩
  | .hbm, ⟨29, _⟩ => ⟨S2x2x256x64x128x4, .f32⟩
  | .hbm, ⟨30, _⟩ => ⟨S2x64x2x4x128x256, .f32⟩
  | .hbm, ⟨31, _⟩ => ⟨S_, .f32⟩
  | .hbm, ⟨32, _⟩ => ⟨S2x64x2x4x128x256, .f32⟩
  | .hbm, ⟨33, _⟩ => ⟨S2x64x2x4x128x256, .f32⟩
  | .hbm, ⟨34, _⟩ => ⟨S128, .i32⟩
  | .hbm, ⟨35, _⟩ => ⟨S128x1, .i32⟩
  | .hbm, ⟨36, _⟩ => ⟨S384, .i32⟩
  | .hbm, ⟨37, _⟩ => ⟨S1x384, .i32⟩
  | .hbm, ⟨38, _⟩ => ⟨S_, .i32⟩
  | .hbm, ⟨39, _⟩ => ⟨S1x384, .i32⟩
  | .hbm, ⟨40, _⟩ => ⟨S1x384, .i32⟩
  | .hbm, ⟨41, _⟩ => ⟨S128x384, .i32⟩
  | .hbm, ⟨42, _⟩ => ⟨S128x384, .i32⟩
  | .hbm, ⟨43, _⟩ => ⟨S128x384, .i32⟩
  | .hbm, ⟨44, _⟩ => ⟨S64, .i32⟩
  | .hbm, ⟨45, _⟩ => ⟨S64x1x1, .i32⟩
  | .hbm, ⟨46, _⟩ => ⟨S_, .i32⟩
  | .hbm, ⟨47, _⟩ => ⟨S64x1x1, .i32⟩
  | .hbm, ⟨48, _⟩ => ⟨S64x1x1, .i32⟩
  | .hbm, ⟨49, _⟩ => ⟨S1x1x384, .i32⟩
  | .hbm, ⟨50, _⟩ => ⟨S64x1x384, .i32⟩
  | .hbm, ⟨51, _⟩ => ⟨S64x1x384, .i32⟩
  | .hbm, ⟨52, _⟩ => ⟨S64x1x384, .i32⟩
  | .hbm, ⟨53, _⟩ => ⟨S_, .i32⟩
  | .hbm, ⟨54, _⟩ => ⟨S64x1x384, .i32⟩
  | .hbm, ⟨55, _⟩ => ⟨S64x1x384, .i32⟩
  | .hbm, ⟨56, _⟩ => ⟨S128x384, .i32⟩
  | .hbm, ⟨57, _⟩ => ⟨S_, .i32⟩
  | .hbm, ⟨58, _⟩ => ⟨S128x384, .i32⟩
  | .hbm, ⟨59, _⟩ => ⟨S128x384, .i1⟩
  | .hbm, ⟨60, _⟩ => ⟨S1x128x384, .i1⟩
  | .hbm, ⟨61, _⟩ => ⟨S_, .i32⟩
  | .hbm, ⟨62, _⟩ => ⟨S64x1x384, .i32⟩
  | .hbm, ⟨63, _⟩ => ⟨S64x1x384, .i1⟩
  | .hbm, ⟨64, _⟩ => ⟨S64x128x384, .i1⟩
  | .hbm, ⟨65, _⟩ => ⟨S64x128x384, .i1⟩
  | .hbm, ⟨66, _⟩ => ⟨S64x128x384, .i1⟩
  | .hbm, ⟨67, _⟩ => ⟨S_, .i32⟩
  | .hbm, ⟨68, _⟩ => ⟨S64x1x384, .i32⟩
  | .hbm, ⟨69, _⟩ => ⟨S64x1x384, .i1⟩
  | .hbm, ⟨70, _⟩ => ⟨S64x128x384, .i1⟩
  | .hbm, ⟨71, _⟩ => ⟨S64x128x384, .i1⟩
  | .hbm, ⟨72, _⟩ => ⟨S1x64x1x1x128x384, .i1⟩
  | .hbm, ⟨73, _⟩ => ⟨S_, .f32⟩
  | .hbm, ⟨74, _⟩ => ⟨S_, .f32⟩
  | .hbm, ⟨75, _⟩ => ⟨S2x64x2x4x128x384, .i1⟩
  | .hbm, ⟨76, _⟩ => ⟨S2x64x2x4x128x384, .f32⟩
  | .hbm, ⟨77, _⟩ => ⟨S2x64x2x4x128x384, .f32⟩
  | .hbm, ⟨78, _⟩ => ⟨S1x1x2x4x1x1, .f32⟩
  | .hbm, ⟨79, _⟩ => ⟨S2x64x2x4x128x1, .f32⟩
  | .hbm, ⟨80, _⟩ => ⟨S2x64x2x4x128x641, .f32⟩
  | .hbm, ⟨81, _⟩ => ⟨S_, .f32⟩
  | .hbm, ⟨82, _⟩ => ⟨S2x64x2x4x128, .f32⟩
  | .hbm, ⟨83, _⟩ => ⟨S_, .f32⟩
  | .hbm, ⟨84, _⟩ => ⟨S2x64x2x4x128, .f32⟩
  | .hbm, ⟨85, _⟩ => ⟨S2x64x2x4x128, .f32⟩
  | .hbm, ⟨86, _⟩ => ⟨S2x64x2x4x128x1, .f32⟩
  | .hbm, ⟨87, _⟩ => ⟨S2x64x2x4x128x641, .f32⟩
  | .hbm, ⟨88, _⟩ => ⟨S2x64x2x4x128x641, .f32⟩
  | .hbm, ⟨89, _⟩ => ⟨S2x64x2x4x128x641, .f32⟩
  | .hbm, ⟨90, _⟩ => ⟨S_, .f32⟩
  | .hbm, ⟨91, _⟩ => ⟨S2x64x2x4x128, .f32⟩
  | .hbm, ⟨92, _⟩ => ⟨S2x64x2x4x128x1, .f32⟩
  | .hbm, ⟨93, _⟩ => ⟨S2x64x2x4x128x641, .f32⟩
  | .hbm, ⟨94, _⟩ => ⟨S2x64x2x4x128x641, .f32⟩
  | .hbm, ⟨95, _⟩ => ⟨S2x64x2x4x128x384, .f32⟩
  | .hbm, ⟨96, _⟩ => ⟨S2x64x2x4x128x256, .f32⟩
  | .hbm, ⟨97, _⟩ => ⟨S2x64x2x64x4x128, .f32⟩
  | .hbm, ⟨98, _⟩ => ⟨S2x64x128x2x4x64, .f32⟩
  | .hbm, ⟨99, _⟩ => ⟨S2x2x64x64x4x128, .f32⟩
  | .hbm, ⟨100, _⟩ => ⟨S2x64x128x2x4x64, .f32⟩
  | .hbm, ⟨101, _⟩ => ⟨S2x64x128x2x4x64, .f32⟩
  | .hbm, ⟨102, _⟩ => ⟨S2x8192x512, .f32⟩
  | .hbm, ⟨103, _⟩ => ⟨S16384x2x4x64, .f32⟩
  | .hbm, ⟨104, _⟩ => ⟨S16384x4x2x64, .f32⟩
  | .hbm, ⟨105, _⟩ => ⟨S16384x512, .f32⟩
  | .hbm, ⟨106, _⟩ => ⟨S16384x512, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_cst_10 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_11 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩

abbrev nD : Nat := 1
abbrev τ : Topo := Topo.v7x

variable {F : FTy → Type} [FloatOps F]
-- ==== Proof.InProj.Spec.lean ====
/-
  What the input projection computes, written out over the extended reals in plain coordinates: the normalized and
  modulated rows, their products with the weight's columns, and the two-axis rotation of the queries and the keys.
  Both programs are read against these definitions.
-/
module

public import Idealize.ShloMosaic.Lib.Pipeline.ValueKit
public import Idealize.ShloMosaic.Lib.Pointwise

@[expose] public section

noncomputable section

open Idealize.ShloMosaic

namespace InProj

/-- Frequency number `d` of the rotation: `10000 ^ (-2 d / 32)`. -/
def freq (d : ℕ) : EReal :=
  Ideal.pow (Ideal.ofBits FTy.f32 1176256512#32)
    (Ideal.div (-(Ideal.ofBits FTy.f32 1073741824#32 * FloatOps.sitofp (F := Ideal) FTy.f32 (BitVec.ofNat 32 d)))
      (Ideal.ofBits FTy.f32 1107296256#32))

/-- The angle at position `p` and frequency `d`. -/
def ang (p d : ℕ) : EReal := FloatOps.sitofp (F := Ideal) FTy.f32 (BitVec.ofNat 32 p) * freq d

/-- The angle of lane `d < 64` of a head at token `R`: the first 32 lanes turn with the image row, the others with the
    image column. -/
def laneAng (R d : ℕ) : EReal := if d < 32 then ang (R % 8192 / 64) (d % 16) else ang (R % 64) (d % 16)

variable (x : Fin 2 → Fin 8192 → Fin 1024 → EReal) (mods : Fin 8 → Fin 6144 → EReal) (g : Fin 1024 → EReal)
  (w : Fin 1024 → Fin 3328 → EReal)

/-- Entry `k` of token `R`'s row, normalized by its root mean square, scaled and shifted. -/
def hrow (R : Fin 16384) (k : Fin 1024) : EReal :=
  x ⟨R.val / 8192, by omega⟩ ⟨R.val % 8192, by omega⟩ k *
      Ideal.rsqrt (Ideal.div (∑ j, x ⟨R.val / 8192, by omega⟩ ⟨R.val % 8192, by omega⟩ j * x ⟨R.val / 8192, by omega⟩ ⟨R.val % 8192, by omega⟩ j)
        (Ideal.ofBits FTy.f32 1149239296#32) + Ideal.ofBits FTy.f32 897988541#32) *
      (g k * (1 + mods ⟨R.val / 8192, by omega⟩ ⟨1024 + k.val, by omega⟩))
    + mods ⟨R.val / 8192, by omega⟩ ⟨k.val, by omega⟩

/-- Token `R`'s row against column `n` of the weight. -/
def col (R : Fin 16384) (n : Fin 3328) : EReal := ∑ k, hrow x mods g R k * w k n

/-- Lane `d` of the head whose columns start at `b`, rotated. -/
def rope (R : Fin 16384) (b d : ℕ) (hb : b ≤ 3264) (hd : d < 64) : EReal :=
  col x mods g w R ⟨b + d, by omega⟩ * Ideal.cos (laneAng R.val d) +
    (if h : d % 32 < 16 then col x mods g w R ⟨b + (d + 16), by omega⟩ * (-Ideal.sin (laneAng R.val d))
     else col x mods g w R ⟨b + (d - 16), by omega⟩ * Ideal.sin (laneAng R.val d))

/-- The queries: 128-lane block `j` holds heads `j` and `4 + j` side by side, scaled. -/
def qS (R : Fin 16384) (l : Fin 512) : EReal :=
  rope x mods g w R (64 * (4 * (l.val % 128 / 64) + l.val / 128)) (l.val % 64) (by omega) (by omega)
    * Ideal.ofBits FTy.f32 1043900987#32

/-- The keys. -/
def kS (R : Fin 16384) (l : Fin 128) : EReal :=
  rope x mods g w R (512 + 64 * (l.val / 64)) (l.val % 64) (by omega) (by omega)

/-- The values, transposed. -/
def vS (l : Fin 128) (R : Fin 16384) : EReal := col x mods g w R ⟨640 + l.val, by omega⟩

/-- The Fourier branch's columns. -/
def fS (R : Fin 16384) (l : Fin 512) : EReal := col x mods g w R ⟨768 + l.val, by omega⟩

end InProj
-- ==== Proof.InProj.Blocks.lean ====
module

public import proofs.«01_k».proof.Proof.Gen.KernelIdeal.Frame
public import proofs.«01_k».proof.Proof.InProj.Spec

@[expose] public section

set_option maxRecDepth 16384

noncomputable section

open Idealize.ShloMosaic Idealize.ShloMosaic.TcCoe Idealize.SL.Sem
open Cert.KernelIdeal Cert.KernelIdeal.Gen

namespace InProj

variable (m : (ℓ : Loc nD τ sig) → Buf (Elt Ideal) ℓ)

/-- The kernel program's first argument, by coordinates. -/
abbrev xK (c : Dev nD) (b : Fin 2) (s : Fin 8192) (k : Fin 1024) : EReal := m (c, Proc.tc.devRef main_arg0) (ix3 b s k)
/-- Its modulation vectors. -/
abbrev modsK (c : Dev nD) (b : Fin 8) (k : Fin 6144) : EReal := m (c, Proc.tc.devRef main_arg1) (ix2 b k)
/-- Its gain vector. -/
abbrev gK (c : Dev nD) (k : Fin 1024) : EReal := m (c, Proc.tc.devRef main_arg2) (ix2 0 k)
/-- Its input weight. -/
abbrev wK (c : Dev nD) (k : Fin 1024) (n : Fin 3328) : EReal := m (c, Proc.tc.devRef main_arg3) (ix3 0 k n)

/-- Block `t` of the activations holds the tokens `1024 t, …, 1024 t + 1023`. -/
theorem blk0 (c : Dev nD) (t : Fin cfg0.N) (a l : Fin 1024) (R : Fin 16384) (hR : R.val = 1024 * t.val + a.val) :
    iblk m c 0 t (ix2 a l) = xK m c ⟨R.val / 8192, by omega⟩ ⟨R.val % 8192, by omega⟩ l := by
  have hi : win0_0.index t = ![t.val, 0] := (show ∀ t : Fin cfg0.N, win0_0.index t = ![t.val, 0] by decide +kernel) t
  have ht : t.val < 16 := t.isLt
  trans V m c main_v58 (ix2 R l)
  · blk_ext [iblk, hi]
  entry_read
  pointwise

/-- The shift row of block `t`. -/
theorem blk1_shift (c : Dev nD) (t : Fin cfg0.N) (l : Fin 1024) (h) :
    View.ld (iblk m c 1 t) (Rect.unit (k0_off1 (grid0.coords t)) ![1,1024] h) (ix2 0 l)
      = modsK m c ⟨t.val / 8, by have := t.isLt; change t.val < 16 at this; omega⟩ ⟨l.val, by omega⟩ := by
  have hi : win0_1.index t = ![0, 0] := by revert t; decide +kernel
  have ho : k0_off1 (grid0.coords t) = ![t.val / 8, 0] := by revert t; decide +kernel
  have ht : t.val < 16 := t.isLt
  trans V m c main_arg1 (ix2 ⟨t.val / 8, by omega⟩ ⟨l.val, by omega⟩)
  · rw [View.ld_apply]
    blk_ext [iblk, hi, ho]
    · exact (Rect.idx_unit_val _ _ _ _ _).trans (congrArg (· + 0) (congrFun ho 0))
    · exact (Rect.idx_unit_val _ _ _ _ _).trans ((congrArg (· + l.val) (congrFun ho 1)).trans (Nat.zero_add _))
  entry_read
  rfl

/-- The scale row of block `t`. -/
theorem blk1_scale (c : Dev nD) (t : Fin cfg0.N) (l : Fin 1024) (h) :
    View.ld (iblk m c 1 t) (Rect.unit (k0_off2 (grid0.coords t)) ![1,1024] h) (ix2 0 l)
      = modsK m c ⟨t.val / 8, by have := t.isLt; change t.val < 16 at this; omega⟩ ⟨1024 + l.val, by omega⟩ := by
  have hi : win0_1.index t = ![0, 0] := by revert t; decide +kernel
  have ho : k0_off2 (grid0.coords t) = ![t.val / 8, 1024] := by revert t; decide +kernel
  have ht : t.val < 16 := t.isLt
  trans V m c main_arg1 (ix2 ⟨t.val / 8, by omega⟩ ⟨1024 + l.val, by omega⟩)
  · rw [View.ld_apply]
    blk_ext [iblk, hi, ho]
    · exact (Rect.idx_unit_val _ _ _ _ _).trans (congrArg (· + 0) (congrFun ho 0))
    · exact (Rect.idx_unit_val _ _ _ _ _).trans (congrArg (· + l.val) (congrFun ho 1))
  entry_read
  rfl

/-- The gain block. -/
theorem blk2 (c : Dev nD) (t : Fin cfg0.N) (l : Fin 1024) : iblk m c 2 t (ix2 0 l) = gK m c l := by
  have hi : win0_2.index t = ![0, 0] := by revert t; decide +kernel
  trans V m c main_v57 (ix2 0 l)
  · blk_ext [iblk, hi]
  entry_read
  pointwise

/-- The weight's block of the projected columns. -/
theorem blk3 (c : Dev nD) (t : Fin cfg0.N) (a : Fin 1024) (l : Fin 1280) :
    X0_3 m c t (ix2 a l) = wK m c a ⟨l.val, by omega⟩ := by
  have hi : win0_3.index t = ![0, 0] := by revert t; decide +kernel
  trans V m c main_v59 (ix2 a ⟨l.val, by omega⟩)
  · unfold X0_3 Pipeline.Window.fill
    rw [dif_pos (moved0_3 t _)]
    blk_ext [iblk, hi]
  entry_read
  pointwise

/-- Rows `64 t, …` of the gate columns of the weight. -/
theorem blk8 (c : Dev nD) (t : Fin cfg0.N) (a : Fin 64) (l : Fin 2048) (r : Fin 1024) (hr : r.val = 64 * t.val + a.val) :
    iblk m c 8 t (ix2 a l) = wK m c r ⟨1280 + l.val, by omega⟩ := by
  have hi : win0_8.index t = ![64 * t.val, 1280] := (show ∀ t : Fin cfg0.N, win0_8.index t = ![64 * t.val, 1280] by decide +kernel) t
  have ht : t.val < 16 := t.isLt
  trans V m c main_v59 (ix2 r ⟨1280 + l.val, by omega⟩)
  · blk_ext [iblk, hi]
    · refine (Pipeline.Window.rect_emb_val_off win0_8 t (ix2 a l) 0).trans ?_
      rw [hi, hr]; rfl
    · refine (Pipeline.Window.rect_emb_val_off win0_8 t (ix2 a l) 1).trans ?_
      rw [hi]; rfl
  entry_read
  pointwise

/-- Rows `32 t, …` of the attention's output weight. -/
theorem blk9 (c : Dev nD) (t : Fin cfg0.N) (a : Fin 32) (l : Fin 1024) (r : Fin 512) (hr : r.val = 32 * t.val + a.val) :
    iblk m c 9 t (ix2 a l) = m (c, Proc.tc.devRef main_arg4) (ix3 0 r l) := by
  have hi : win0_9.index t = ![t.val, 0] := (show ∀ t : Fin cfg0.N, win0_9.index t = ![t.val, 0] by decide +kernel) t
  have ht : t.val < 16 := t.isLt
  trans V m c main_v60 (ix2 r l)
  · blk_ext [iblk, hi]
  entry_read
  pointwise

/-- Rows `32 t, …` of the Fourier branch's output weight. -/
theorem blk10 (c : Dev nD) (t : Fin cfg0.N) (a : Fin 32) (l : Fin 1024) (r : Fin 512) (hr : r.val = 32 * t.val + a.val) :
    iblk m c 10 t (ix2 a l) = m (c, Proc.tc.devRef main_arg5) (ix3 0 r l) := by
  have hi : win0_10.index t = ![t.val, 0] := (show ∀ t : Fin cfg0.N, win0_10.index t = ![t.val, 0] by decide +kernel) t
  have ht : t.val < 16 := t.isLt
  trans V m c main_v61 (ix2 r l)
  · blk_ext [iblk, hi]
  entry_read
  pointwise

/-- Rows `64 t, …` of the last weight. -/
theorem blk11 (c : Dev nD) (t : Fin cfg0.N) (a : Fin 64) (l : Fin 1024) (r : Fin 1024) (hr : r.val = 64 * t.val + a.val) :
    iblk m c 11 t (ix2 a l) = m (c, Proc.tc.devRef main_arg6) (ix3 0 r l) := by
  have hi : win0_11.index t = ![t.val, 0] := (show ∀ t : Fin cfg0.N, win0_11.index t = ![t.val, 0] by decide +kernel) t
  have ht : t.val < 16 := t.isLt
  trans V m c main_v62 (ix2 r l)
  · blk_ext [iblk, hi]
  entry_read
  pointwise

/-- The table of row cosines. -/
theorem tab32 (c : Dev nD) (r l : Fin 128) :
    V m c main_v32 (ix2 r l) = if l.val % 64 < 32 then Ideal.cos (ang r.val (l.val % 16)) else 0 := by
  entry_read
  pointwise
  unfold ang freq
  by_cases h1 : l.val % 64 < 32
  · by_cases h2 : l.val % 64 < 16
    · have e : l.val % 64 = l.val % 16 := by omega
      rw [dif_pos h1, if_pos h1, dif_pos h2, e]
    · have e : l.val % 64 - 16 = l.val % 16 := by omega
      rw [dif_pos h1, if_pos h1, dif_neg h2, e]
  · rw [dif_neg h1, if_neg h1]

/-- The table of row sines, with the sign of the first half turned. -/
theorem tab40 (c : Dev nD) (r l : Fin 128) :
    V m c main_v40 (ix2 r l) = if l.val % 64 < 32 then
      (if l.val % 32 < 16 then -Ideal.sin (ang r.val (l.val % 16)) else Ideal.sin (ang r.val (l.val % 16))) else 0 := by
  entry_read
  pointwise
  unfold ang freq
  by_cases h1 : l.val % 64 < 32
  · by_cases h2 : l.val % 64 < 16
    · have e : l.val % 64 = l.val % 16 := by omega
      have h3 : l.val % 32 < 16 := by omega
      rw [dif_pos h1, if_pos h1, dif_pos h2, if_pos h3, e]
    · have e : l.val % 64 - 16 = l.val % 16 := by omega
      have h3 : ¬ l.val % 32 < 16 := by omega
      rw [dif_pos h1, if_pos h1, dif_neg h2, if_neg h3, e]
  · rw [dif_neg h1, if_neg h1]

/-- The table of column cosines. -/
theorem tab47 (c : Dev nD) (r : Fin 64) (l : Fin 128) :
    V m c main_v47 (ix2 r l) = if l.val % 64 < 32 then 0 else Ideal.cos (ang r.val (l.val % 16)) := by
  entry_read
  pointwise
  unfold ang freq
  by_cases h1 : l.val % 64 < 32
  · rw [dif_pos h1, if_pos h1]
  · by_cases h2 : l.val % 64 - 32 < 16
    · have e : l.val % 64 - 32 = l.val % 16 := by omega
      rw [dif_neg h1, if_neg h1, dif_pos h2, e]
    · have e : l.val % 64 - 32 - 16 = l.val % 16 := by omega
      rw [dif_neg h1, if_neg h1, dif_neg h2, e]

/-- The table of column sines, with the sign of the first half turned. -/
theorem tab55 (c : Dev nD) (r : Fin 64) (l : Fin 128) :
    V m c main_v55 (ix2 r l) = if l.val % 64 < 32 then 0 else
      (if l.val % 32 < 16 then -Ideal.sin (ang r.val (l.val % 16)) else Ideal.sin (ang r.val (l.val % 16))) := by
  entry_read
  pointwise
  unfold ang freq
  by_cases h1 : l.val % 64 < 32
  · rw [dif_pos h1, if_pos h1]
  · by_cases h2 : l.val % 64 - 32 < 16
    · have e : l.val % 64 - 32 = l.val % 16 := by omega
      have h3 : l.val % 32 < 16 := by omega
      rw [dif_neg h1, if_neg h1, dif_pos h2, if_pos h3, e]
    · have e : l.val % 64 - 32 - 16 = l.val % 16 := by omega
      have h3 : ¬ l.val % 32 < 16 := by omega
      rw [dif_neg h1, if_neg h1, dif_neg h2, if_neg h3, e]

/-- The shape of a token's angle: the row table's entry plus the column table's entry is the lane's cosine. -/
theorem cos_sum (R p q l : ℕ) (hp : p = R % 8192 / 64) (hq : q = R % 64) :
    (if l % 64 < 32 then Ideal.cos (ang p (l % 16)) else (0 : EReal)) + (if l % 64 < 32 then 0 else Ideal.cos (ang q (l % 16)))
      = Ideal.cos (laneAng R (l % 64)) := by
  unfold laneAng
  have e : l % 64 % 16 = l % 16 := by omega
  rw [e, ← hp, ← hq]
  split_ifs <;> simp

/-- The same for the signed sines. -/
theorem sin_sum (R p q l : ℕ) (hp : p = R % 8192 / 64) (hq : q = R % 64) :
    (if l % 64 < 32 then (if l % 32 < 16 then -Ideal.sin (ang p (l % 16)) else Ideal.sin (ang p (l % 16))) else (0 : EReal))
      + (if l % 64 < 32 then 0 else (if l % 32 < 16 then -Ideal.sin (ang q (l % 16)) else Ideal.sin (ang q (l % 16))))
      = if l % 32 < 16 then -Ideal.sin (laneAng R (l % 64)) else Ideal.sin (laneAng R (l % 64)) := by
  unfold laneAng
  have e : l % 64 % 16 = l % 16 := by omega
  rw [e, ← hp, ← hq]
  split_ifs <;> simp

/-- Rows `16 (t % 8), …` of a row table. -/
theorem blk4 (c : Dev nD) (t : Fin cfg0.N) (a : Fin 16) (l : Fin 128) (r : Fin 128) (hr : r.val = t.val % 8 * 16 + a.val) :
    iblk m c 4 t (ix2 a l) = V m c main_v32 (ix2 r l) := by
  have hi : win0_4.index t = ![t.val % 8, 0] := (show ∀ t : Fin cfg0.N, win0_4.index t = ![t.val % 8, 0] by decide +kernel) t
  blk_ext [iblk, hi]

/-- The same rows of the table of sines. -/
theorem blk5 (c : Dev nD) (t : Fin cfg0.N) (a : Fin 16) (l : Fin 128) (r : Fin 128) (hr : r.val = t.val % 8 * 16 + a.val) :
    iblk m c 5 t (ix2 a l) = V m c main_v40 (ix2 r l) := by
  have hi : win0_5.index t = ![t.val % 8, 0] := (show ∀ t : Fin cfg0.N, win0_5.index t = ![t.val % 8, 0] by decide +kernel) t
  blk_ext [iblk, hi]

/-- The column table of cosines is read whole. -/
theorem blk6 (c : Dev nD) (t : Fin cfg0.N) (a : Fin 64) (l : Fin 128) : iblk m c 6 t (ix2 a l) = V m c main_v47 (ix2 a l) := by
  have hi : win0_6.index t = ![0, 0] := by revert t; decide +kernel
  blk_ext [iblk, hi]

/-- And that of sines. -/
theorem blk7 (c : Dev nD) (t : Fin cfg0.N) (a : Fin 64) (l : Fin 128) : iblk m c 7 t (ix2 a l) = V m c main_v55 (ix2 a l) := by
  have hi : win0_7.index t = ![0, 0] := by revert t; decide +kernel
  blk_ext [iblk, hi]

end InProj
-- ==== Proof.InProj.Tables.lean ====
module

public import proofs.«01_k».proof.Proof.Gen.KernelIdeal.Frame
public import proofs.«01_k».proof.Proof.InProj.Blocks

@[expose] public section

set_option maxRecDepth 16384

noncomputable section

open Idealize.ShloMosaic Idealize.ShloMosaic.TcCoe Idealize.SL.Sem
open Cert.KernelIdeal Cert.KernelIdeal.Gen

namespace InProj

variable (m : (ℓ : Loc nD τ sig) → Buf (Elt Ideal) ℓ)

/-- Row `n` of a table, repeated over 64 rows. -/
def rowOf (a : Vec Ideal S16x128 .f32) (n : Fin 16) : Vec Ideal S64x128 .f32 := fun j => a (ix2 n (j 1))

/-- Sixteen blocks of 64 rows, one under the other, read at a row. -/
theorem tile_concat (f : Fin 16 → Vec Ideal S64x128 .f32)
    (h : Shape.Concatenates ((List.ofFn fun n : Fin 16 => (⟨S64x128, f n⟩ : (s : Shape) × (s.Idx → Elt Ideal .f32))).map (·.1)) S1024x128 0)
    (r : Fin 1024) (l : Fin 128) :
    concatenate S1024x128 0 (List.ofFn fun n : Fin 16 => (⟨S64x128, f n⟩ : (s : Shape) × (s.Idx → Elt Ideal .f32))) h (ix2 r l)
      = f ⟨r.val / 64, by omega⟩ (ix2 ⟨r.val % 64, by omega⟩ l) :=
  concatenate_ofFn_apply (t := S1024x128) (s₁ := S64x128) (0 : Fin 2) f h rfl 64 rfl (ix2 r l) ⟨r.val / 64, by omega⟩ rfl
    (ix2 ⟨r.val % 64, by omega⟩ l) rfl (fun b hb => by
      match b with
      | ⟨0, _⟩ => exact absurd rfl hb
      | ⟨1, _⟩ => rfl)

/-- One row cut out and repeated is `rowOf`. -/
theorem rowOf_eq (a : Vec Ideal S16x128 .f32) (n : Fin 16) (off : Fin 2 → Nat) (hoff : off = ![n.val, 0])
    (h : Shape.Slices S16x128 off S1x128) :
    broadcastTo S64x128 (shapeCast S1x128 (extractStridedSlice S1x128 off (shapeCast S16x128 a shapeCasts_S16x128_S16x128) h) shapeCasts_S1x128_S1x128) broadcasts_S1x128_S64x128 = rowOf a n := by
  subst hoff
  funext j
  idx_vars j
  unfold rowOf
  pointwise

/-- The cosine of every token of a block and every lane: row part plus column part. -/
theorem pay18_apply (a : Vec Ideal S16x128 .f32) (b : Vec Ideal S64x128 .f32) (r : Fin 1024) (l : Fin 128) :
    k0_pay18 (k0_pay13 a) (k0_pay14 b) (k0_pay15 a) (k0_pay16 a) (k0_pay17 a) (ix2 r l)
      = (a (ix2 ⟨r.val / 64, by omega⟩ l) + b (ix2 ⟨r.val % 64, by omega⟩ l) : EReal) := by
  unfold k0_pay18 k0_pay15 k0_pay16 k0_pay17 k0_pay13 k0_pay14
  simp only [addf]
  refine congr (congrArg _ ?_) ?_
  · rw [rowOf_eq a 0 ![0, 0] rfl, rowOf_eq a 1 ![1, 0] rfl, rowOf_eq a 2 ![2, 0] rfl, rowOf_eq a 3 ![3, 0] rfl, rowOf_eq a 4 ![4, 0] rfl, rowOf_eq a 5 ![5, 0] rfl, rowOf_eq a 6 ![6, 0] rfl, rowOf_eq a 7 ![7, 0] rfl, rowOf_eq a 8 ![8, 0] rfl, rowOf_eq a 9 ![9, 0] rfl, rowOf_eq a 10 ![10, 0] rfl, rowOf_eq a 11 ![11, 0] rfl, rowOf_eq a 12 ![12, 0] rfl, rowOf_eq a 13 ![13, 0] rfl, rowOf_eq a 14 ![14, 0] rfl, rowOf_eq a 15 ![15, 0] rfl]
    exact tile_concat (rowOf a) _ r l
  · exact (tile_concat (fun _ => shapeCast S64x128 b shapeCasts_S64x128_S64x128) _ r l).trans (by pointwise)

/-- The signed sine of every token of a block and every lane. -/
theorem pay25_apply (a : Vec Ideal S16x128 .f32) (b : Vec Ideal S64x128 .f32) (r : Fin 1024) (l : Fin 128) :
    k0_pay25 (k0_pay19 a) (k0_pay20 b) (k0_pay21 a) (k0_pay22 a) (k0_pay23 a) (k0_pay24 a) (ix2 r l)
      = (a (ix2 ⟨r.val / 64, by omega⟩ l) + b (ix2 ⟨r.val % 64, by omega⟩ l) : EReal) := by
  unfold k0_pay25 k0_pay21 k0_pay22 k0_pay23 k0_pay24 k0_pay19 k0_pay20
  simp only [addf]
  refine congr (congrArg _ ?_) ?_
  · rw [rowOf_eq a 0 ![0, 0] rfl, rowOf_eq a 1 ![1, 0] rfl, rowOf_eq a 2 ![2, 0] rfl, rowOf_eq a 3 ![3, 0] rfl, rowOf_eq a 4 ![4, 0] rfl, rowOf_eq a 5 ![5, 0] rfl, rowOf_eq a 6 ![6, 0] rfl, rowOf_eq a 7 ![7, 0] rfl, rowOf_eq a 8 ![8, 0] rfl, rowOf_eq a 9 ![9, 0] rfl, rowOf_eq a 10 ![10, 0] rfl, rowOf_eq a 11 ![11, 0] rfl, rowOf_eq a 12 ![12, 0] rfl, rowOf_eq a 13 ![13, 0] rfl, rowOf_eq a 14 ![14, 0] rfl, rowOf_eq a 15 ![15, 0] rfl]
    exact tile_concat (rowOf a) _ r l
  · exact (tile_concat (fun _ => shapeCast S64x128 b shapeCasts_S64x128_S64x128) _ r l).trans (by pointwise)

/-- The cosines a block's tokens are turned by. -/
theorem cos_blk (c : Dev nD) (t : Fin cfg0.N) (r : Fin 1024) (l : Fin 128) (R : ℕ) (hR : R = 1024 * t.val + r.val) :
    k0_pay18 (k0_pay13 (iblk m c 4 t)) (k0_pay14 (iblk m c 6 t)) (k0_pay15 (iblk m c 4 t)) (k0_pay16 (iblk m c 4 t)) (k0_pay17 (iblk m c 4 t)) (ix2 r l)
      = Ideal.cos (laneAng R (l.val % 64)) := by
  refine (pay18_apply (iblk m c 4 t) (iblk m c 6 t) r l).trans ?_
  have ht : t.val < 16 := t.isLt
  rw [blk4 m c t _ l ⟨t.val % 8 * 16 + r.val / 64, by omega⟩ rfl, blk6, tab32, tab47]
  exact cos_sum R _ _ l.val (by show t.val % 8 * 16 + r.val / 64 = _; omega) (by show r.val % 64 = _; omega)

/-- The signed sines a block's tokens are turned by. -/
theorem sin_blk (c : Dev nD) (t : Fin cfg0.N) (r : Fin 1024) (l : Fin 128) (R : ℕ) (hR : R = 1024 * t.val + r.val) :
    k0_pay25 (k0_pay19 (iblk m c 5 t)) (k0_pay20 (iblk m c 7 t)) (k0_pay21 (iblk m c 5 t)) (k0_pay22 (iblk m c 5 t)) (k0_pay23 (iblk m c 5 t)) (k0_pay24 (iblk m c 5 t)) (ix2 r l)
      = if l.val % 32 < 16 then -Ideal.sin (laneAng R (l.val % 64)) else Ideal.sin (laneAng R (l.val % 64)) := by
  refine (pay25_apply (iblk m c 5 t) (iblk m c 7 t) r l).trans ?_
  have ht : t.val < 16 := t.isLt
  rw [blk5 m c t _ l ⟨t.val % 8 * 16 + r.val / 64, by omega⟩ rfl, blk7, tab40, tab55]
  exact sin_sum R _ _ l.val (by show t.val % 8 * 16 + r.val / 64 = _; omega) (by show r.val % 64 = _; omega)

/-- The normalized, modulated rows of a block. -/
theorem h_blk (c : Dev nD) (t : Fin cfg0.N) (r k : Fin 1024) (R : Fin 16384) (hR : R.val = 1024 * t.val + r.val) (h1 h2) :
    k0_pay12 (View.ld (iblk m c 1 t) (Rect.unit (k0_off1 (grid0.coords t)) ![1,1024] h1)) (View.ld (iblk m c 1 t) (Rect.unit (k0_off2 (grid0.coords t)) ![1,1024] h2))
        (iblk m c 0 t) (iblk m c 2 t) (ix2 r k)
      = hrow (xK m c) (modsK m c) (gK m c) R k := by
  have hsh := fun l => blk1_shift m c t l h1
  have hsc := fun l => blk1_scale m c t l h2
  have hx := fun l => blk0 m c t r l R hR
  have hg := fun l => blk2 m c t l
  revert hsh hsc hx hg
  generalize View.ld (iblk m c 1 t) (Rect.unit (k0_off1 (grid0.coords t)) ![1,1024] h1) = sh
  generalize View.ld (iblk m c 1 t) (Rect.unit (k0_off2 (grid0.coords t)) ![1,1024] h2) = sc
  generalize iblk m c 0 t = x
  generalize iblk m c 2 t = g
  intro hsh hsc hx hg
  unfold k0_pay12
  pointwise
  have ht : t.val < 16 := t.isLt
  have e : R.val / 8192 = t.val / 8 := by omega
  unfold hrow
  simp only [hsh, hsc, hx, hg, e]

end InProj
-- ==== Proof.InProj.Scratch.lean ====
module

public import proofs.«01_k».proof.Proof.InProj.Tables
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace InProj

variable (m : (ℓ : Loc nD τ sig) → Buf (Elt Ideal) ℓ)

/-- The other points leave the scratch as it was. -/
theorem scrB (c : Dev nD) (t : Fin cfg0.N) (h0 : ¬ t.val % 16 = 0)  : (outsAt0 m c t.val t.isLt).2.2.2.2.2.2.2.2 = (outsAt0 m c (t.val-1) (Nat.lt_of_le_of_lt (Nat.sub_le _ _) t.isLt)).2.2.2.2.2.2.2.2 := by
  rw [outsAt0_B m c t h0]
  dsimp only
  unfold sout0_B_0
  rfl

/-- Column `n` of the reordered weight is this column of the weight: the heads are paired `j`, `4 + j`. -/
def wcol (n : ℕ) : ℕ := if n < 512 then 64 * (4 * (n % 128 / 64) + n / 128) + n % 64 else n

/-- It is a column of the weight. -/
theorem wcol_lt (n : ℕ) (h : n < 1280) : wcol n < 3328 := by
  unfold wcol; split_ifs <;> omega

/-- 128 columns of the weight's block. -/
theorem ld3 (c : Dev nD) (t : Fin cfg0.N) (o w : ℕ) (ho : o + w ≤ 1280) (h : ∀ a, (![0, o] : Fin 2 → ℕ) a + (![1024, w] : Fin 2 → ℕ) a ≤ S1024x1280.size a)
    (a : Fin 1024) (l : Fin w) :
    View.ld (X0_3 m c t) (Rect.unit ![0, o] ![1024, w] h) (ix2 a l) = wK m c a ⟨o + l.val, by omega⟩ := by
  rw [View.ld_apply]
  refine (congrArg (X0_3 m c t) ?_).trans (blk3 m c t a ⟨o + l.val, by omega⟩)
  funext b
  match b with
  | ⟨0, _⟩ => exact Fin.ext ((Rect.idx_unit_val _ _ _ _ _).trans (Nat.zero_add _))
  | ⟨1, _⟩ => exact Fin.ext (Rect.idx_unit_val _ _ _ _ _)

/-- The lane test of the pairing. -/
theorem lane64 : ∀ l : Fin 128, IntOp.cmpi CmpIPredicate.slt (BitVec.ofNat 32 l.val) 64#32 = if l.val < 64 then 1#1 else 0#1 := by
  decide +kernel

/-- The same test as a mask. -/
theorem pay2_apply (a : Fin 1024) (l : Fin 128) : k0_pay2 (ix2 a l) = if l.val < 64 then 1#1 else 0#1 := by
  rw [← lane64 l]
  unfold k0_pay2
  pointwise

/-- A choice by such a test. -/
theorem select_ite {α : Type} (p : Prop) [Decidable p] (a b : α) : Scalar.select (if p then 1#1 else 0#1) a b = if p then a else b := by
  split_ifs <;> rfl

/-- The first point of the run writes the reordered weight into scratch. -/
theorem scrA (c : Dev nD) (t : Fin cfg0.N) (h0 : t.val % 16 = 0) (k : Fin 1024) (n : Fin 1280) :
    (outsAt0 m c t.val t.isLt).2.2.2.2.2.2.2.2 (ix2 k n) = wK m c k ⟨wcol n.val, wcol_lt _ n.isLt⟩ := by
  rw [outsAt0_A m c t h0]
  dsimp only
  frame_out
  have e0 := ld3 m c t 0 128 (by omega) inb_S1024x1280_S1024x128_0_0
  have e1 := ld3 m c t 128 128 (by omega) inb_S1024x1280_S1024x128_0_128
  have e2 := ld3 m c t 256 128 (by omega) inb_S1024x1280_S1024x128_0_256
  have e3 := ld3 m c t 384 128 (by omega) inb_S1024x1280_S1024x128_0_384
  have e4 := ld3 m c t 512 768 (by omega) inb_S1024x1280_S1024x768_0_512
  revert e0 e1 e2 e3 e4
  generalize View.ld (X0_3 m c t) (Rect.unit ![0, 0] ![1024, 128] inb_S1024x1280_S1024x128_0_0) = w0
  generalize View.ld (X0_3 m c t) (Rect.unit ![0, 128] ![1024, 128] inb_S1024x1280_S1024x128_0_128) = w1
  generalize View.ld (X0_3 m c t) (Rect.unit ![0, 256] ![1024, 128] inb_S1024x1280_S1024x128_0_256) = w2
  generalize View.ld (X0_3 m c t) (Rect.unit ![0, 384] ![1024, 128] inb_S1024x1280_S1024x128_0_384) = w3
  generalize View.ld (X0_3 m c t) (Rect.unit ![0, 512] ![1024, 768] inb_S1024x1280_S1024x768_0_512) = w4
  intro e0 e1 e2 e3 e4
  canon_tiles x h using (View.cover_of_tiledBy (s := S1024x1280) _ ![1024, 128] (by sl_kernel_rfl) _)
  · idx_vars x
    unfold k0_pay11
    pointwise
    rw [e4]
    obtain rfl : k = x0 := Fin.ext h0
    refine congrArg (wK m c k) (Fin.ext ?_)
    show 512 + x1.val = wcol n.val
    unfold wcol
    rw [if_neg (by omega), h1]
  · idx_vars x
    unfold k0_pay10
    pointwise
    simp only [pay2_apply, lane64, select_ite, e1, e3]
    obtain rfl : k = x0 := Fin.ext h0
    split_ifs
    all_goals
      refine congrArg (wK m c k) (Fin.ext ?_)
      show _ = wcol n.val
      unfold wcol
      rw [if_pos (by omega), h1]
      dsimp only
      omega
  · idx_vars x
    unfold k0_pay5
    pointwise
    simp only [pay2_apply, lane64, select_ite, e1, e3]
    obtain rfl : k = x0 := Fin.ext h0
    split_ifs
    all_goals
      refine congrArg (wK m c k) (Fin.ext ?_)
      show _ = wcol n.val
      unfold wcol
      rw [if_pos (by omega), h1]
      dsimp only
      omega
  · idx_vars x
    unfold k0_pay4
    pointwise
    simp only [pay2_apply, lane64, select_ite, e0, e2]
    obtain rfl : k = x0 := Fin.ext h0
    split_ifs
    all_goals
      refine congrArg (wK m c k) (Fin.ext ?_)
      show _ = wcol n.val
      unfold wcol
      rw [if_pos (by omega), h1]
      dsimp only
      omega
  · idx_vars x
    unfold k0_pay3
    pointwise
    simp only [pay2_apply, lane64, select_ite, e0, e2]
    obtain rfl : k = x0 := Fin.ext h0
    split_ifs
    all_goals
      refine congrArg (wK m c k) (Fin.ext ?_)
      show _ = wcol n.val
      unfold wcol
      rw [if_pos (by omega), h1]
      dsimp only
      omega

/-- After every point the scratch holds the reordered weight. -/
theorem scr (c : Dev nD) (t : Fin cfg0.N) (k : Fin 1024) (n : Fin 1280) :
    (outsAt0 m c t.val t.isLt).2.2.2.2.2.2.2.2 (ix2 k n) = wK m c k ⟨wcol n.val, wcol_lt _ n.isLt⟩ := by
  suffices H : ∀ (q : ℕ) (hq : q < cfg0.N), (outsAt0 m c q hq).2.2.2.2.2.2.2.2 (ix2 k n) = wK m c k ⟨wcol n.val, wcol_lt _ n.isLt⟩ from H t.val t.isLt
  intro q
  induction q with
  | zero => exact fun hq => scrA m c ⟨0, hq⟩ rfl k n
  | succ q ih =>
    intro hq
    have hN : q + 1 < 16 := hq
    exact (congrFun (scrB m c ⟨q + 1, hq⟩ (by show ¬ (q + 1) % 16 = 0; omega)) (ix2 k n)).trans (ih (Nat.lt_of_succ_lt hq))

end InProj
-- ==== Proof.InProj.Outs.lean ====
module

public import proofs.«01_k».proof.Proof.InProj.Scratch
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace InProj

variable (m : (ℓ : Loc nD τ sig) → Buf (Elt Ideal) ℓ)

/-- The normalized rows of block `t`, as the body computes them. -/
abbrev hB (c : Dev nD) (t : Fin cfg0.N) : Vec Ideal S1024x1024 .bf16 :=
  k0_pay12 (View.ld (iblk m c 1 t) (Rect.unit (k0_off1 (grid0.coords t)) ![1,1024] (k0_off1_inb (grid0.coords t)))) (View.ld (iblk m c 1 t) (Rect.unit (k0_off2 (grid0.coords t)) ![1,1024] (k0_off2_inb (grid0.coords t))))
        (iblk m c 0 t) (iblk m c 2 t)
/-- Its cosines. -/
abbrev csB (c : Dev nD) (t : Fin cfg0.N) : Vec Ideal S1024x128 .f32 :=
  k0_pay18 (k0_pay13 (iblk m c 4 t)) (k0_pay14 (iblk m c 6 t)) (k0_pay15 (iblk m c 4 t)) (k0_pay16 (iblk m c 4 t)) (k0_pay17 (iblk m c 4 t))
/-- Its signed sines. -/
abbrev snB (c : Dev nD) (t : Fin cfg0.N) : Vec Ideal S1024x128 .f32 :=
  k0_pay25 (k0_pay19 (iblk m c 5 t)) (k0_pay20 (iblk m c 7 t)) (k0_pay21 (iblk m c 5 t)) (k0_pay22 (iblk m c 5 t)) (k0_pay23 (iblk m c 5 t)) (k0_pay24 (iblk m c 5 t))

section Payloads

variable (h : Vec Ideal S1024x1024 .bf16) (cs sn : Vec Ideal S1024x128 .f32) (W : Vec Ideal S1024x1280 .bf16)

/-- The block of queries from rows, tables and reordered weight. -/
def qBlk : Vec Ideal S1024x512 .bf16 :=
  View.canon [⟨Rect.unit ![0, 384] ![1024, 128] inb_S1024x512_S1024x128_0_384, k0_pay36 cs sn (k0_pay29 (32#32) k0_pay26 k0_pay27 k0_pay28) (k0_pay33 h (View.ld W (Rect.unit ![0, 256] ![1024, 256] inb_S1024x1280_S1024x256_0_256)))⟩,
    ⟨Rect.unit ![0, 256] ![1024, 128] inb_S1024x512_S1024x128_0_256, k0_pay35 (k0_pay34 h cs sn (32#32) k0_pay26 k0_pay27 k0_pay28 (View.ld W (Rect.unit ![0, 256] ![1024, 256] inb_S1024x1280_S1024x256_0_256)))⟩,
    ⟨Rect.unit ![0, 128] ![1024, 128] inb_S1024x512_S1024x128_0_128, k0_pay32 h cs sn (32#32) k0_pay26 k0_pay27 k0_pay28 (View.ld W (Rect.unit ![0, 0] ![1024, 256] inb_S1024x1280_S1024x256_0_0))⟩,
    ⟨Rect.unit ![0, 0] ![1024, 128] inb_S1024x512_S1024x128_0_0, k0_pay31 h cs sn (32#32) k0_pay26 k0_pay27 k0_pay28 (View.ld W (Rect.unit ![0, 0] ![1024, 256] inb_S1024x1280_S1024x256_0_0))⟩]

/-- The block of Fourier columns. -/
def fBlk : Vec Ideal S1024x512 .f32 :=
  View.canon [⟨Rect.unit ![0, 256] ![1024, 256] inb_S1024x512_S1024x256_0_256, k0_pay1 h (View.ld W (Rect.unit ![0, 1024] ![1024, 256] inb_S1024x1280_S1024x256_0_1024))⟩,
    ⟨Rect.unit ![0, 0] ![1024, 256] inb_S1024x512_S1024x256_0_0, k0_pay40 h (View.ld W (Rect.unit ![0, 768] ![1024, 256] inb_S1024x1280_S1024x256_0_768))⟩]

/-- The block of keys. -/
def kBlk : Vec Ideal S1024x128 .bf16 :=
  k0_pay38 h cs sn (k0_pay29 (32#32) k0_pay26 k0_pay27 k0_pay28) (View.ld W (Rect.unit ![0, 512] ![1024, 256] inb_S1024x1280_S1024x256_0_512))

/-- The block of transposed values. -/
def vBlk : Vec Ideal S128x1024 .bf16 := k0_pay39 h (View.ld W (Rect.unit ![0, 512] ![1024, 256] inb_S1024x1280_S1024x256_0_512))

end Payloads

/-- What point `t` leaves for the queries. -/
theorem out_q (c : Dev nD) (t : Fin cfg0.N) :
    (outsAt0 m c t.val t.isLt).1 = qBlk (hB m c t) (csB m c t) (snB m c t) (outsAt0 m c t.val t.isLt).2.2.2.2.2.2.2.2 := by
  by_cases h0 : t.val % 16 = 0
  · rw [outsAt0_A m c t h0]
    dsimp only
    frame_out
    simp only [View.readCov_eq_canon']
    rfl
  · rw [scrB m c t h0, outsAt0_B m c t h0]
    dsimp only
    frame_out
    simp only [read_unread_whole]
    rfl

/-- What point `t` leaves for the keys. -/
theorem out_k (c : Dev nD) (t : Fin cfg0.N) :
    (outsAt0 m c t.val t.isLt).2.1 = kBlk (hB m c t) (csB m c t) (snB m c t) (outsAt0 m c t.val t.isLt).2.2.2.2.2.2.2.2 := by
  by_cases h0 : t.val % 16 = 0
  · rw [outsAt0_A m c t h0]
    dsimp only
    frame_out
    simp only [View.readCov_eq_canon']
    rfl
  · rw [scrB m c t h0, outsAt0_B m c t h0]
    dsimp only
    frame_out
    simp only [read_unread_whole]
    rfl

/-- What point `t` leaves for the values. -/
theorem out_v (c : Dev nD) (t : Fin cfg0.N) :
    (outsAt0 m c t.val t.isLt).2.2.1 = vBlk (hB m c t) (outsAt0 m c t.val t.isLt).2.2.2.2.2.2.2.2 := by
  by_cases h0 : t.val % 16 = 0
  · rw [outsAt0_A m c t h0]
    dsimp only
    frame_out
    simp only [View.readCov_eq_canon']
    rfl
  · rw [scrB m c t h0, outsAt0_B m c t h0]
    dsimp only
    frame_out
    simp only [read_unread_whole]
    rfl

/-- What point `t` leaves for the Fourier columns. -/
theorem out_f (c : Dev nD) (t : Fin cfg0.N) :
    (outsAt0 m c t.val t.isLt).2.2.2.1 = fBlk (hB m c t) (outsAt0 m c t.val t.isLt).2.2.2.2.2.2.2.2 := by
  by_cases h0 : t.val % 16 = 0
  · rw [outsAt0_A m c t h0]
    dsimp only
    frame_out
    simp only [View.readCov_eq_canon']
    rfl
  · rw [scrB m c t h0, outsAt0_B m c t h0]
    dsimp only
    frame_out
    simp only [read_unread_whole]
    rfl

end InProj
-- ==== Proof.InProj.Points.lean ====
module

public import proofs.«01_k».proof.Proof.InProj.Outs
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace InProj

variable (m : (ℓ : Loc nD τ sig) → Buf (Elt Ideal) ℓ)

/-- The lane test of the rotation: the first half of every 32 lanes. -/
theorem mask_apply (r : Fin 1024) (l : Fin 128) :
    k0_pay29 (32#32) k0_pay26 k0_pay27 k0_pay28 (ix2 r l) = if l.val % 32 < 16 then 1#1 else 0#1 := by
  unfold k0_pay29 k0_pay28 k0_pay27 k0_pay26
  pointwise
  revert l
  decide +kernel

/-- One rotated lane from the three columns it reads: its own and the two its partner can be. -/
theorem rope_lane (x : Fin 2 → Fin 8192 → Fin 1024 → EReal) (mods : Fin 8 → Fin 6144 → EReal) (g : Fin 1024 → EReal)
    (w : Fin 1024 → Fin 3328 → EReal) (R : Fin 16384) (b d : ℕ) (hb : b ≤ 3264) (hd : d < 64) (l : ℕ) (hl : l % 32 = d % 32)
    (n0 np nm : Fin 3328) (h0 : n0.val = b + d) (hp : d % 32 < 16 → np.val = b + (d + 16)) (hm : ¬ d % 32 < 16 → nm.val = b + (d - 16)) :
    (∑ k, hrow x mods g R k * w k n0) * Ideal.cos (laneAng R.val d)
        + (if l % 32 < 16 then ∑ k, hrow x mods g R k * w k np else ∑ k, hrow x mods g R k * w k nm)
          * (if l % 32 < 16 then -Ideal.sin (laneAng R.val d) else Ideal.sin (laneAng R.val d))
      = rope x mods g w R b d hb hd := by
  unfold rope col
  have e0 : n0 = ⟨b + d, by omega⟩ := Fin.ext h0
  rw [e0]
  rw [hl]
  by_cases h : d % 32 < 16
  · have e1 : np = ⟨b + (d + 16), by omega⟩ := Fin.ext (hp h)
    rw [e1, if_pos h, if_pos h, dif_pos h]
  · have e1 : nm = ⟨b + (d - 16), by omega⟩ := Fin.ext (hm h)
    rw [e1, if_neg h, if_neg h, dif_neg h]

/-- 256 columns of the scratch. -/
theorem ldW (W : Vec Ideal S1024x1280 .bf16) (o : ℕ) (ho : o + 256 ≤ 1280)
    (h : ∀ a, (![0, o] : Fin 2 → ℕ) a + (![1024, 256] : Fin 2 → ℕ) a ≤ S1024x1280.size a) (a : Fin 1024) (l : Fin 256) :
    View.ld W (Rect.unit ![0, o] ![1024, 256] h) (ix2 a l) = W (ix2 a ⟨o + l.val, by omega⟩) := by
  rw [View.ld_apply]
  refine congrArg W ?_
  funext b
  match b with
  | ⟨0, _⟩ => exact Fin.ext ((Rect.idx_unit_val _ _ _ _ _).trans (Nat.zero_add _))
  | ⟨1, _⟩ => exact Fin.ext (Rect.idx_unit_val _ _ _ _ _)

section Blocks

variable (x : Fin 2 → Fin 8192 → Fin 1024 → EReal) (mods : Fin 8 → Fin 6144 → EReal) (g : Fin 1024 → EReal)
  (w : Fin 1024 → Fin 3328 → EReal)
  (h : Vec Ideal S1024x1024 .bf16) (cs sn : Vec Ideal S1024x128 .f32) (W : Vec Ideal S1024x1280 .bf16)
  (r : Fin 1024) (R : Fin 16384) (hh : ∀ k, h (ix2 r k) = hrow x mods g R k)
  (hc : ∀ l : Fin 128, cs (ix2 r l) = Ideal.cos (laneAng R.val (l.val % 64)))
  (hs : ∀ l : Fin 128, sn (ix2 r l) = if l.val % 32 < 16 then -Ideal.sin (laneAng R.val (l.val % 64)) else Ideal.sin (laneAng R.val (l.val % 64)))
  (hW : ∀ k n, W (ix2 k n) = w k ⟨wcol n.val, wcol_lt _ n.isLt⟩)

include hW in
/-- 256 columns of the reordered weight. -/
theorem ldW_apply (o : ℕ) (ho : o + 256 ≤ 1280)
    (hb : ∀ a, (![0, o] : Fin 2 → ℕ) a + (![1024, 256] : Fin 2 → ℕ) a ≤ S1024x1280.size a) (a : Fin 1024) (l : Fin 256) :
    View.ld W (Rect.unit ![0, o] ![1024, 256] hb) (ix2 a l) = w a ⟨wcol (o + l.val), wcol_lt _ (by omega)⟩ :=
  (ldW W o ho hb a l).trans (hW a ⟨o + l.val, by omega⟩)

include hh hc hs hW in
/-- A row of the block of keys. -/
theorem kBlk_apply (l : Fin 128) : kBlk h cs sn W (ix2 r l) = kS x mods g w R l := by
  unfold kBlk
  have hw0 := ldW_apply w W hW 512 (by omega) inb_S1024x1280_S1024x256_0_512
  revert hw0
  generalize View.ld W (Rect.unit ![0, 512] ![1024, 256] inb_S1024x1280_S1024x256_0_512) = w0
  intro hw0
  have hm := mask_apply r
  revert hm
  generalize k0_pay29 (32#32) k0_pay26 k0_pay27 k0_pay28 = mk
  intro hm
  unfold k0_pay38 k0_pay37
  pointwise
  simp only [hh, hc, hs, hw0, hm, select_ite]
  unfold kS
  refine rope_lane _ _ _ _ R _ _ _ _ l.val (by omega) _ _ _ ?_ (fun _ => ?_) (fun _ => ?_) <;> (simp only [wcol]; split_ifs <;> omega)

include hh hW in
/-- A column of the block of transposed values. -/
theorem vBlk_apply (l : Fin 128) : vBlk h W (ix2 l r) = vS x mods g w l R := by
  unfold vBlk
  have hw0 := ldW_apply w W hW 512 (by omega) inb_S1024x1280_S1024x256_0_512
  revert hw0
  generalize View.ld W (Rect.unit ![0, 512] ![1024, 256] inb_S1024x1280_S1024x256_0_512) = w0
  intro hw0
  unfold k0_pay39 k0_pay37
  pointwise
  simp only [hh, hw0]
  unfold vS col
  refine Finset.sum_congr rfl fun k _ => congrArg (hrow x mods g R k * w k ·) (Fin.ext ?_)
  simp only [wcol]; split_ifs <;> omega

include hh hW in
/-- A row of the block of Fourier columns. -/
theorem fBlk_apply (l : Fin 512) : fBlk h W (ix2 r l) = fS x mods g w R l := by
  unfold fBlk
  have hw0 := ldW_apply w W hW 768 (by omega) inb_S1024x1280_S1024x256_0_768
  have hw1 := ldW_apply w W hW 1024 (by omega) inb_S1024x1280_S1024x256_0_1024
  revert hw0 hw1
  generalize View.ld W (Rect.unit ![0, 768] ![1024, 256] inb_S1024x1280_S1024x256_0_768) = w0
  generalize View.ld W (Rect.unit ![0, 1024] ![1024, 256] inb_S1024x1280_S1024x256_0_1024) = w1
  intro hw0 hw1
  canon_tiles y q
  · idx_vars y
    have e : y0 = r := Fin.ext q0.symm
    rw [e]
    unfold k0_pay1
    pointwise
    simp only [hh, hw1]
    unfold fS col
    refine Finset.sum_congr rfl fun k _ => congrArg (hrow x mods g R k * w k ·) (Fin.ext ?_)
    simp only [wcol]; split_ifs <;> omega
  · idx_vars y
    have e : y0 = r := Fin.ext q0.symm
    rw [e]
    unfold k0_pay40
    pointwise
    simp only [hh, hw0]
    unfold fS col
    refine Finset.sum_congr rfl fun k _ => congrArg (hrow x mods g R k * w k ·) (Fin.ext ?_)
    simp only [wcol]; split_ifs <;> omega

include hh hc hs hW in
/-- A row of the block of queries. -/
theorem qBlk_apply (l : Fin 512) : qBlk h cs sn W (ix2 r l) = qS x mods g w R l := by
  unfold qBlk
  have hw0 := ldW_apply w W hW 0 (by omega) inb_S1024x1280_S1024x256_0_0
  have hw1 := ldW_apply w W hW 256 (by omega) inb_S1024x1280_S1024x256_0_256
  revert hw0 hw1
  generalize View.ld W (Rect.unit ![0, 0] ![1024, 256] inb_S1024x1280_S1024x256_0_0) = w0
  generalize View.ld W (Rect.unit ![0, 256] ![1024, 256] inb_S1024x1280_S1024x256_0_256) = w1
  intro hw0 hw1
  have hm := mask_apply r
  canon_tiles y q
  · idx_vars y
    have e : y0 = r := Fin.ext q0.symm
    rw [e]
    unfold k0_pay36 k0_pay33
    pointwise
    simp only [hh, hc, hs, hw1, hm, select_ite]
    unfold qS
    refine congrArg (· * Ideal.ofBits FTy.f32 1043900987#32) ?_
    have e1 : l.val % 64 = y1.val % 64 := by omega
    have e2 : 64 * (4 * (l.val % 128 / 64) + l.val / 128) = 64 * (4 * (y1.val / 64) + 3) := by omega
    simp only [e1, e2]
    refine rope_lane _ _ _ _ R _ _ _ _ y1.val (by omega) _ _ _ ?_ (fun _ => ?_) (fun _ => ?_) <;> (simp only [wcol]; split_ifs <;> omega)
  · idx_vars y
    have e : y0 = r := Fin.ext q0.symm
    rw [e]
    unfold k0_pay35 k0_pay34 k0_pay33
    pointwise
    simp only [hh, hc, hs, hw1, hm, select_ite]
    unfold qS
    refine congrArg (· * Ideal.ofBits FTy.f32 1043900987#32) ?_
    have e1 : l.val % 64 = y1.val % 64 := by omega
    have e2 : 64 * (4 * (l.val % 128 / 64) + l.val / 128) = 64 * (4 * (y1.val / 64) + 2) := by omega
    simp only [e1, e2]
    refine rope_lane _ _ _ _ R _ _ _ _ y1.val (by omega) _ _ _ ?_ (fun _ => ?_) (fun _ => ?_) <;> (simp only [wcol]; split_ifs <;> omega)
  · idx_vars y
    have e : y0 = r := Fin.ext q0.symm
    rw [e]
    unfold k0_pay32 k0_pay30
    pointwise
    simp only [hh, hc, hs, hw0, hm, select_ite]
    unfold qS
    refine congrArg (· * Ideal.ofBits FTy.f32 1043900987#32) ?_
    have e1 : l.val % 64 = y1.val % 64 := by omega
    have e2 : 64 * (4 * (l.val % 128 / 64) + l.val / 128) = 64 * (4 * (y1.val / 64) + 1) := by omega
    simp only [e1, e2]
    refine rope_lane _ _ _ _ R _ _ _ _ y1.val (by omega) _ _ _ ?_ (fun _ => ?_) (fun _ => ?_) <;> (simp only [wcol]; split_ifs <;> omega)
  · idx_vars y
    have e : y0 = r := Fin.ext q0.symm
    rw [e]
    unfold k0_pay31 k0_pay30
    pointwise
    simp only [hh, hc, hs, hw0, hm, select_ite]
    unfold qS
    refine congrArg (· * Ideal.ofBits FTy.f32 1043900987#32) ?_
    have e1 : l.val % 64 = y1.val % 64 := by omega
    have e2 : 64 * (4 * (l.val % 128 / 64) + l.val / 128) = 64 * (4 * (y1.val / 64) + 0) := by omega
    simp only [e1, e2]
    refine rope_lane _ _ _ _ R _ _ _ _ y1.val (by omega) _ _ _ ?_ (fun _ => ?_) (fun _ => ?_) <;> (simp only [wcol]; split_ifs <;> omega)

end Blocks

/-- The queries a point leaves. -/
theorem out_q_apply (c : Dev nD) (t : Fin cfg0.N) (r : Fin 1024) (l : Fin 512) (R : Fin 16384) (hR : R.val = 1024 * t.val + r.val) :
    (outsAt0 m c t.val t.isLt).1 (ix2 r l) = qS (xK m c) (modsK m c) (gK m c) (wK m c) R l :=
  (congrFun (out_q m c t) (ix2 r l)).trans
    (qBlk_apply (xK m c) (modsK m c) (gK m c) (wK m c) (hB m c t) (csB m c t) (snB m c t) _ r R (fun k => h_blk m c t r k R hR _ _) (fun l => cos_blk m c t r l R.val hR) (fun l => sin_blk m c t r l R.val hR)
      (fun k n => scr m c t k n) l)

/-- The keys a point leaves. -/
theorem out_k_apply (c : Dev nD) (t : Fin cfg0.N) (r : Fin 1024) (l : Fin 128) (R : Fin 16384) (hR : R.val = 1024 * t.val + r.val) :
    (outsAt0 m c t.val t.isLt).2.1 (ix2 r l) = kS (xK m c) (modsK m c) (gK m c) (wK m c) R l :=
  (congrFun (out_k m c t) (ix2 r l)).trans
    (kBlk_apply (xK m c) (modsK m c) (gK m c) (wK m c) (hB m c t) (csB m c t) (snB m c t) _ r R (fun k => h_blk m c t r k R hR _ _) (fun l => cos_blk m c t r l R.val hR) (fun l => sin_blk m c t r l R.val hR)
      (fun k n => scr m c t k n) l)

/-- The transposed values a point leaves. -/
theorem out_v_apply (c : Dev nD) (t : Fin cfg0.N) (r : Fin 1024) (l : Fin 128) (R : Fin 16384) (hR : R.val = 1024 * t.val + r.val) :
    (outsAt0 m c t.val t.isLt).2.2.1 (ix2 l r) = vS (xK m c) (modsK m c) (gK m c) (wK m c) l R :=
  (congrFun (out_v m c t) (ix2 l r)).trans
    (vBlk_apply (xK m c) (modsK m c) (gK m c) (wK m c) (hB m c t) _ r R (fun k => h_blk m c t r k R hR _ _)
      (fun k n => scr m c t k n) l)

/-- The Fourier columns a point leaves. -/
theorem out_f_apply (c : Dev nD) (t : Fin cfg0.N) (r : Fin 1024) (l : Fin 512) (R : Fin 16384) (hR : R.val = 1024 * t.val + r.val) :
    (outsAt0 m c t.val t.isLt).2.2.2.1 (ix2 r l) = fS (xK m c) (modsK m c) (gK m c) (wK m c) R l :=
  (congrFun (out_f m c t) (ix2 r l)).trans
    (fBlk_apply (xK m c) (modsK m c) (gK m c) (wK m c) (hB m c t) _ r R (fun k => h_blk m c t r k R hR _ _)
      (fun k n => scr m c t k n) l)

end InProj
-- ==== Proof.InProj.Arrays.lean ====
module

public import proofs.«01_k».proof.Proof.InProj.Points
public import proofs.«01_k».proof.Proof.Gen.KernelIdeal.Value
public import Idealize.ShloMosaic.Lib.Pipeline.ReadBack

@[expose] public section

set_option maxRecDepth 16384

noncomputable section

open Idealize.ShloMosaic Idealize.ShloMosaic.TcCoe Idealize.SL.Sem
open Cert.KernelIdeal Cert.KernelIdeal.Gen

namespace InProj

variable (m : (ℓ : Loc nD τ sig) → Buf (Elt Ideal) ℓ)

/-- The rows of the gate columns a point copies. -/
theorem out_gw_apply (c : Dev nD) (t : Fin cfg0.N) (a : Fin 64) (l : Fin 2048) (r : Fin 1024) (hr : r.val = 64 * t.val + a.val) :
    (outsAt0 m c t.val t.isLt).2.2.2.2.1 (ix2 a l) = wK m c r ⟨1280 + l.val, by omega⟩ := by
  rw [← blk8 m c t a l r hr]
  by_cases h0 : t.val % 16 = 0
  · rw [outsAt0_A m c t h0]
    dsimp only
    frame_out
    unfold k0_pay6
    pointwise
  · rw [outsAt0_B m c t h0]
    dsimp only
    frame_out
    unfold k0_pay6
    pointwise

/-- The rows of the attention projection a point copies. -/
theorem out_pa_apply (c : Dev nD) (t : Fin cfg0.N) (a : Fin 32) (l : Fin 1024) (r : Fin 512) (hr : r.val = 32 * t.val + a.val) :
    (outsAt0 m c t.val t.isLt).2.2.2.2.2.1 (ix2 a l) = m (c, Proc.tc.devRef main_arg4) (ix3 0 r l) := by
  rw [← blk9 m c t a l r hr]
  by_cases h0 : t.val % 16 = 0
  · rw [outsAt0_A m c t h0]
    dsimp only
    frame_out
    unfold k0_pay7
    pointwise
  · rw [outsAt0_B m c t h0]
    dsimp only
    frame_out
    unfold k0_pay7
    pointwise

/-- The rows of the Fourier projection a point copies. -/
theorem out_pf_apply (c : Dev nD) (t : Fin cfg0.N) (a : Fin 32) (l : Fin 1024) (r : Fin 512) (hr : r.val = 32 * t.val + a.val) :
    (outsAt0 m c t.val t.isLt).2.2.2.2.2.2.1 (ix2 a l) = m (c, Proc.tc.devRef main_arg5) (ix3 0 r l) := by
  rw [← blk10 m c t a l r hr]
  by_cases h0 : t.val % 16 = 0
  · rw [outsAt0_A m c t h0]
    dsimp only
    frame_out
    unfold k0_pay8
    pointwise
  · rw [outsAt0_B m c t h0]
    dsimp only
    frame_out
    unfold k0_pay8
    pointwise

/-- The rows of the output projection a point copies. -/
theorem out_wo_apply (c : Dev nD) (t : Fin cfg0.N) (a : Fin 64) (l : Fin 1024) (r : Fin 1024) (hr : r.val = 64 * t.val + a.val) :
    (outsAt0 m c t.val t.isLt).2.2.2.2.2.2.2.1 (ix2 a l) = m (c, Proc.tc.devRef main_arg6) (ix3 0 r l) := by
  rw [← blk11 m c t a l r hr]
  by_cases h0 : t.val % 16 = 0
  · rw [outsAt0_A m c t h0]
    dsimp only
    frame_out
    unfold k0_pay9
    pointwise
  · rw [outsAt0_B m c t h0]
    dsimp only
    frame_out
    unfold k0_pay9
    pointwise

/-- The query array after the run. -/
theorem arr_q (c : Dev nD) : (dats m 0 c).arrAt 12 cfg0.N = fun i => qS (xK m c) (modsK m c) (gK m c) (wK m c) (i 0) (i 1) := by
  refine (dats m 0 c).arrAt_eq_of_covers 12 _ (by decide +kernel) fun t hf y => ?_
  have ht : t.val < 16 := t.isLt
  have hi : win0_12.index t = ![t.val, 0] := (show ∀ t : Fin cfg0.N, win0_12.index t = ![t.val, 0] by decide +kernel) t
  blk_simp [hi]
  rw [after0_12]
  idx_vars y
  refine (out_q_apply m c t _ _ ⟨1024 * t.val + y0.val, by omega⟩ rfl).trans ?_
  refine congrArg₂ (qS (xK m c) (modsK m c) (gK m c) (wK m c)) (Fin.ext ?_) (Fin.ext ?_)
  · change 1024 * t.val + y0.val = _
    blk_simp [hi]
    omega
  · blk_simp [hi]

/-- The key array after the run. -/
theorem arr_k (c : Dev nD) : (dats m 0 c).arrAt 13 cfg0.N = fun i => kS (xK m c) (modsK m c) (gK m c) (wK m c) (i 0) (i 1) := by
  refine (dats m 0 c).arrAt_eq_of_covers 13 _ (by decide +kernel) fun t hf y => ?_
  have ht : t.val < 16 := t.isLt
  have hi : win0_13.index t = ![t.val, 0] := (show ∀ t : Fin cfg0.N, win0_13.index t = ![t.val, 0] by decide +kernel) t
  blk_simp [hi]
  rw [after0_13]
  idx_vars y
  refine (out_k_apply m c t _ _ ⟨1024 * t.val + y0.val, by omega⟩ rfl).trans ?_
  refine congrArg₂ (kS (xK m c) (modsK m c) (gK m c) (wK m c)) (Fin.ext ?_) (Fin.ext ?_)
  · change 1024 * t.val + y0.val = _
    blk_simp [hi]
    omega
  · blk_simp [hi]

/-- The transposed value array after the run. -/
theorem arr_v (c : Dev nD) : (dats m 0 c).arrAt 14 cfg0.N = fun i => vS (xK m c) (modsK m c) (gK m c) (wK m c) (i 0) (i 1) := by
  refine (dats m 0 c).arrAt_eq_of_covers 14 _ (by decide +kernel) fun t hf y => ?_
  have ht : t.val < 16 := t.isLt
  have hi : win0_14.index t = ![0, t.val] := (show ∀ t : Fin cfg0.N, win0_14.index t = ![0, t.val] by decide +kernel) t
  blk_simp [hi]
  rw [after0_14]
  idx_vars y
  refine (out_v_apply m c t _ _ ⟨1024 * t.val + y1.val, by omega⟩ rfl).trans ?_
  refine congrArg₂ (vS (xK m c) (modsK m c) (gK m c) (wK m c)) (Fin.ext ?_) (Fin.ext ?_)
  · blk_simp [hi]
  · change 1024 * t.val + y1.val = _
    blk_simp [hi]
    omega

/-- The Fourier array after the run. -/
theorem arr_f (c : Dev nD) : (dats m 0 c).arrAt 15 cfg0.N = fun i => fS (xK m c) (modsK m c) (gK m c) (wK m c) (i 0) (i 1) := by
  refine (dats m 0 c).arrAt_eq_of_covers 15 _ (by decide +kernel) fun t hf y => ?_
  have ht : t.val < 16 := t.isLt
  have hi : win0_15.index t = ![t.val, 0] := (show ∀ t : Fin cfg0.N, win0_15.index t = ![t.val, 0] by decide +kernel) t
  blk_simp [hi]
  rw [after0_15]
  idx_vars y
  refine (out_f_apply m c t _ _ ⟨1024 * t.val + y0.val, by omega⟩ rfl).trans ?_
  refine congrArg₂ (fS (xK m c) (modsK m c) (gK m c) (wK m c)) (Fin.ext ?_) (Fin.ext ?_)
  · change 1024 * t.val + y0.val = _
    blk_simp [hi]
    omega
  · blk_simp [hi]

/-- The gate weight array after the run. -/
theorem arr_gw (c : Dev nD) : (dats m 0 c).arrAt 16 cfg0.N = fun i => wK m c (i 0) ⟨1280 + (i 1).val, by have h : (i 1).val < 2048 := (i 1).isLt; omega⟩ := by
  refine (dats m 0 c).arrAt_eq_of_covers 16 _ (by decide +kernel) fun t hf y => ?_
  have ht : t.val < 16 := t.isLt
  have hi : win0_16.index t = ![t.val, 0] := (show ∀ t : Fin cfg0.N, win0_16.index t = ![t.val, 0] by decide +kernel) t
  blk_simp [hi]
  rw [after0_16]
  idx_vars y
  refine (out_gw_apply m c t _ _ ⟨64 * t.val + y0.val, by omega⟩ rfl).trans ?_
  refine congrArg₂ (wK m c) (Fin.ext ?_) rfl
  change 64 * t.val + y0.val = _
  blk_simp [hi]
  omega

/-- The attention projection array after the run. -/
theorem arr_pa (c : Dev nD) : (dats m 0 c).arrAt 17 cfg0.N = fun i => m (c, Proc.tc.devRef main_arg4) (ix3 0 (i 0) (i 1)) := by
  refine (dats m 0 c).arrAt_eq_of_covers 17 _ (by decide +kernel) fun t hf y => ?_
  have ht : t.val < 16 := t.isLt
  have hi : win0_17.index t = ![t.val, 0] := (show ∀ t : Fin cfg0.N, win0_17.index t = ![t.val, 0] by decide +kernel) t
  blk_simp [hi]
  rw [after0_17]
  idx_vars y
  refine (out_pa_apply m c t _ _ ⟨32 * t.val + y0.val, by omega⟩ rfl).trans ?_
  refine congrArg₂ (fun a b => m (c, Proc.tc.devRef main_arg4) (ix3 0 a b)) (Fin.ext ?_) (Fin.ext ?_)
  · change 32 * t.val + y0.val = _
    blk_simp [hi]
    omega
  · blk_simp [hi]

/-- The Fourier projection array after the run. -/
theorem arr_pf (c : Dev nD) : (dats m 0 c).arrAt 18 cfg0.N = fun i => m (c, Proc.tc.devRef main_arg5) (ix3 0 (i 0) (i 1)) := by
  refine (dats m 0 c).arrAt_eq_of_covers 18 _ (by decide +kernel) fun t hf y => ?_
  have ht : t.val < 16 := t.isLt
  have hi : win0_18.index t = ![t.val, 0] := (show ∀ t : Fin cfg0.N, win0_18.index t = ![t.val, 0] by decide +kernel) t
  blk_simp [hi]
  rw [after0_18]
  idx_vars y
  refine (out_pf_apply m c t _ _ ⟨32 * t.val + y0.val, by omega⟩ rfl).trans ?_
  refine congrArg₂ (fun a b => m (c, Proc.tc.devRef main_arg5) (ix3 0 a b)) (Fin.ext ?_) (Fin.ext ?_)
  · change 32 * t.val + y0.val = _
    blk_simp [hi]
    omega
  · blk_simp [hi]

/-- The output projection array after the run. -/
theorem arr_wo (c : Dev nD) : (dats m 0 c).arrAt 19 cfg0.N = fun i => m (c, Proc.tc.devRef main_arg6) (ix3 0 (i 0) (i 1)) := by
  refine (dats m 0 c).arrAt_eq_of_covers 19 _ (by decide +kernel) fun t hf y => ?_
  have ht : t.val < 16 := t.isLt
  have hi : win0_19.index t = ![t.val, 0] := (show ∀ t : Fin cfg0.N, win0_19.index t = ![t.val, 0] by decide +kernel) t
  blk_simp [hi]
  rw [after0_19]
  idx_vars y
  refine (out_wo_apply m c t _ _ ⟨64 * t.val + y0.val, by omega⟩ rfl).trans ?_
  refine congrArg₂ (fun a b => m (c, Proc.tc.devRef main_arg6) (ix3 0 a b)) (Fin.ext ?_) (Fin.ext ?_)
  · change 64 * t.val + y0.val = _
    blk_simp [hi]
    omega
  · blk_simp [hi]

end InProj
-- ==== Proof.InProj.Ref.lean ====
module

public import proofs.«01_k».proof.Proof.Gen.ReferenceIdeal.Read
public import proofs.«01_k».proof.Proof.InProj.Spec

@[expose] public section

set_option maxRecDepth 16384

noncomputable section

open Idealize.ShloMosaic Idealize.ShloMosaic.TcCoe Idealize.SL.Sem
open Cert.ReferenceIdeal Cert.ReferenceIdeal.Gen Cert.ReferenceIdeal.Read

namespace InProj

variable (x0 : (⟨S2x8192x1024, .f32⟩ : BufTy).Contents (Elt Ideal)) (x1 : (⟨S8x6144, .f32⟩ : BufTy).Contents (Elt Ideal))
  (x2 : (⟨S1x1024, .f32⟩ : BufTy).Contents (Elt Ideal)) (x3 : (⟨S1x1024x3328, .f32⟩ : BufTy).Contents (Elt Ideal))
  (x4 x5 : (⟨S1x512x1024, .f32⟩ : BufTy).Contents (Elt Ideal)) (x6 : (⟨S1x1024x1024, .f32⟩ : BufTy).Contents (Elt Ideal))

/-- The activations by coordinates. -/
abbrev xA (b : Fin 2) (s : Fin 8192) (k : Fin 1024) : EReal := x0 (ix3 b s k)
/-- The modulation vectors by coordinates. -/
abbrev modsA (b : Fin 8) (k : Fin 6144) : EReal := x1 (ix2 b k)
/-- The gain by coordinate. -/
abbrev gA (k : Fin 1024) : EReal := x2 (ix2 0 k)
/-- The input weight by coordinates. -/
abbrev wA (k : Fin 1024) (n : Fin 3328) : EReal := x3 (ix3 0 k n)

/-- The reference's normalized and modulated rows, by token number. -/
theorem ref_h_tok (R : Fin 16384) (k : Fin 1024) :
    val_main_v67 x0 x1 x2 (ix3 ⟨R.val / 8192, by omega⟩ ⟨R.val % 8192, by omega⟩ k) = hrow (xA x0) (modsA x1) (gA x2) R k := by
  unfold val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v43 val_main_v42 val_main_v37 val_main_v36 val_main_v35 val_main_cst_3 val_main_cst_4 val_main_cst_5 val_main_cst_6
  pointwise
  unfold hrow xA modsA gA
  simp only [mul_assoc]

/-- The same by image and position. -/
theorem ref_h (b : Fin 2) (s : Fin 8192) (R : Fin 16384) (hR : R.val = 8192 * b.val + s.val) (k : Fin 1024) :
    val_main_v67 x0 x1 x2 (ix3 b s k) = hrow (xA x0) (modsA x1) (gA x2) R k := by
  refine (congrArg (val_main_v67 x0 x1 x2) (congrArg₂ (fun u v => ix3 u v k) (Fin.ext ?_) (Fin.ext ?_))).trans (ref_h_tok x0 x1 x2 R k)
  · show b.val = R.val / 8192; omega
  · show s.val = R.val % 8192; omega

/-- The reference's projection. -/
theorem ref_col (b : Fin 2) (s : Fin 8192) (R : Fin 16384) (hR : R.val = 8192 * b.val + s.val) (n : Fin 3328) :
    val_main_v69 x0 x1 x2 x3 (ix3 b s n) = col (xA x0) (modsA x1) (gA x2) (wA x3) R n := by
  unfold val_main_v69 val_main_v68
  pointwise
  unfold col
  exact Finset.sum_congr rfl fun k _ => congrArg₂ _ (ref_h x0 x1 x2 b s R hR k) rfl

/-- The cosines and sines of the row angles and of the column angles. -/
theorem ref_tabs (s : Fin 8192) (k : Fin 16) :
    val_main_v31 (F := Ideal) (ix3 s 0 k) = Ideal.cos (ang (s.val / 64) k.val)
      ∧ val_main_v32 (F := Ideal) (ix3 s 0 k) = Ideal.sin (ang (s.val / 64) k.val)
      ∧ val_main_v33 (F := Ideal) (ix3 s 0 k) = Ideal.cos (ang (s.val % 64) k.val)
      ∧ val_main_v34 (F := Ideal) (ix3 s 0 k) = Ideal.sin (ang (s.val % 64) k.val) := by
  unfold ang freq
  refine ⟨?_, ?_, ?_, ?_⟩
  · unfold val_main_v31 val_main_v24 val_main_v23 val_main_v22 val_main_v21 val_main_v20 val_main_v19 val_main_v18 val_main_v17 val_main_v16 val_main_v15 val_main_v14 val_main_v13 val_main_v12 val_main_v11 val_main_v10 val_main_v9 val_main_v3 val_main_v2 val_main_v1 val_main_v0 val_main_cst val_main_cst_0 val_main_cst_1 val_main_cst_2
    pointwise
  · unfold val_main_v32 val_main_v24 val_main_v23 val_main_v22 val_main_v21 val_main_v20 val_main_v19 val_main_v18 val_main_v17 val_main_v16 val_main_v15 val_main_v14 val_main_v13 val_main_v12 val_main_v11 val_main_v10 val_main_v9 val_main_v3 val_main_v2 val_main_v1 val_main_v0 val_main_cst val_main_cst_0 val_main_cst_1 val_main_cst_2
    pointwise
  · unfold val_main_v33 val_main_v30 val_main_v29 val_main_v28 val_main_v27 val_main_v26 val_main_v25 val_main_v18 val_main_v17 val_main_v16 val_main_v15 val_main_v14 val_main_v13 val_main_v12 val_main_v11 val_main_v10 val_main_v9 val_main_v8 val_main_v7 val_main_v6 val_main_v5 val_main_v4 val_main_cst val_main_cst_0 val_main_cst_1 val_main_cst_2
    pointwise
  · unfold val_main_v34 val_main_v30 val_main_v29 val_main_v28 val_main_v27 val_main_v26 val_main_v25 val_main_v18 val_main_v17 val_main_v16 val_main_v15 val_main_v14 val_main_v13 val_main_v12 val_main_v11 val_main_v10 val_main_v9 val_main_v8 val_main_v7 val_main_v6 val_main_v5 val_main_v4 val_main_cst val_main_cst_0 val_main_cst_1 val_main_cst_2
    pointwise

/-- Angles by lane, from the position of token `8192 b + s`. -/
theorem laneAng_row (R s d : ℕ) (hs : s = R % 8192) (hd : d < 32) : laneAng R d = ang (s / 64) (d % 16) := by
  unfold laneAng; rw [if_pos hd, hs]

/-- The lanes past 32 turn with the column. -/
theorem laneAng_col (R s d : ℕ) (hs : s = R % 8192) (hd : ¬ d < 32) : laneAng R d = ang (s % 64) (d % 16) := by
  unfold laneAng; rw [if_neg hd]
  have e : R % 64 = s % 64 := by omega
  rw [e]

/-- One rotated lane, as the reference's four cases write it. -/
theorem rope_cases (x : Fin 2 → Fin 8192 → Fin 1024 → EReal) (mods : Fin 8 → Fin 6144 → EReal) (g : Fin 1024 → EReal)
    (w : Fin 1024 → Fin 3328 → EReal) (R : Fin 16384) (s b d : ℕ) (hb : b ≤ 3264) (hd : d < 64) (hs : s = R.val % 8192)
    (y : Fin 3328 → EReal) (hy : y = col x mods g w R) :
    rope x mods g w R b d hb hd =
      if h : d < 32 then
        if h' : d < 16 then y ⟨b + d, by omega⟩ * Ideal.cos (ang (s / 64) d) - y ⟨b + (16 + d), by omega⟩ * Ideal.sin (ang (s / 64) d)
        else y ⟨b + (16 + (d - 16)), by omega⟩ * Ideal.cos (ang (s / 64) (d - 16)) + y ⟨b + (d - 16), by omega⟩ * Ideal.sin (ang (s / 64) (d - 16))
      else
        if h' : d - 32 < 16 then y ⟨b + (32 + (d - 32)), by omega⟩ * Ideal.cos (ang (s % 64) (d - 32)) - y ⟨b + (32 + (16 + (d - 32))), by omega⟩ * Ideal.sin (ang (s % 64) (d - 32))
        else y ⟨b + (32 + (16 + (d - 32 - 16))), by omega⟩ * Ideal.cos (ang (s % 64) (d - 32 - 16)) + y ⟨b + (32 + (d - 32 - 16)), by omega⟩ * Ideal.sin (ang (s % 64) (d - 32 - 16)) := by
  subst hy
  unfold rope
  by_cases h1 : d < 32
  · rw [laneAng_row R s d hs h1, dif_pos h1]
    by_cases h2 : d < 16
    · have e1 : d % 16 = d := by omega
      have e2 : d + 16 = 16 + d := by omega
      rw [dif_pos h2, dif_pos (by omega), sub_eq_add_neg, mul_neg]
      simp only [e1, e2]
    · have e1 : d % 16 = d - 16 := by omega
      have e2 : 16 + (d - 16) = d := by omega
      rw [dif_neg h2, dif_neg (by omega)]
      simp only [e1, e2]
  · rw [laneAng_col R s d hs h1, dif_neg h1]
    by_cases h2 : d - 32 < 16
    · have e1 : d % 16 = d - 32 := by omega
      have e2 : 32 + (d - 32) = d := by omega
      have e3 : 32 + (16 + (d - 32)) = d + 16 := by omega
      rw [dif_pos h2, dif_pos (by omega), sub_eq_add_neg, mul_neg]
      simp only [e1, e2, e3]
    · have e1 : d % 16 = d - 32 - 16 := by omega
      have e2 : 32 + (16 + (d - 32 - 16)) = d := by omega
      have e3 : 32 + (d - 32 - 16) = d - 16 := by omega
      rw [dif_neg h2, dif_neg (by omega)]
      simp only [e1, e2, e3]

/-- The reference's rotated queries. -/
theorem ref_q (b : Fin 2) (s : Fin 8192) (R : Fin 16384) (hR : R.val = 8192 * b.val + s.val) (k : Fin 8) (d : Fin 64) :
    val_main_v113 x0 x1 x2 x3 (ix4 b s k d)
      = rope (xA x0) (modsA x1) (gA x2) (wA x3) R (k.val * 64) d.val (by omega) d.isLt := by
  rw [rope_cases _ _ _ _ R s.val (k.val * 64) d.val _ _ (by omega)
    _ rfl]
  unfold val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v70
  have hy := ref_col x0 x1 x2 x3 b s R hR
  have ht := ref_tabs s
  revert hy ht
  generalize val_main_v69 x0 x1 x2 x3 = y
  generalize val_main_v31 (F := Ideal) = c1
  generalize val_main_v32 (F := Ideal) = s1
  generalize val_main_v33 (F := Ideal) = c2
  generalize val_main_v34 (F := Ideal) = s2
  intro hy ht
  pointwise
  simp only [hy, (ht _).1, (ht _).2.1, (ht _).2.2.1, (ht _).2.2.2]

/-- The reference's rotated keys. -/
theorem ref_k (b : Fin 2) (s : Fin 8192) (R : Fin 16384) (hR : R.val = 8192 * b.val + s.val) (k : Fin 2) (d : Fin 64) :
    val_main_v151 x0 x1 x2 x3 (ix4 b s k d)
      = rope (xA x0) (modsA x1) (gA x2) (wA x3) R (512 + k.val * 64) d.val (by omega) d.isLt := by
  rw [rope_cases _ _ _ _ R s.val (512 + k.val * 64) d.val _ _ (by omega)
    _ rfl]
  unfold val_main_v151 val_main_v150 val_main_v149 val_main_v148 val_main_v147 val_main_v146 val_main_v145 val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v71
  have hy := ref_col x0 x1 x2 x3 b s R hR
  have ht := ref_tabs s
  revert hy ht
  generalize val_main_v69 x0 x1 x2 x3 = y
  generalize val_main_v31 (F := Ideal) = c1
  generalize val_main_v32 (F := Ideal) = s1
  generalize val_main_v33 (F := Ideal) = c2
  generalize val_main_v34 (F := Ideal) = s2
  intro hy ht
  pointwise
  simp only [hy, (ht _).1, (ht _).2.1, (ht _).2.2.1, (ht _).2.2.2]
  simp only [Nat.add_assoc]

/-- The reference's queries, in the kernel's lane order. -/
theorem ref_v158 (R : Fin 16384) (l : Fin 512) :
    val_main_v158 x0 x1 x2 x3 (ix2 R l) = qS (xA x0) (modsA x1) (gA x2) (wA x3) R l := by
  unfold val_main_v158 val_main_v156 val_main_v155 val_main_v154 val_main_v153 val_main_v152 val_main_cst_7
  have hq := fun b s => ref_q x0 x1 x2 x3 b s R
  revert hq
  generalize val_main_v113 x0 x1 x2 x3 = y
  intro hq
  pointwise
  rw [hq ⟨R.val / 8192, by omega⟩ ⟨R.val % 8192, by omega⟩ (by show R.val = 8192 * (R.val / 8192) + R.val % 8192; omega)]
  unfold qS
  have e : (l.val / 64 % 2 * 4 + l.val / 128) * 64 = 64 * (4 * (l.val % 128 / 64) + l.val / 128) := by omega
  simp only [e]

/-- The reference's keys. -/
theorem ref_v160 (R : Fin 16384) (l : Fin 128) :
    val_main_v160 x0 x1 x2 x3 (ix2 R l) = kS (xA x0) (modsA x1) (gA x2) (wA x3) R l := by
  unfold val_main_v160 val_main_v159
  have hq := fun b s => ref_k x0 x1 x2 x3 b s R
  revert hq
  generalize val_main_v151 x0 x1 x2 x3 = y
  intro hq
  pointwise
  rw [hq ⟨R.val / 8192, by omega⟩ ⟨R.val % 8192, by omega⟩ (by show R.val = 8192 * (R.val / 8192) + R.val % 8192; omega)]
  unfold kS
  have e : l.val / 64 * 64 = 64 * (l.val / 64) := by omega
  simp only [e]

/-- The reference's values, transposed. -/
theorem ref_v163 (l : Fin 128) (R : Fin 16384) :
    val_main_v163 x0 x1 x2 x3 (ix2 l R) = vS (xA x0) (modsA x1) (gA x2) (wA x3) l R := by
  unfold val_main_v163 val_main_v162 val_main_v161 val_main_v72
  have hq := fun b s => ref_col x0 x1 x2 x3 b s R
  revert hq
  generalize val_main_v69 x0 x1 x2 x3 = y
  intro hq
  pointwise
  rw [hq ⟨R.val / 8192, by omega⟩ ⟨R.val % 8192, by omega⟩ (by show R.val = 8192 * (R.val / 8192) + R.val % 8192; omega)]
  rfl

/-- The reference's Fourier columns. -/
theorem ref_v164 (R : Fin 16384) (l : Fin 512) :
    val_main_v164 x0 x1 x2 x3 (ix2 R l) = fS (xA x0) (modsA x1) (gA x2) (wA x3) R l := by
  unfold val_main_v164 val_main_v73
  have hq := fun b s => ref_col x0 x1 x2 x3 b s R
  revert hq
  generalize val_main_v69 x0 x1 x2 x3 = y
  intro hq
  pointwise
  rw [hq ⟨R.val / 8192, by omega⟩ ⟨R.val % 8192, by omega⟩ (by show R.val = 8192 * (R.val / 8192) + R.val % 8192; omega)]
  rfl

/-- The gate columns of the weight. -/
theorem ref_v165 (r : Fin 1024) (l : Fin 2048) : val_main_v165 x3 (ix2 r l) = wA x3 r ⟨1280 + l.val, by omega⟩ := by
  unfold val_main_v165 val_main_v157 val_main_v68
  pointwise

/-- The attention's output weight. -/
theorem ref_v167 (r : Fin 512) (l : Fin 1024) : val_main_v167 x4 (ix2 r l) = x4 (ix3 0 r l) := by
  unfold val_main_v167 val_main_v166
  pointwise

/-- The Fourier branch's output weight. -/
theorem ref_v169 (r : Fin 512) (l : Fin 1024) : val_main_v169 x5 (ix2 r l) = x5 (ix3 0 r l) := by
  unfold val_main_v169 val_main_v168
  pointwise

/-- The last weight. -/
theorem ref_v171 (r : Fin 1024) (l : Fin 1024) : val_main_v171 x6 (ix2 r l) = x6 (ix3 0 r l) := by
  unfold val_main_v171 val_main_v170
  pointwise

end InProj
-- ==== Proof.InProj.Claim.lean ====
module

public import proofs.«01_k».proof.Defs
public import proofs.«01_k».proof.Proof.InProj.Arrays
public import proofs.«01_k».proof.Proof.InProj.Ref
public import proofs.«01_k».proof.Proof.Gen.ReferenceIdeal
public import Idealize.ShloMosaic.Lib.Quiescent

@[expose] public section

set_option maxRecDepth 16384

noncomputable section

open Idealize.ShloMosaic Idealize.ShloMosaic.TcCoe Idealize.SL.Sem
open Cert.KernelIdeal Cert.KernelIdeal.Gen

namespace InProj

variable (m : (ℓ : Loc nD τ sig) → Buf (Elt Ideal) ℓ)

section Results

open Cert.ReferenceIdeal.Read

variable (c : Dev nD)
  (x0 : (⟨Cert.ReferenceIdeal.S2x8192x1024, .f32⟩ : BufTy).Contents (Elt Ideal)) (x1 : (⟨Cert.ReferenceIdeal.S8x6144, .f32⟩ : BufTy).Contents (Elt Ideal))
  (x2 : (⟨Cert.ReferenceIdeal.S1x1024, .f32⟩ : BufTy).Contents (Elt Ideal)) (x3 : (⟨Cert.ReferenceIdeal.S1x1024x3328, .f32⟩ : BufTy).Contents (Elt Ideal))
  (x4 : (⟨Cert.ReferenceIdeal.S1x512x1024, .f32⟩ : BufTy).Contents (Elt Ideal)) (x6 : (⟨Cert.ReferenceIdeal.S1x1024x1024, .f32⟩ : BufTy).Contents (Elt Ideal))
  (e0 : x0 = m (c, Proc.tc.devRef main_arg0)) (e1 : x1 = m (c, Proc.tc.devRef main_arg1))
  (e2 : x2 = m (c, Proc.tc.devRef main_arg2)) (e3 : x3 = m (c, Proc.tc.devRef main_arg3))

include e0 e1 e2 e3 in
/-- The reference's queries, from the kernel's arguments. -/
theorem res_q : val_main_v158 x0 x1 x2 x3 = fun i => qS (xK m c) (modsK m c) (gK m c) (wK m c) (i 0) (i 1) := by
  subst e0 e1 e2 e3
  funext i
  idx_vars i
  exact ref_v158 _ _ _ _ _ _

include e0 e1 e2 e3 in
/-- The reference's keys, from the kernel's arguments. -/
theorem res_k : val_main_v160 x0 x1 x2 x3 = fun i => kS (xK m c) (modsK m c) (gK m c) (wK m c) (i 0) (i 1) := by
  subst e0 e1 e2 e3
  funext i
  idx_vars i
  exact ref_v160 _ _ _ _ _ _

include e0 e1 e2 e3 in
/-- The reference's transposed values, from the kernel's arguments. -/
theorem res_v : val_main_v163 x0 x1 x2 x3 = fun i => vS (xK m c) (modsK m c) (gK m c) (wK m c) (i 0) (i 1) := by
  subst e0 e1 e2 e3
  funext i
  idx_vars i
  exact ref_v163 _ _ _ _ _ _

include e0 e1 e2 e3 in
/-- The reference's Fourier columns, from the kernel's arguments. -/
theorem res_f : val_main_v164 x0 x1 x2 x3 = fun i => fS (xK m c) (modsK m c) (gK m c) (wK m c) (i 0) (i 1) := by
  subst e0 e1 e2 e3
  funext i
  idx_vars i
  exact ref_v164 _ _ _ _ _ _

include e3 in
/-- The reference's gate columns of the weights, from the kernel's arguments. -/
theorem res_gw : val_main_v165 x3 = fun i => wK m c (i 0) ⟨1280 + (i 1).val, by have h : (i 1).val < 2048 := (i 1).isLt; omega⟩ := by
  subst e3
  funext i
  idx_vars i
  exact ref_v165 _ _ _

/-- The reference's attention projection, from the kernel's arguments. -/
theorem res_pa (e : x4 = m (c, Proc.tc.devRef main_arg4)) :
    val_main_v167 x4 = fun i => m (c, Proc.tc.devRef main_arg4) (ix3 0 (i 0) (i 1)) := by
  subst e
  funext i
  idx_vars i
  exact ref_v167 _ _ _

/-- The reference's Fourier projection, from the kernel's arguments. -/
theorem res_pf (e : x4 = m (c, Proc.tc.devRef main_arg5)) :
    val_main_v169 x4 = fun i => m (c, Proc.tc.devRef main_arg5) (ix3 0 (i 0) (i 1)) := by
  subst e
  funext i
  idx_vars i
  exact ref_v169 _ _ _

/-- The reference's output projection, from the kernel's arguments. -/
theorem res_wo (e : x6 = m (c, Proc.tc.devRef main_arg6)) :
    val_main_v171 x6 = fun i => m (c, Proc.tc.devRef main_arg6) (ix3 0 (i 0) (i 1)) := by
  subst e
  funext i
  idx_vars i
  exact ref_v171 _ _ _

end Results

/-- The reference runs, keeps its arguments and leaves every counter at zero. -/
theorem frame_ref : Cert.quiescent_ReferenceIdeal (hReferenceIdeal := Cert.ReferenceIdeal.Gen.facts) := fun m ρ _ =>
  (θ_run _ _ _).mono (fun r h => ⟨fun c => (h c).2.2.2.2.2.2.2.2, sem_eq_zero_of_no_sems rfl r.2⟩) (Cert.ReferenceIdeal.Value.run (F := Ideal) m ρ)

set_option maxHeartbeats 4000000 in
/-- From equal arguments the kernel and the reference leave equal queries, keys, values, Fourier columns and weights. -/
theorem algebraic : Cert.algebraic_KernelIdeal_ReferenceIdeal (hKernelIdeal := Cert.KernelIdeal.Gen.facts)
    (hReferenceIdeal := Cert.ReferenceIdeal.Gen.facts) := fun m ρ m' ρ' _ hag =>
  ⟨_, _, _, _, _, _, _, _,
    (θ_run _ _ _).mono (fun r h c => ⟨(h c).1.trans (arr_q m c), (h c).2.1.trans (arr_k m c), (h c).2.2.1.trans (arr_v m c),
      (h c).2.2.2.1.trans (arr_f m c), (h c).2.2.2.2.1.trans (arr_gw m c), (h c).2.2.2.2.2.1.trans (arr_pa m c),
      (h c).2.2.2.2.2.2.1.trans (arr_pf m c), (h c).2.2.2.2.2.2.2.1.trans (arr_wo m c), (h c).2.2.2.2.2.2.2.2⟩)
      (Cert.KernelIdeal.Value.run_blocks (F := Ideal) m ρ),
    (θ_run _ _ _).mono (fun r h c =>
      have g := hag c
      ⟨(h c).1.trans ((Cert.ReferenceIdeal.Read.val_main_v158_eq _).trans (res_q m c _ _ _ _ g.1 g.2.1 g.2.2.1 g.2.2.2.1)),
        (h c).2.1.trans ((Cert.ReferenceIdeal.Read.val_main_v160_eq _).trans (res_k m c _ _ _ _ g.1 g.2.1 g.2.2.1 g.2.2.2.1)),
        (h c).2.2.1.trans ((Cert.ReferenceIdeal.Read.val_main_v163_eq _).trans (res_v m c _ _ _ _ g.1 g.2.1 g.2.2.1 g.2.2.2.1)),
        (h c).2.2.2.1.trans ((Cert.ReferenceIdeal.Read.val_main_v164_eq _).trans (res_f m c _ _ _ _ g.1 g.2.1 g.2.2.1 g.2.2.2.1)),
        (h c).2.2.2.2.1.trans ((Cert.ReferenceIdeal.Read.val_main_v165_eq _).trans (res_gw m c _ g.2.2.2.1)),
        (h c).2.2.2.2.2.1.trans ((Cert.ReferenceIdeal.Read.val_main_v167_eq _).trans (res_pa m c _ g.2.2.2.2.1)),
        (h c).2.2.2.2.2.2.1.trans ((Cert.ReferenceIdeal.Read.val_main_v169_eq _).trans (res_pf m c _ g.2.2.2.2.2.1)),
        (h c).2.2.2.2.2.2.2.1.trans ((Cert.ReferenceIdeal.Read.val_main_v171_eq _).trans (res_wo m c _ g.2.2.2.2.2.2)),
        (h c).2.2.2.2.2.2.2.2⟩)
      (Cert.ReferenceIdeal.Value.run (F := Ideal) m' ρ')⟩

end InProj
-- ==== Proof.ConvFfn.Spec.lean ====
/-
  What the convolutional feed-forward computes, written out over the extended reals in plain coordinates: the
  normalized and modulated rows, the up projection, the three-row convolution of its first half along the sequence, the
  gated activation, the down projection and the normalized, gated residual. Both programs are read against these
  definitions.
-/
module

public import Idealize.ShloMosaic.Lib.Pipeline.ValueKit
public import Idealize.ShloMosaic.Lib.Pointwise

@[expose] public section

noncomputable section

open Idealize.ShloMosaic

namespace ConvFfn

variable (x : Fin 2 → Fin 8192 → Fin 1024 → EReal) (mods : Fin 8 → Fin 6144 → EReal) (g g2 : Fin 1024 → EReal)
  (wu : Fin 1024 → Fin 5632 → EReal) (cw : Fin 3 → Fin 2816 → EReal) (cb : Fin 2816 → EReal)
  (wd : Fin 2816 → Fin 1024 → EReal)

/-- The reciprocal root of the mean square of a row. -/
def rms (v : Fin 1024 → EReal) : EReal :=
  Ideal.rsqrt (Ideal.div (∑ j, v j * v j) (Ideal.ofBits FTy.f32 1149239296#32) + Ideal.ofBits FTy.f32 897988541#32)

/-- A row normalized by its root mean square, scaled and shifted. -/
def mrow (v g sc sh : Fin 1024 → EReal) (k : Fin 1024) : EReal := v k * rms v * (g k * (1 + sc k)) + sh k

/-- Token `R`'s row, normalized and modulated. -/
def hrow (R : Fin 16384) : Fin 1024 → EReal :=
  mrow (x ⟨R.val / 8192, by omega⟩ ⟨R.val % 8192, by omega⟩) g
    (fun k => mods ⟨R.val / 8192, by omega⟩ ⟨4096 + k.val, by omega⟩)
    (fun k => mods ⟨R.val / 8192, by omega⟩ ⟨3072 + k.val, by omega⟩)

/-- Token `R`'s row against column `n` of the up projection. -/
def up (R : Fin 16384) (n : Fin 5632) : EReal := ∑ k, hrow x mods g R k * wu k n

/-- The up projection of the token before `R`, zero at the start of a sequence. -/
def upPrev (R : Fin 16384) (n : Fin 5632) : EReal :=
  if R.val % 8192 = 0 then 0 else up x mods g wu ⟨R.val - 1, by omega⟩ n

/-- The up projection of the token after `R`, zero at the end of a sequence. -/
def upNext (R : Fin 16384) (n : Fin 5632) : EReal :=
  if h : R.val % 8192 = 8191 then 0 else up x mods g wu ⟨R.val + 1, by omega⟩ n

/-- Three rows of the convolution and its bias. -/
def taps (p q r c0 c1 c2 b : EReal) : EReal := p * c0 + q * c1 + r * c2 + b

/-- A value times its logistic, gated. -/
def gated (v u : EReal) : EReal := v * Ideal.logistic v * u

/-- The gated activation. -/
def act (R : Fin 16384) (n : Fin 2816) : EReal :=
  gated (taps (upPrev x mods g wu R ⟨n.val, by omega⟩) (up x mods g wu R ⟨n.val, by omega⟩) (upNext x mods g wu R ⟨n.val, by omega⟩)
      (cw 0 n) (cw 1 n) (cw 2 n) (cb n))
    (up x mods g wu R ⟨2816 + n.val, by omega⟩)

/-- The down projection. -/
def down (R : Fin 16384) (k : Fin 1024) : EReal := ∑ n, act x mods g wu cw cb R n * wd n k

/-- The result: the activations and the gated, normalized down projection. -/
def res (R : Fin 16384) (k : Fin 1024) : EReal :=
  x ⟨R.val / 8192, by omega⟩ ⟨R.val % 8192, by omega⟩ k +
    mods ⟨R.val / 8192, by omega⟩ ⟨5120 + k.val, by omega⟩ *
      (down x mods g wu cw cb wd R k * rms (down x mods g wu cw cb wd R) * g2 k)

end ConvFfn
-- ==== Proof.ConvFfn.Pays.lean ====
module

public import Idealize.ShloMosaic.Lib.Pointwise
public import proofs.«01_k».proof.Proof.Gen.Kernel2Ideal.Skeleton
public import proofs.«01_k».proof.Proof.ConvFfn.Spec

@[expose] public section

set_option maxRecDepth 16384

noncomputable section

open Idealize.ShloMosaic Idealize.ShloMosaic.TcCoe Idealize.SL.Sem
open Cert.Kernel2Ideal Cert.Kernel2Ideal.Gen

namespace ConvFfn

/-- The blocks' copies are the blocks. -/
theorem pay4_eq (v : Vec Ideal S1024x1024 .f32) : k0_pay4 v = v := by
  funext i; idx_vars i; unfold k0_pay4; pointwise

/-- The gain's copy is the gain. -/
theorem pay5_eq (v : Vec Ideal S1x1024 .f32) : k0_pay5 v = v := by
  funext i; idx_vars i; unfold k0_pay5; pointwise

/-- The normalized, modulated rows of a block. -/
theorem pay6_apply (v : FVec Ideal S1024x1024 .f32) (sh sc g : Vec Ideal S1x1024 .f32) (r k : Fin 1024) :
    k0_pay6 v sh sc g (ix2 r k)
      = mrow (fun k => v (ix2 r k)) (fun k => g (ix2 0 k)) (fun k => sc (ix2 0 k)) (fun k => sh (ix2 0 k)) k := by
  unfold k0_pay6
  rw [pay5_eq]
  pointwise
  rfl

/-- The other gain's copy is the other gain. -/
theorem pay49_eq (v : Vec Ideal S1x1024 .f32) : k0_pay49 v = v := by
  funext i; idx_vars i; unfold k0_pay49; pointwise

/-- Over the extended reals the rounded rows are the rows. -/
theorem pay9_apply (v : FVec Ideal S1024x1024 .f32) (r k : Fin 1024) : k0_pay9 v (ix2 r k) = v (ix2 r k) := by
  unfold k0_pay9; pointwise

/-- The extended rows: the middle is the block's rows. -/
theorem pay8_mid (p q : Elt Ideal .f32) (sh sc : Vec Ideal S1x1024 .f32) (g : FVec Ideal S1x1024 .f32) (h : FVec Ideal S1024x1024 .f32)
    (u w : Vec Ideal S8x1024 .f32) (a : Fin 1040) (r k : Fin 1024) (ha : a.val = r.val + 8) :
    k0_pay8 p q sh sc g h (k0_pay7 u) w (ix2 a k) = h (ix2 r k) := by
  have e : a = ⟨r.val + 8, by omega⟩ := Fin.ext ha
  rw [e]
  unfold k0_pay8
  pointwise
  rw [dif_neg (by omega), dif_pos (by omega)]
  exact congrArg h (congrArg₂ ix2 (Fin.ext (by simp)) rfl)

/-- The row before them is the last row of the block before, modulated, or zero. -/
theorem pay8_lo (p q : Elt Ideal .f32) (sh sc : Vec Ideal S1x1024 .f32) (g : FVec Ideal S1x1024 .f32) (h : FVec Ideal S1024x1024 .f32)
    (u w : Vec Ideal S8x1024 .f32) (k : Fin 1024) :
    k0_pay8 p q sh sc g h (k0_pay7 u) w (ix2 7 k)
      = mrow (fun k => u (ix2 7 k)) (fun k => g (ix2 0 k)) (fun k => sc (ix2 0 k)) (fun k => sh (ix2 0 k)) k * p := by
  unfold k0_pay8 k0_pay7
  pointwise
  rfl

/-- The row after them is the first row of the block after, modulated, or zero. -/
theorem pay8_hi (p q : Elt Ideal .f32) (sh sc : Vec Ideal S1x1024 .f32) (g : FVec Ideal S1x1024 .f32) (h : FVec Ideal S1024x1024 .f32)
    (u w : Vec Ideal S8x1024 .f32) (k : Fin 1024) :
    k0_pay8 p q sh sc g h (k0_pay7 u) w (ix2 1032 k)
      = mrow (fun k => w (ix2 0 k)) (fun k => g (ix2 0 k)) (fun k => sc (ix2 0 k)) (fun k => sh (ix2 0 k)) k * q := by
  unfold k0_pay8 k0_pay7
  pointwise
  rfl

/-- One 256-column chunk of the activation. -/
theorem pay41_apply (e : FVec Ideal S1040x1024 .bf16) (h : FVec Ideal S1024x1024 .bf16) (wu wg : Vec Ideal S1024x256 .bf16)
    (c0 c1 c2 b : Vec Ideal S1x256 .f32) (r : Fin 1024) (n : Fin 256) :
    k0_pay41 e h wu wg c0 c1 c2 b (ix2 r n)
      = gated (taps (∑ k, e (ix2 ⟨r.val + 7, by omega⟩ k) * wu (ix2 k n)) (∑ k, e (ix2 ⟨r.val + 8, by omega⟩ k) * wu (ix2 k n))
          (∑ k, e (ix2 ⟨r.val + 9, by omega⟩ k) * wu (ix2 k n)) (c0 (ix2 0 n)) (c1 (ix2 0 n)) (c2 (ix2 0 n)) (b (ix2 0 n)))
        (∑ k, h (ix2 r k) * wg (ix2 k n)) := by
  unfold k0_pay41
  pointwise
  unfold gated taps
  have e1 : ∀ h, (⟨(8 + r.val + 1040 - 1) % 1040, h⟩ : Fin 1040) = ⟨r.val + 7, by omega⟩ := fun h => Fin.ext (by show (8 + r.val + 1040 - 1) % 1040 = r.val + 7; omega)
  have e2 : ∀ h, (⟨8 + r.val, h⟩ : Fin 1040) = ⟨r.val + 8, by omega⟩ := fun h => Fin.ext (Nat.add_comm _ _)
  have e3 : ∀ h, (⟨(8 + r.val + 1040 - 1039) % 1040, h⟩ : Fin 1040) = ⟨r.val + 9, by omega⟩ := fun h => Fin.ext (by show (8 + r.val + 1040 - 1039) % 1040 = r.val + 9; omega)
  simp only [e1, e2, e3]

/-- The last product. -/
theorem pay48_apply (a : Vec Ideal S1024x2816 .bf16) (w : Vec Ideal S2816x1024 .bf16) (r k : Fin 1024) :
    k0_pay48 a w (ix2 r k) = ∑ n, a (ix2 r n) * w (ix2 n k) := by
  unfold k0_pay48; pointwise

/-- Its squares. -/
theorem pay50_apply (a : Vec Ideal S1024x2816 .bf16) (w : Vec Ideal S2816x1024 .bf16) (r k : Fin 1024) :
    k0_pay50 a w (ix2 r k) = k0_pay48 a w (ix2 r k) * k0_pay48 a w (ix2 r k) := rfl

/-- The residual. -/
theorem pay1_apply (v : FVec Ideal S1024x1024 .f32) (gt : Vec Ideal S1x1024 .f32) (y : FVec Ideal S1024x1024 .f32) (g : FVec Ideal S1x1024 .f32)
    (yy : FVec Ideal S1024x1024 .f32) (r k : Fin 1024) (hy : ∀ j, yy (ix2 r j) = y (ix2 r j) * y (ix2 r j)) :
    k0_pay1 v gt y g yy (ix2 r k)
      = v (ix2 r k) + gt (ix2 0 k) * (y (ix2 r k) * rms (fun j => y (ix2 r j)) * g (ix2 0 k)) := by
  unfold k0_pay1
  pointwise
  simp only [hy]
  rfl

/-- The first row's factor: zero at the start of a sequence. -/
theorem pay2_eq (t : Fin 16) : k0_pay2 (F := Ideal) (grid0.coords t) = if t.val % 8 = 0 then 0 else 1 := by
  have h : k0_pay2 (F := Ideal) (grid0.coords t) = FloatOps.sitofp (F := Ideal) FTy.f32 (if t.val % 8 = 0 then 0#32 else 1#32) := by
    refine congrArg (FloatOps.sitofp (F := Ideal) FTy.f32) ?_
    revert t; decide +kernel
  rw [h]
  split <;> simp [FloatOps.sitofp]

/-- The last row's factor: zero at the end of a sequence. -/
theorem pay3_eq (t : Fin 16) : k0_pay3 (F := Ideal) (grid0.coords t) = if t.val % 8 = 7 then 0 else 1 := by
  have h : k0_pay3 (F := Ideal) (grid0.coords t) = FloatOps.sitofp (F := Ideal) FTy.f32 (if t.val % 8 = 7 then 0#32 else 1#32) := by
    refine congrArg (FloatOps.sitofp (F := Ideal) FTy.f32) ?_
    revert t; decide +kernel
  rw [h]
  split <;> simp [FloatOps.sitofp]

end ConvFfn
-- ==== Proof.ConvFfn.Blocks.lean ====
module

public import proofs.«01_k».proof.Proof.Gen.Kernel2Ideal.Frame
public import proofs.«01_k».proof.Proof.ConvFfn.Spec

@[expose] public section

set_option maxRecDepth 16384

noncomputable section

open Idealize.ShloMosaic Idealize.ShloMosaic.TcCoe Idealize.SL.Sem
open Cert.Kernel2Ideal Cert.Kernel2Ideal.Gen

namespace ConvFfn

variable (m : (ℓ : Loc nD τ sig) → Buf (Elt Ideal) ℓ)

/-- The kernel program's activations, by coordinates. -/
abbrev xK (c : Dev nD) (b : Fin 2) (s : Fin 8192) (k : Fin 1024) : EReal := m (c, Proc.tc.devRef main_arg0) (ix3 b s k)
/-- Its modulation vectors. -/
abbrev modsK (c : Dev nD) (b : Fin 8) (k : Fin 6144) : EReal := m (c, Proc.tc.devRef main_arg1) (ix2 b k)
/-- Its first gain vector. -/
abbrev gK (c : Dev nD) (k : Fin 1024) : EReal := m (c, Proc.tc.devRef main_arg2) (ix2 0 k)
/-- Its second gain vector. -/
abbrev g2K (c : Dev nD) (k : Fin 1024) : EReal := m (c, Proc.tc.devRef main_arg3) (ix2 0 k)
/-- Its up projection. -/
abbrev wuK (c : Dev nD) (k : Fin 1024) (n : Fin 5632) : EReal := m (c, Proc.tc.devRef main_arg4) (ix3 0 k n)
/-- Its convolution's taps. -/
abbrev cwK (c : Dev nD) (j : Fin 3) (n : Fin 2816) : EReal := m (c, Proc.tc.devRef main_arg5) (ix3 0 j n)
/-- Its convolution's bias. -/
abbrev cbK (c : Dev nD) (n : Fin 2816) : EReal := m (c, Proc.tc.devRef main_arg6) (ix2 0 n)
/-- Its down projection. -/
abbrev wdK (c : Dev nD) (n : Fin 2816) (k : Fin 1024) : EReal := m (c, Proc.tc.devRef main_arg7) (ix3 0 n k)

/-- Block `t` of the activations holds the tokens `1024 t, …, 1024 t + 1023`. -/
theorem blk0 (c : Dev nD) (t : Fin cfg0.N) (a l : Fin 1024) (R : Fin 16384) (hR : R.val = 1024 * t.val + a.val) :
    iblk m c 0 t (ix2 a l) = xK m c ⟨R.val / 8192, by omega⟩ ⟨R.val % 8192, by omega⟩ l := by
  have hi : win0_0.index t = ![t.val, 0] := (show ∀ t : Fin cfg0.N, win0_0.index t = ![t.val, 0] by decide +kernel) t
  have ht : t.val < 16 := t.isLt
  trans V m c main_v4 (ix2 R l)
  · blk_ext [iblk, hi]
  entry_read
  pointwise

/-- The last row of the block of eight before it is the token before, where there is one. -/
theorem blk1 (c : Dev nD) (t : Fin cfg0.N) (l : Fin 1024) (h0 : t.val ≠ 0) (R : Fin 16384) (hR : R.val + 1 = 1024 * t.val) :
    iblk m c 1 t (ix2 7 l) = xK m c ⟨R.val / 8192, by omega⟩ ⟨R.val % 8192, by omega⟩ l := by
  have hi : win0_1.index t = ![128 * t.val - 1, 0] := (show ∀ t : Fin cfg0.N, win0_1.index t = ![128 * t.val - 1, 0] by decide +kernel) t
  have ht : t.val < 16 := t.isLt
  trans V m c main_v4 (ix2 R l)
  · blk_ext [iblk, hi]
  entry_read
  pointwise

/-- The first row of the block of eight after it is the token after, where there is one. -/
theorem blk2 (c : Dev nD) (t : Fin cfg0.N) (l : Fin 1024) (R : Fin 16384) (hR : R.val = 1024 * (t.val + 1)) :
    iblk m c 2 t (ix2 0 l) = xK m c ⟨R.val / 8192, by omega⟩ ⟨R.val % 8192, by omega⟩ l := by
  have hi : win0_2.index t = ![min (128 * (t.val + 1)) 2047, 0] := (show ∀ t : Fin cfg0.N, win0_2.index t = ![min (128 * (t.val + 1)) 2047, 0] by decide +kernel) t
  have ht : t.val < 16 := t.isLt
  trans V m c main_v4 (ix2 R l)
  · blk_ext [iblk, hi]
  entry_read
  pointwise

/-- The shift row of block `t`. -/
theorem blk3_shift (c : Dev nD) (t : Fin cfg0.N) (l : Fin 1024) (h) :
    View.ld (iblk m c 3 t) (Rect.unit (k0_off1 (grid0.coords t)) ![1,1024] h) (ix2 0 l)
      = modsK m c ⟨t.val / 8, by have := t.isLt; change t.val < 16 at this; omega⟩ ⟨3072 + l.val, by omega⟩ := by
  have hi : win0_3.index t = ![0, 0] := by revert t; decide +kernel
  have ho : k0_off1 (grid0.coords t) = ![t.val / 8, 3072] := by revert t; decide +kernel
  have ht : t.val < 16 := t.isLt
  trans V m c main_arg1 (ix2 ⟨t.val / 8, by omega⟩ ⟨3072 + l.val, by omega⟩)
  · rw [View.ld_apply]
    blk_ext [iblk, hi, ho]
    · exact (Rect.idx_unit_val _ _ _ _ _).trans (congrArg (· + 0) (congrFun ho 0))
    · exact (Rect.idx_unit_val _ _ _ _ _).trans (congrArg (· + l.val) (congrFun ho 1))
  entry_read
  rfl

/-- The scale row of block `t`. -/
theorem blk3_scale (c : Dev nD) (t : Fin cfg0.N) (l : Fin 1024) (h) :
    View.ld (iblk m c 3 t) (Rect.unit (k0_off2 (grid0.coords t)) ![1,1024] h) (ix2 0 l)
      = modsK m c ⟨t.val / 8, by have := t.isLt; change t.val < 16 at this; omega⟩ ⟨4096 + l.val, by omega⟩ := by
  have hi : win0_3.index t = ![0, 0] := by revert t; decide +kernel
  have ho : k0_off2 (grid0.coords t) = ![t.val / 8, 4096] := by revert t; decide +kernel
  have ht : t.val < 16 := t.isLt
  trans V m c main_arg1 (ix2 ⟨t.val / 8, by omega⟩ ⟨4096 + l.val, by omega⟩)
  · rw [View.ld_apply]
    blk_ext [iblk, hi, ho]
    · exact (Rect.idx_unit_val _ _ _ _ _).trans (congrArg (· + 0) (congrFun ho 0))
    · exact (Rect.idx_unit_val _ _ _ _ _).trans (congrArg (· + l.val) (congrFun ho 1))
  entry_read
  rfl

/-- The gate row of block `t`. -/
theorem blk3_gate (c : Dev nD) (t : Fin cfg0.N) (l : Fin 1024) (h) :
    View.ld (iblk m c 3 t) (Rect.unit (k0_off3 (grid0.coords t)) ![1,1024] h) (ix2 0 l)
      = modsK m c ⟨t.val / 8, by have := t.isLt; change t.val < 16 at this; omega⟩ ⟨5120 + l.val, by omega⟩ := by
  have hi : win0_3.index t = ![0, 0] := by revert t; decide +kernel
  have ho : k0_off3 (grid0.coords t) = ![t.val / 8, 5120] := by revert t; decide +kernel
  have ht : t.val < 16 := t.isLt
  trans V m c main_arg1 (ix2 ⟨t.val / 8, by omega⟩ ⟨5120 + l.val, by omega⟩)
  · rw [View.ld_apply]
    blk_ext [iblk, hi, ho]
    · exact (Rect.idx_unit_val _ _ _ _ _).trans (congrArg (· + 0) (congrFun ho 0))
    · exact (Rect.idx_unit_val _ _ _ _ _).trans (congrArg (· + l.val) (congrFun ho 1))
  entry_read
  rfl

/-- The first gain. -/
theorem blk4 (c : Dev nD) (t : Fin cfg0.N) (l : Fin 1024) : iblk m c 4 t (ix2 0 l) = gK m c l := by
  have hi : win0_4.index t = ![0, 0] := by revert t; decide +kernel
  trans V m c main_v1 (ix2 0 l)
  · blk_ext [iblk, hi]
  entry_read
  pointwise

/-- The second gain. -/
theorem blk5 (c : Dev nD) (t : Fin cfg0.N) (l : Fin 1024) : iblk m c 5 t (ix2 0 l) = g2K m c l := by
  have hi : win0_5.index t = ![0, 0] := by revert t; decide +kernel
  trans V m c main_v3 (ix2 0 l)
  · blk_ext [iblk, hi]
  entry_read
  pointwise

/-- The first half of the up projection. -/
theorem blk6 (c : Dev nD) (t : Fin cfg0.N) (a : Fin 1024) (l : Fin 2816) : iblk m c 6 t (ix2 a l) = wuK m c a ⟨l.val, by omega⟩ := by
  have hi : win0_6.index t = ![0, 0] := by revert t; decide +kernel
  trans V m c main_v6 (ix2 a (⟨l.val, by omega⟩ : Fin 5632))
  · blk_ext [iblk, hi]
  entry_read
  pointwise

/-- The second half of the up projection. -/
theorem blk7 (c : Dev nD) (t : Fin cfg0.N) (a : Fin 1024) (l : Fin 2816) : iblk m c 7 t (ix2 a l) = wuK m c a ⟨2816 + l.val, by omega⟩ := by
  have hi : win0_7.index t = ![0, 1] := by revert t; decide +kernel
  trans V m c main_v6 (ix2 a (⟨2816 + l.val, by omega⟩ : Fin 5632))
  · blk_ext [iblk, hi]
  entry_read
  pointwise

/-- The taps. -/
theorem blk8 (c : Dev nD) (t : Fin cfg0.N) (a : Fin 3) (l : Fin 2816) : iblk m c 8 t (ix2 a l) = cwK m c a l := by
  have hi : win0_8.index t = ![0, 0] := by revert t; decide +kernel
  trans V m c main_v7 (ix2 a l)
  · blk_ext [iblk, hi]
  entry_read
  pointwise

/-- The bias. -/
theorem blk9 (c : Dev nD) (t : Fin cfg0.N) (l : Fin 2816) : iblk m c 9 t (ix2 0 l) = cbK m c l := by
  have hi : win0_9.index t = ![0, 0] := by revert t; decide +kernel
  trans V m c main_v11 (ix2 0 l)
  · blk_ext [iblk, hi]
  entry_read
  pointwise

/-- The down projection. -/
theorem blk10 (c : Dev nD) (t : Fin cfg0.N) (a : Fin 2816) (l : Fin 1024) : iblk m c 10 t (ix2 a l) = wdK m c a l := by
  have hi : win0_10.index t = ![0, 0] := by revert t; decide +kernel
  trans V m c main_v10 (ix2 a l)
  · blk_ext [iblk, hi]
  entry_read
  pointwise

end ConvFfn
-- ==== Proof.ConvFfn.Outs.lean ====
module

public import proofs.«01_k».proof.Proof.ConvFfn.Pays
public import proofs.«01_k».proof.Proof.ConvFfn.Blocks
public import Idealize.ShloMosaic.Lib.Pipeline.ReadBack

@[expose] public section

set_option maxRecDepth 16384

noncomputable section

open Idealize.ShloMosaic Idealize.ShloMosaic.TcCoe Idealize.SL.Sem
open Cert.Kernel2Ideal Cert.Kernel2Ideal.Gen

namespace ConvFfn

/-- Column `n` of row `r` of the activation, from the extended rows, the rows and the weights. -/
def actB (e : FVec Ideal S1040x1024 .bf16) (h : FVec Ideal S1024x1024 .bf16) (U G : Vec Ideal S1024x2816 .bf16)
    (W : Vec Ideal S3x2816 .f32) (B : Vec Ideal S1x2816 .f32) (r : Fin 1024) (n : Fin 2816) : EReal :=
  gated (taps (∑ k, e (ix2 ⟨r.val + 7, by omega⟩ k) * U (ix2 k n)) (∑ k, e (ix2 ⟨r.val + 8, by omega⟩ k) * U (ix2 k n))
      (∑ k, e (ix2 ⟨r.val + 9, by omega⟩ k) * U (ix2 k n)) (W (ix2 0 n)) (W (ix2 1 n)) (W (ix2 2 n)) (B (ix2 0 n)))
    (∑ k, h (ix2 r k) * G (ix2 k n))

/-- 256 columns of a half of the up projection. -/
theorem ldU (U : Vec Ideal S1024x2816 .bf16) (o : ℕ) (ho : o + 256 ≤ 2816)
    (h : ∀ a, (![0, o] : Fin 2 → ℕ) a + (![1024, 256] : Fin 2 → ℕ) a ≤ S1024x2816.size a) (a : Fin 1024) (l : Fin 256) :
    View.ld U (Rect.unit ![0, o] ![1024, 256] h) (ix2 a l) = U (ix2 a ⟨o + l.val, by omega⟩) := by
  rw [View.ld_apply]
  refine congrArg U ?_
  funext b
  match b with
  | ⟨0, _⟩ => exact Fin.ext ((Rect.idx_unit_val _ _ _ _ _).trans (Nat.zero_add _))
  | ⟨1, _⟩ => exact Fin.ext (Rect.idx_unit_val _ _ _ _ _)

/-- 256 columns of one row of the taps. -/
theorem ldT (W : Vec Ideal S3x2816 .f32) (q o : ℕ) (hq : q < 3) (ho : o + 256 ≤ 2816)
    (h : ∀ a, (![q, o] : Fin 2 → ℕ) a + (![1, 256] : Fin 2 → ℕ) a ≤ S3x2816.size a) (l : Fin 256) :
    View.ld W (Rect.unit ![q, o] ![1, 256] h) (ix2 0 l) = W (ix2 ⟨q, hq⟩ ⟨o + l.val, by omega⟩) := by
  rw [View.ld_apply]
  refine congrArg W ?_
  funext b
  match b with
  | ⟨0, _⟩ => exact Fin.ext (Rect.idx_unit_val _ _ _ _ _)
  | ⟨1, _⟩ => exact Fin.ext (Rect.idx_unit_val _ _ _ _ _)

/-- 256 entries of the bias. -/
theorem ldB (B : Vec Ideal S1x2816 .f32) (o : ℕ) (ho : o + 256 ≤ 2816)
    (h : ∀ a, (![0, o] : Fin 2 → ℕ) a + (![1, 256] : Fin 2 → ℕ) a ≤ S1x2816.size a) (l : Fin 256) :
    View.ld B (Rect.unit ![0, o] ![1, 256] h) (ix2 0 l) = B (ix2 0 ⟨o + l.val, by omega⟩) := by
  rw [View.ld_apply]
  refine congrArg B ?_
  funext b
  match b with
  | ⟨0, _⟩ => exact Fin.ext ((Rect.idx_unit_val _ _ _ _ _).trans (Nat.zero_add _))
  | ⟨1, _⟩ => exact Fin.ext (Rect.idx_unit_val _ _ _ _ _)

/-- The whole array, read from its first entry on, is the array. -/
theorem whole (A : Vec Ideal S1024x2816 .bf16) (h : ∀ a, (![0, 0] : Fin 2 → ℕ) a + (![1024, 2816] : Fin 2 → ℕ) a ≤ S1024x2816.size a) :
    (fun j => A ((Rect.unit (s := S1024x2816) ![0, 0] ![1024, 2816] h).idx j)) = A := by
  funext j
  refine congrArg A ?_
  funext b
  match b with
  | ⟨0, _⟩ => exact Fin.ext ((Rect.idx_unit_val _ _ _ _ _).trans (Nat.zero_add _))
  | ⟨1, _⟩ => exact Fin.ext ((Rect.idx_unit_val _ _ _ _ _).trans (Nat.zero_add _))

/-- The chunk from column `o` on is those columns of the activation. -/
theorem chunk_apply (e : FVec Ideal S1040x1024 .bf16) (h : FVec Ideal S1024x1024 .bf16) (U G : Vec Ideal S1024x2816 .bf16)
    (W : Vec Ideal S3x2816 .f32) (B : Vec Ideal S1x2816 .f32) (o : ℕ) (ho : o + 256 ≤ 2816) (i1 i2 i3 i4 i5 i6)
    (r y0 : Fin 1024) (n : Fin 2816) (l : Fin 256) (hr : r.val = y0.val) (hn : n.val = o + l.val) :
    k0_pay41 e h (View.ld U (Rect.unit ![0, o] ![1024, 256] i1)) (View.ld G (Rect.unit ![0, o] ![1024, 256] i2))
      (View.ld W (Rect.unit ![0, o] ![1, 256] i3)) (View.ld W (Rect.unit ![1, o] ![1, 256] i4))
      (View.ld W (Rect.unit ![2, o] ![1, 256] i5)) (View.ld B (Rect.unit ![0, o] ![1, 256] i6)) (ix2 y0 l)
      = actB e h U G W B r n := by
  have e0 : y0 = r := Fin.ext hr.symm
  have e1 : n = ⟨o + l.val, by omega⟩ := Fin.ext hn
  rw [pay41_apply, e0, e1, ldT W 0 o (by omega) ho, ldT W 1 o (by omega) ho, ldT W 2 o (by omega) ho, ldB B o ho]
  have hu : ∀ a, ∑ k, e (ix2 a k) * View.ld U (Rect.unit ![0, o] ![1024, 256] i1) (ix2 k l) = ∑ k, e (ix2 a k) * U (ix2 k ⟨o + l.val, by omega⟩) :=
    fun a => Finset.sum_congr rfl fun k _ => congrArg (e (ix2 a k) * ·) (ldU U o ho i1 k l)
  have hg : ∑ k, h (ix2 r k) * View.ld G (Rect.unit ![0, o] ![1024, 256] i2) (ix2 k l) = ∑ k, h (ix2 r k) * G (ix2 k ⟨o + l.val, by omega⟩) :=
    Finset.sum_congr rfl fun k _ => congrArg (h (ix2 r k) * ·) (ldU G o ho i2 k l)
  rw [hu, hu, hu, hg]
  rfl

section Same

/-! The eleven chunks are written alike: each is the seventh's computation at its own columns. -/

variable (e : FVec Ideal S1040x1024 .bf16) (h : FVec Ideal S1024x1024 .bf16) (w u : Vec Ideal S1024x256 .bf16) (c0 c1 c2 b : Vec Ideal S1x256 .f32)

theorem c10_eq : k0_pay47 h (k0_pay45 e w) (k0_pay46 u) c0 c1 c2 b = k0_pay41 e h w u c0 c1 c2 b := rfl
theorem c9_eq : k0_pay44 e h (k0_pay43 w) (constant S1040x256 FTy.f32 0#32) u c0 c1 c2 b = k0_pay41 e h w u c0 c1 c2 b := rfl
theorem c8_eq : k0_pay42 e h w u c0 c1 c2 b = k0_pay41 e h w u c0 c1 c2 b := rfl
theorem c6_eq : k0_pay40 (k0_pay39 e h w u c0 c1 c2 b) = k0_pay41 e h w u c0 c1 c2 b := rfl
theorem c5_eq : k0_pay38 (k0_pay36 h u) (k0_pay37 e w c0 c1 c2 b) = k0_pay41 e h w u c0 c1 c2 b := rfl
theorem c4_eq : k0_pay35 (k0_pay33 h u) (k0_pay34 e w c0 c1 c2) b = k0_pay41 e h w u c0 c1 c2 b := rfl
theorem c3_eq : k0_pay32 (k0_pay29 h u) (k0_pay30 e w) (k0_pay31 e w c0 c1) c2 b = k0_pay41 e h w u c0 c1 c2 b := rfl
theorem c2_eq : k0_pay27 (k0_pay22 h u) (k0_pay23 e w) (k0_pay24 e w c0) (k0_pay25 e w) (k0_pay26 c1) c2 b = k0_pay41 e h w u c0 c1 c2 b := rfl
theorem c1_eq : k0_pay20 (k0_pay16 h u) (k0_pay17 e w) (k0_pay18 e w c0) (k0_pay19 e w) c1 c2 b = k0_pay41 e h w u c0 c1 c2 b := rfl
theorem c0_eq (p q : Elt Ideal .f32) (sh sc : Vec Ideal S1x1024 .f32) (g : FVec Ideal S1x1024 .f32) (y : FVec Ideal S1024x1024 .f32)
    (lo : FVec Ideal S8x1024 .f32) (hi : Vec Ideal S8x1024 .f32) :
    k0_pay14 (k0_pay10 p q sh sc g y lo hi w) (k0_pay11 y u) (k0_pay12 p q sh sc g y lo hi w) (k0_pay13 p q sh sc g y lo hi w) c0 c1 c2 b
      = k0_pay41 (k0_pay8 p q sh sc g y lo hi) (k0_pay9 y) w u c0 c1 c2 b := rfl

end Same

variable (m : (ℓ : Loc nD τ sig) → Buf (Elt Ideal) ℓ)

/-- The normalized rows of block `t`. -/
abbrev hB (c : Dev nD) (t : Fin cfg0.N) : FVec Ideal S1024x1024 .f32 :=
  k0_pay6 (k0_pay4 (iblk m c 0 t)) (View.ld (iblk m c 3 t) (Rect.unit (k0_off1 (grid0.coords t)) ![1, 1024] (k0_off1_inb (grid0.coords t))))
    (View.ld (iblk m c 3 t) (Rect.unit (k0_off2 (grid0.coords t)) ![1, 1024] (k0_off2_inb (grid0.coords t)))) (iblk m c 4 t)

/-- The same with the rows before and after. -/
abbrev eB (c : Dev nD) (t : Fin cfg0.N) : FVec Ideal S1040x1024 .bf16 :=
  k0_pay8 (k0_pay2 (grid0.coords t)) (k0_pay3 (grid0.coords t))
    (View.ld (iblk m c 3 t) (Rect.unit (k0_off1 (grid0.coords t)) ![1, 1024] (k0_off1_inb (grid0.coords t))))
    (View.ld (iblk m c 3 t) (Rect.unit (k0_off2 (grid0.coords t)) ![1, 1024] (k0_off2_inb (grid0.coords t))))
    (k0_pay5 (iblk m c 4 t)) (hB m c t) (k0_pay7 (iblk m c 1 t)) (iblk m c 2 t)

set_option maxHeartbeats 4000000 in
/-- What point `t` leaves, from its blocks. -/
theorem outs_eq (c : Dev nD) (t : Fin cfg0.N) : ∃ A : Vec Ideal S1024x2816 .bf16, outsAt0 m c t
    = k0_pay1 (k0_pay4 (iblk m c 0 t)) (View.ld (iblk m c 3 t) (Rect.unit (k0_off3 (grid0.coords t)) ![1, 1024] (k0_off3_inb (grid0.coords t))))
        (k0_pay48 A (iblk m c 10 t)) (k0_pay49 (iblk m c 5 t)) (k0_pay50 A (iblk m c 10 t))
      ∧ ∀ r n, A (ix2 r n) = actB (eB m c t) (k0_pay9 (hB m c t)) (iblk m c 6 t) (iblk m c 7 t) (iblk m c 8 t) (iblk m c 9 t) r n := by
  unfold outsAt0
  frame_out
  simp only [View.readCov_eq_canon', c0_eq, c1_eq, c2_eq, c3_eq, c4_eq, c5_eq, c6_eq, c8_eq, c9_eq, c10_eq]
  unfold eB hB
  generalize k0_pay6 (F := Ideal) _ _ _ _ = y
  generalize k0_pay8 (F := Ideal) _ _ _ _ _ _ _ _ = e
  generalize k0_pay9 (F := Ideal) _ = h
  generalize hA : View.canon (Val := Elt Ideal) (s := S1024x2816) (e := .bf16) _ = A
  refine ⟨A, ?_, fun r n => ?_⟩
  · rw [whole A]; rfl
  rw [← hA]
  canon_tiles y q
  all_goals
    idx_vars y
    clear hA
    refine chunk_apply e h _ _ _ _ _ ?_ _ _ _ _ _ _ r y0 n y1 q0 ?_ <;> omega

end ConvFfn
-- ==== Proof.ConvFfn.Points.lean ====
module

public import proofs.«01_k».proof.Proof.ConvFfn.Outs

@[expose] public section

set_option maxRecDepth 16384

noncomputable section

open Idealize.ShloMosaic Idealize.ShloMosaic.TcCoe Idealize.SL.Sem
open Cert.Kernel2Ideal Cert.Kernel2Ideal.Gen

namespace ConvFfn

variable (m : (ℓ : Loc nD τ sig) → Buf (Elt Ideal) ℓ)

/-- The modulated row of a token, from the token's row and the modulation rows of its block. -/
theorem mrow_tok (c : Dev nD) (t : Fin cfg0.N) (R : Fin 16384) (ht : R.val / 8192 = t.val / 8) (k : Fin 1024)
    (v : Fin 1024 → EReal) (hv : ∀ j, v j = xK m c ⟨R.val / 8192, by omega⟩ ⟨R.val % 8192, by omega⟩ j)
    (g : Fin 1024 → EReal) (hg : ∀ j, g j = gK m c j) (h1 h2) :
    mrow v g (fun j => View.ld (iblk m c 3 t) (Rect.unit (k0_off2 (grid0.coords t)) ![1, 1024] h2) (ix2 0 j))
        (fun j => View.ld (iblk m c 3 t) (Rect.unit (k0_off1 (grid0.coords t)) ![1, 1024] h1) (ix2 0 j)) k
      = hrow (xK m c) (modsK m c) (gK m c) R k := by
  obtain rfl : v = _ := funext hv
  obtain rfl : g = _ := funext hg
  have e : ∀ h, (⟨t.val / 8, h⟩ : Fin 8) = ⟨R.val / 8192, by omega⟩ := fun h => Fin.ext ht.symm
  have e1 := fun j => (blk3_shift m c t j h1).trans (congrArg (modsK m c · _) (e _))
  have e2 := fun j => (blk3_scale m c t j h2).trans (congrArg (modsK m c · _) (e _))
  rw [funext e1, funext e2]
  rfl

/-- The block's rows are the tokens' modulated rows. -/
theorem hB_apply (c : Dev nD) (t : Fin cfg0.N) (r k : Fin 1024) (R : Fin 16384) (hR : R.val = 1024 * t.val + r.val) :
    hB m c t (ix2 r k) = hrow (xK m c) (modsK m c) (gK m c) R k := by
  have ht : t.val < 16 := t.isLt
  unfold hB
  rw [pay6_apply, pay4_eq]
  exact mrow_tok m c t R (by omega) k _ (fun j => blk0 m c t r j R hR) _ (fun j => blk4 m c t j) _ _

/-- So are the extended rows, within one sequence. -/
theorem eB_apply (c : Dev nD) (t : Fin cfg0.N) (a : Fin 1040) (k : Fin 1024) (R : Fin 16384) (hR : R.val + 8 = 1024 * t.val + a.val)
    (h7 : 7 ≤ a.val) (h8 : a.val ≤ 1032) (hs : R.val / 8192 = t.val / 8) :
    eB m c t (ix2 a k) = hrow (xK m c) (modsK m c) (gK m c) R k := by
  have ht : t.val < 16 := t.isLt
  unfold eB
  by_cases h : 8 ≤ a.val ∧ a.val < 1032
  · exact (pay8_mid _ _ _ _ _ _ _ _ a ⟨a.val - 8, by omega⟩ k (by show a.val = a.val - 8 + 8; omega)).trans
      (hB_apply m c t _ k R (by show R.val = 1024 * t.val + (a.val - 8); omega))
  · by_cases h' : a.val = 7
    · have e : a = 7 := Fin.ext h'
      rw [e, pay8_lo, pay2_eq t, if_neg (by omega), mul_one, pay5_eq]
      exact mrow_tok m c t R hs k _ (fun j => blk1 m c t j (by omega) R (by omega)) _ (fun j => blk4 m c t j) _ _
    · have e : a = 1032 := Fin.ext (show a.val = 1032 by omega)
      rw [e, pay8_hi, pay3_eq t, if_neg (by omega), mul_one, pay5_eq]
      exact mrow_tok m c t R hs k _ (fun j => blk2 m c t j R (by omega)) _ (fun j => blk4 m c t j) _ _

/-- Before the start of a sequence they are zero. -/
theorem eB_lo (c : Dev nD) (t : Fin cfg0.N) (k : Fin 1024) (h : t.val % 8 = 0) : eB m c t (ix2 7 k) = 0 := by
  unfold eB
  rw [pay8_lo, pay2_eq t, if_pos h, mul_zero]

/-- Past the end of a sequence they are zero. -/
theorem eB_hi (c : Dev nD) (t : Fin cfg0.N) (k : Fin 1024) (h : t.val % 8 = 7) : eB m c t (ix2 1032 k) = 0 := by
  unfold eB
  rw [pay8_hi, pay3_eq t, if_pos h, mul_zero]

/-- A row's products with the first half of the up projection. -/
theorem up_sum (c : Dev nD) (t : Fin cfg0.N) (a : Fin 1040) (R : Fin 16384) (n : Fin 2816) (hR : R.val + 8 = 1024 * t.val + a.val)
    (h7 : 7 ≤ a.val) (h8 : a.val ≤ 1032) (hs : R.val / 8192 = t.val / 8) :
    ∑ k, eB m c t (ix2 a k) * iblk m c 6 t (ix2 k n) = up (xK m c) (modsK m c) (gK m c) (wuK m c) R ⟨n.val, by omega⟩ :=
  Finset.sum_congr rfl fun k _ => congrArg₂ (· * ·) (eB_apply m c t a k R hR h7 h8 hs) (blk6 m c t k n)

/-- The row before, against the first half of the up projection. -/
theorem up_prev (c : Dev nD) (t : Fin cfg0.N) (r : Fin 1024) (n : Fin 2816) (R : Fin 16384) (hR : R.val = 1024 * t.val + r.val) :
    ∑ k, eB m c t (ix2 ⟨r.val + 7, by omega⟩ k) * iblk m c 6 t (ix2 k n)
      = upPrev (xK m c) (modsK m c) (gK m c) (wuK m c) R ⟨n.val, by omega⟩ := by
  have ht : t.val < 16 := t.isLt
  unfold upPrev
  by_cases h : R.val % 8192 = 0
  · rw [if_pos h]
    refine Finset.sum_eq_zero fun k _ => ?_
    have e : (⟨r.val + 7, by omega⟩ : Fin 1040) = 7 := Fin.ext (show r.val + 7 = 7 by omega)
    rw [e, eB_lo m c t k (by omega), zero_mul]
  · rw [if_neg h]
    exact up_sum m c t _ ⟨R.val - 1, by omega⟩ n (by show R.val - 1 + 8 = 1024 * t.val + (r.val + 7); omega)
      (by show 7 ≤ r.val + 7; omega) (by show r.val + 7 ≤ 1032; omega) (by show (R.val - 1) / 8192 = t.val / 8; omega)

/-- The row after, against the first half of the up projection. -/
theorem up_next (c : Dev nD) (t : Fin cfg0.N) (r : Fin 1024) (n : Fin 2816) (R : Fin 16384) (hR : R.val = 1024 * t.val + r.val) :
    ∑ k, eB m c t (ix2 ⟨r.val + 9, by omega⟩ k) * iblk m c 6 t (ix2 k n)
      = upNext (xK m c) (modsK m c) (gK m c) (wuK m c) R ⟨n.val, by omega⟩ := by
  have ht : t.val < 16 := t.isLt
  unfold upNext
  by_cases h : R.val % 8192 = 8191
  · rw [dif_pos h]
    refine Finset.sum_eq_zero fun k _ => ?_
    have e : (⟨r.val + 9, by omega⟩ : Fin 1040) = 1032 := Fin.ext (show r.val + 9 = 1032 by omega)
    rw [e, eB_hi m c t k (by omega), zero_mul]
  · rw [dif_neg h]
    exact up_sum m c t _ ⟨R.val + 1, by omega⟩ n (by show R.val + 1 + 8 = 1024 * t.val + (r.val + 9); omega)
      (by show 7 ≤ r.val + 9; omega) (by show r.val + 9 ≤ 1032; omega) (by show (R.val + 1) / 8192 = t.val / 8; omega)

/-- The activation of a block's rows is the tokens' activation. -/
theorem actB_apply (c : Dev nD) (t : Fin cfg0.N) (r : Fin 1024) (n : Fin 2816) (R : Fin 16384) (hR : R.val = 1024 * t.val + r.val) :
    actB (eB m c t) (k0_pay9 (hB m c t)) (iblk m c 6 t) (iblk m c 7 t) (iblk m c 8 t) (iblk m c 9 t) r n
      = act (xK m c) (modsK m c) (gK m c) (wuK m c) (cwK m c) (cbK m c) R n := by
  have ht : t.val < 16 := t.isLt
  have hu : ∑ k, eB m c t (ix2 ⟨r.val + 8, by omega⟩ k) * iblk m c 6 t (ix2 k n) = up (xK m c) (modsK m c) (gK m c) (wuK m c) R ⟨n.val, by omega⟩ :=
    up_sum m c t _ R n (by show R.val + 8 = 1024 * t.val + (r.val + 8); omega) (by show 7 ≤ r.val + 8; omega)
      (by show r.val + 8 ≤ 1032; omega) (by omega)
  have hg : ∑ k, k0_pay9 (hB m c t) (ix2 r k) * iblk m c 7 t (ix2 k n) = up (xK m c) (modsK m c) (gK m c) (wuK m c) R ⟨2816 + n.val, by omega⟩ :=
    Finset.sum_congr rfl fun k _ => congrArg₂ (· * ·) ((pay9_apply _ r k).trans (hB_apply m c t r k R hR)) (blk7 m c t k n)
  unfold actB act
  rw [up_prev m c t r n R hR, up_next m c t r n R hR, hu, hg, blk8, blk8, blk8, blk9]

/-- What point `t` leaves in row `r` is the result of token `1024 t + r`. -/
theorem out_apply (c : Dev nD) (t : Fin cfg0.N) (r k : Fin 1024) (R : Fin 16384) (hR : R.val = 1024 * t.val + r.val) :
    outsAt0 m c t (ix2 r k)
      = res (xK m c) (modsK m c) (gK m c) (g2K m c) (wuK m c) (cwK m c) (cbK m c) (wdK m c) R k := by
  have ht : t.val < 16 := t.isLt
  obtain ⟨A, hA, ha⟩ := outs_eq m c t
  have hy : ∀ j, k0_pay48 A (iblk m c 10 t) (ix2 r j) = down (xK m c) (modsK m c) (gK m c) (wuK m c) (cwK m c) (cbK m c) (wdK m c) R j :=
    fun j => (pay48_apply _ _ r j).trans (Finset.sum_congr rfl fun n _ =>
      congrArg₂ (· * ·) ((ha r n).trans (actB_apply m c t r n R hR)) (blk10 m c t n j))
  have e : ∀ h, (⟨t.val / 8, h⟩ : Fin 8) = ⟨R.val / 8192, by omega⟩ := fun h => Fin.ext (show t.val / 8 = R.val / 8192 by omega)
  rw [hA, pay1_apply _ _ _ _ _ _ _ (fun j => pay50_apply A _ r j), funext hy, hy, pay4_eq, pay49_eq, blk0 m c t r k R hR, blk5, blk3_gate, e]
  rfl

/-- The result array. -/
theorem arr_out (c : Dev nD) : (dats m 0 c).arrAt 11 cfg0.N
    = fun i => res (xK m c) (modsK m c) (gK m c) (g2K m c) (wuK m c) (cwK m c) (cbK m c) (wdK m c) (i 0) (i 1) := by
  have hi : ∀ t : Fin cfg0.N, win0_11.index t = ![t.val, 0] := by decide +kernel
  refine (dats m 0 c).arrAt_eq_of_covers 11 _ (by decide +kernel) fun t hf y => ?_
  have ht : t.val < 16 := t.isLt
  blk_simp [hi]
  rw [after0_11]
  idx_vars y
  refine (out_apply m c t _ _ ⟨1024 * t.val + y0.val, by omega⟩ rfl).trans ?_
  refine congrArg₂ (res _ _ _ _ _ _ _ _) (Fin.ext ?_) (Fin.ext ?_)
  · change 1024 * t.val + y0.val = _
    blk_simp [hi]
    omega
  · blk_simp [hi]

end ConvFfn
-- ==== Proof.ConvFfn.Ref.lean ====
module

public import proofs.«01_k».proof.Proof.Gen.Reference2Ideal.Read
public import proofs.«01_k».proof.Proof.ConvFfn.Spec

@[expose] public section

set_option maxRecDepth 16384

noncomputable section

open Idealize.ShloMosaic Idealize.ShloMosaic.TcCoe Idealize.SL.Sem
open Cert.Reference2Ideal Cert.Reference2Ideal.Gen Cert.Reference2Ideal.Read

namespace ConvFfn

variable (x0 : (⟨S2x8192x1024, .f32⟩ : BufTy).Contents (Elt Ideal)) (x1 : (⟨S8x6144, .f32⟩ : BufTy).Contents (Elt Ideal))
  (x2 x3 : (⟨S1x1024, .f32⟩ : BufTy).Contents (Elt Ideal)) (x4 : (⟨S1x1024x5632, .f32⟩ : BufTy).Contents (Elt Ideal))
  (x5 : (⟨S1x3x2816, .f32⟩ : BufTy).Contents (Elt Ideal)) (x6 : (⟨S1x2816, .f32⟩ : BufTy).Contents (Elt Ideal))
  (x7 : (⟨S1x2816x1024, .f32⟩ : BufTy).Contents (Elt Ideal))

/-- The activations by coordinates. -/
abbrev xA (b : Fin 2) (s : Fin 8192) (k : Fin 1024) : EReal := x0 (ix3 b s k)
/-- The modulation vectors by coordinates. -/
abbrev modsA (b : Fin 8) (k : Fin 6144) : EReal := x1 (ix2 b k)
/-- A gain by coordinate. -/
abbrev gA (k : Fin 1024) : EReal := x2 (ix2 0 k)
/-- The up projection by coordinates. -/
abbrev wuA (k : Fin 1024) (n : Fin 5632) : EReal := x4 (ix3 0 k n)
/-- The taps by coordinates. -/
abbrev cwA (j : Fin 3) (n : Fin 2816) : EReal := x5 (ix3 0 j n)
/-- The bias by coordinate. -/
abbrev cbA (n : Fin 2816) : EReal := x6 (ix2 0 n)
/-- The down projection by coordinates. -/
abbrev wdA (n : Fin 2816) (k : Fin 1024) : EReal := x7 (ix3 0 n k)

/-- The reference's normalized and modulated rows, by token number. -/
theorem ref_h_tok (R : Fin 16384) (k : Fin 1024) :
    val_main_v32 x0 x1 x2 (ix3 ⟨R.val / 8192, by omega⟩ ⟨R.val % 8192, by omega⟩ k) = hrow (xA x0) (modsA x1) (gA x2) R k := by
  unfold val_main_v32 val_main_v31 val_main_v30 val_main_v29 val_main_v28 val_main_v27 val_main_cst_2 val_main_v26 val_main_v25 val_main_v24 val_main_v23 val_main_v22 val_main_v21 val_main_v20 val_main_v19 val_main_cst_1 val_main_v18 val_main_v17 val_main_cst_0 val_main_v16 val_main_v15 val_main_cst val_main_v14 val_main_v13 val_main_v11 val_main_v10 val_main_v5 val_main_v4 val_main_v0
  pointwise
  unfold hrow mrow rms xA modsA gA
  simp only [mul_assoc]

/-- The same by image and position. -/
theorem ref_h (b : Fin 2) (s : Fin 8192) (R : Fin 16384) (hR : R.val = 8192 * b.val + s.val) (k : Fin 1024) :
    val_main_v32 x0 x1 x2 (ix3 b s k) = hrow (xA x0) (modsA x1) (gA x2) R k := by
  refine (congrArg (val_main_v32 x0 x1 x2) (congrArg₂ (fun u v => ix3 u v k) (Fin.ext ?_) (Fin.ext ?_))).trans (ref_h_tok x0 x1 x2 R k)
  · show b.val = R.val / 8192; omega
  · show s.val = R.val % 8192; omega

/-- The reference's up projection. -/
theorem ref_up (b : Fin 2) (s : Fin 8192) (R : Fin 16384) (hR : R.val = 8192 * b.val + s.val) (n : Fin 5632) :
    val_main_v37 x0 x1 x2 x4 (ix3 b s n) = up (xA x0) (modsA x1) (gA x2) (wuA x4) R n := by
  unfold val_main_v37 val_main_v33
  pointwise
  unfold up
  exact Finset.sum_congr rfl fun k _ => congrArg₂ _ (ref_h x0 x1 x2 b s R hR k) rfl

/-- The reference's activation. -/
theorem ref_act (b : Fin 2) (s : Fin 8192) (R : Fin 16384) (hR : R.val = 8192 * b.val + s.val) (n : Fin 2816) :
    val_main_v65 x0 x1 x2 x4 x5 x6 (ix3 b s n) = act (xA x0) (modsA x1) (gA x2) (wuA x4) (cwA x5) (cbA x6) R n := by
  unfold val_main_v65 val_main_v64 val_main_call1_v5 val_main_call1_v4 val_main_call1_cst_0 val_main_call1_v3 val_main_call1_v2 val_main_call1_cst val_main_call1_v1 val_main_call1_v0 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_call0_v0 val_main_c val_main_v39 val_main_v38 val_main_v35 val_main_v34
  have hu := ref_up x0 x1 x2 x4 b
  revert hu
  generalize val_main_v37 x0 x1 x2 x4 = y
  intro hu
  pointwise
  have hz : FloatOps.sitofp (F := Ideal) FTy.f32 0#32 = 0 := by simp [FloatOps.sitofp]
  have hp : (if h : 1 ≤ s.val ∧ s.val - 1 < 8192 then y (ix3 b ⟨s.val - 1, by omega⟩ ⟨n.val, by omega⟩) else FloatOps.sitofp (F := Ideal) FTy.f32 0#32)
      = upPrev (xA x0) (modsA x1) (gA x2) (wuA x4) R ⟨n.val, by omega⟩ := by
    unfold upPrev
    by_cases h : s.val = 0
    · rw [dif_neg (by omega), if_pos (by omega), hz]
    · rw [dif_pos (by omega), if_neg (by omega)]
      exact hu _ _ (by show R.val - 1 = 8192 * b.val + (s.val - 1); omega) _
  have hn : (if h : 1 ≤ 2 + s.val ∧ 2 + s.val - 1 < 8192 then y (ix3 b ⟨2 + s.val - 1, by omega⟩ ⟨n.val, by omega⟩) else FloatOps.sitofp (F := Ideal) FTy.f32 0#32)
      = upNext (xA x0) (modsA x1) (gA x2) (wuA x4) R ⟨n.val, by omega⟩ := by
    unfold upNext
    by_cases h : s.val = 8191
    · rw [dif_neg (by omega), dif_pos (by omega), hz]
    · rw [dif_pos (by omega), dif_neg (by omega)]
      exact hu _ _ (by show R.val + 1 = 8192 * b.val + (2 + s.val - 1); omega) _
  rw [hp, hn, hu s R hR, hu s R hR]
  rfl

/-- The reference's down projection. -/
theorem ref_down (b : Fin 2) (s : Fin 8192) (R : Fin 16384) (hR : R.val = 8192 * b.val + s.val) (k : Fin 1024) :
    val_main_v66 x0 x1 x2 x4 x5 x6 x7 (ix3 b s k) = down (xA x0) (modsA x1) (gA x2) (wuA x4) (cwA x5) (cbA x6) (wdA x7) R k := by
  unfold val_main_v66 val_main_v36
  pointwise
  unfold down
  exact Finset.sum_congr rfl fun n _ => congrArg₂ _ (ref_act x0 x1 x2 x4 x5 x6 b s R hR n) rfl

/-- The reference's result. -/
theorem ref_res (R : Fin 16384) (k : Fin 1024) :
    val_main_v84 x0 x1 x2 x3 x4 x5 x6 x7 (ix2 R k)
      = res (xA x0) (modsA x1) (gA x2) (gA x3) (wuA x4) (cwA x5) (cbA x6) (wdA x7) R k := by
  unfold val_main_v84 val_main_v83 val_main_v82 val_main_v81 val_main_v80 val_main_v79 val_main_v78 val_main_v77 val_main_v76 val_main_v75 val_main_v74 val_main_v73 val_main_cst_5 val_main_v72 val_main_v71 val_main_cst_4 val_main_v70 val_main_v69 val_main_cst_3 val_main_v68 val_main_v67 val_main_v12 val_main_v6 val_main_v0
  have hd := fun b s => ref_down x0 x1 x2 x4 x5 x6 x7 b s R
  revert hd
  generalize val_main_v66 x0 x1 x2 x4 x5 x6 x7 = y
  intro hd
  pointwise
  simp only [hd ⟨R.val / 8192, by omega⟩ ⟨R.val % 8192, by omega⟩ (by show R.val = 8192 * (R.val / 8192) + R.val % 8192; omega)]
  rfl

end ConvFfn
-- ==== Proof.ConvFfn.Claim.lean ====
module

public import proofs.«01_k».proof.Defs
public import proofs.«01_k».proof.Proof.ConvFfn.Points
public import proofs.«01_k».proof.Proof.ConvFfn.Ref
public import proofs.«01_k».proof.Proof.Gen.Kernel2Ideal.Value
public import proofs.«01_k».proof.Proof.Gen.Reference2Ideal
public import Idealize.ShloMosaic.Lib.Quiescent

@[expose] public section

set_option maxRecDepth 16384

noncomputable section

open Idealize.ShloMosaic Idealize.ShloMosaic.TcCoe Idealize.SL.Sem
open Cert.Kernel2Ideal Cert.Kernel2Ideal.Gen

namespace ConvFfn

variable (m : (ℓ : Loc nD τ sig) → Buf (Elt Ideal) ℓ)

/-- The reference's result, from the kernel's arguments. -/
theorem res_out (c : Dev nD)
    (x0 : (⟨Cert.Reference2Ideal.S2x8192x1024, .f32⟩ : BufTy).Contents (Elt Ideal)) (e0 : x0 = m (c, Proc.tc.devRef main_arg0))
    (x1 : (⟨Cert.Reference2Ideal.S8x6144, .f32⟩ : BufTy).Contents (Elt Ideal)) (e1 : x1 = m (c, Proc.tc.devRef main_arg1))
    (x2 : (⟨Cert.Reference2Ideal.S1x1024, .f32⟩ : BufTy).Contents (Elt Ideal)) (e2 : x2 = m (c, Proc.tc.devRef main_arg2))
    (x3 : (⟨Cert.Reference2Ideal.S1x1024, .f32⟩ : BufTy).Contents (Elt Ideal)) (e3 : x3 = m (c, Proc.tc.devRef main_arg3))
    (x4 : (⟨Cert.Reference2Ideal.S1x1024x5632, .f32⟩ : BufTy).Contents (Elt Ideal)) (e4 : x4 = m (c, Proc.tc.devRef main_arg4))
    (x5 : (⟨Cert.Reference2Ideal.S1x3x2816, .f32⟩ : BufTy).Contents (Elt Ideal)) (e5 : x5 = m (c, Proc.tc.devRef main_arg5))
    (x6 : (⟨Cert.Reference2Ideal.S1x2816, .f32⟩ : BufTy).Contents (Elt Ideal)) (e6 : x6 = m (c, Proc.tc.devRef main_arg6))
    (x7 : (⟨Cert.Reference2Ideal.S1x2816x1024, .f32⟩ : BufTy).Contents (Elt Ideal)) (e7 : x7 = m (c, Proc.tc.devRef main_arg7)) :
    Cert.Reference2Ideal.Read.val_main_v84 x0 x1 x2 x3 x4 x5 x6 x7
      = fun i => res (xK m c) (modsK m c) (gK m c) (g2K m c) (wuK m c) (cwK m c) (cbK m c) (wdK m c) (i 0) (i 1) := by
  subst e0 e1 e2 e3 e4 e5 e6 e7
  funext i
  idx_vars i
  exact ref_res _ _ _ _ _ _ _ _ _ _

/-- The reference runs, keeps its arguments and leaves every counter at zero. -/
theorem frame_ref : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run (F := Ideal) m ρ)

set_option maxHeartbeats 4000000 in
/-- From equal arguments the kernel and the reference leave equal activations. -/
theorem algebraic : Cert.algebraic_Kernel2Ideal_Reference2Ideal (hKernel2Ideal := Cert.Kernel2Ideal.Gen.facts)
    (hReference2Ideal := Cert.Reference2Ideal.Gen.facts) := fun m ρ m' ρ' _ hag =>
  ⟨_, (θ_run _ _ _).mono (fun r h c => ⟨(h c).1.trans (arr_out m c), (h c).2⟩) (Cert.Kernel2Ideal.Value.run_blocks (F := Ideal) m ρ),
    (θ_run _ _ _).mono (fun r h c =>
      have g := hag c
      ⟨(h c).1.trans ((Cert.Reference2Ideal.Read.val_main_v84_eq _ _).trans (res_out m c _ g.1 _ g.2.1 _ g.2.2.1 _ g.2.2.2.1
        _ g.2.2.2.2.1 _ g.2.2.2.2.2.1 _ g.2.2.2.2.2.2.1 _ g.2.2.2.2.2.2.2)), (h c).2⟩)
      (Cert.Reference2Ideal.Value.run (F := Ideal) m' ρ')⟩

end ConvFfn
-- ==== Proof.Merge.Spec.lean ====
/-
  What the gated merge of the two mixing branches computes, written out over the extended reals in plain coordinates:
  the normalized and modulated rows, the two gates, the projections of the two branches, the output projection and the
  normalized, gated residual. Both programs are read against these definitions.
-/
module

public import proofs.«01_k».proof.Proof.ConvFfn.Spec

@[expose] public section

noncomputable section

open Idealize.ShloMosaic
open ConvFfn (rms mrow)

namespace Merge

variable (x : Fin 2 → Fin 8192 → Fin 1024 → EReal) (a f : Fin 16384 → Fin 512 → EReal) (mods : Fin 8 → Fin 6144 → EReal)
  (g g2 : Fin 1024 → EReal) (w : Fin 1024 → Fin 3328 → EReal) (wa wf : Fin 512 → Fin 1024 → EReal) (wo : Fin 1024 → Fin 1024 → EReal)

/-- Token `R`'s row, normalized and modulated. -/
def hrow (R : Fin 16384) : Fin 1024 → EReal :=
  mrow (x ⟨R.val / 8192, by omega⟩ ⟨R.val % 8192, by omega⟩) g
    (fun k => mods ⟨R.val / 8192, by omega⟩ ⟨1024 + k.val, by omega⟩)
    (fun k => mods ⟨R.val / 8192, by omega⟩ ⟨k.val, by omega⟩)

/-- Two values, each times the logistic of its gate, added. -/
def gates (p u q v : EReal) : EReal := Ideal.logistic p * u + Ideal.logistic q * v

/-- The merged branches: the gates stand in the last 2048 columns of the input projection. -/
def mix (R : Fin 16384) (n : Fin 1024) : EReal :=
  gates (∑ k, hrow x mods g R k * w k ⟨1280 + n.val, by omega⟩) (∑ k, a R k * wa k n)
    (∑ k, hrow x mods g R k * w k ⟨2304 + n.val, by omega⟩) (∑ k, f R k * wf k n)

/-- The output projection. -/
def outp (R : Fin 16384) (k : Fin 1024) : EReal := ∑ n, mix x a f mods g w wa wf R n * wo n k

/-- The result: the activations and the gated, normalized output projection. -/
def res (R : Fin 16384) (k : Fin 1024) : EReal :=
  x ⟨R.val / 8192, by omega⟩ ⟨R.val % 8192, by omega⟩ k +
    mods ⟨R.val / 8192, by omega⟩ ⟨2048 + k.val, by omega⟩ *
      (outp x a f mods g w wa wf wo R k * rms (outp x a f mods g w wa wf wo R) * g2 k)

/-- A sum over 1024 places is the sum of its four quarters. -/
theorem sum_quarters (s : Fin 1024 → EReal) :
    ∑ n, s n = ∑ n : Fin 256, s ⟨0 + n.val, by omega⟩ + ∑ n : Fin 256, s ⟨256 + n.val, by omega⟩
      + ∑ n : Fin 256, s ⟨512 + n.val, by omega⟩ + ∑ n : Fin 256, s ⟨768 + n.val, by omega⟩ := by
  refine (Fin.sum_univ_add (a := 768) (b := 256) s).trans (congrArg₂ (· + ·) ?_ rfl)
  refine (Fin.sum_univ_add (a := 512) (b := 256) _).trans (congrArg₂ (· + ·) ?_ rfl)
  refine (Fin.sum_univ_add (a := 256) (b := 256) _).trans (congrArg₂ (· + ·) ?_ rfl)
  exact Finset.sum_congr rfl fun n _ => congrArg s (Fin.ext (Nat.zero_add _).symm)

end Merge
-- ==== Proof.Merge.Pays.lean ====
module

public import Idealize.ShloMosaic.Lib.Pointwise
public import proofs.«01_k».proof.Proof.Gen.Kernel3Ideal.Skeleton
public import proofs.«01_k».proof.Proof.Merge.Spec

@[expose] public section

set_option maxRecDepth 16384

noncomputable section

open Idealize.ShloMosaic Idealize.ShloMosaic.TcCoe Idealize.SL.Sem
open Cert.Kernel3Ideal Cert.Kernel3Ideal.Gen
open ConvFfn (rms mrow)

namespace Merge

/-- The block's copy is the block. -/
theorem pay4_eq (v : Vec Ideal S1024x1024 .f32) : k0_pay4 v = v := by
  funext i; idx_vars i; unfold k0_pay4; pointwise

/-- The gain's copy is the gain. -/
theorem pay5_eq (v : Vec Ideal S1x1024 .f32) : k0_pay5 v = v := by
  funext i; idx_vars i; unfold k0_pay5; pointwise

/-- The other gain's copy is the other gain. -/
theorem pay13_eq (v : Vec Ideal S1x1024 .f32) : k0_pay13 v = v := by
  funext i; idx_vars i; unfold k0_pay13; pointwise

/-- Over the extended reals the rounded rows of the up projection are its rows. -/
theorem pay2_apply (v : Vec Ideal S64x5632 .f32) (a : Fin 64) (l : Fin 5632) : k0_pay2 v (ix2 a l) = v (ix2 a l) := by
  unfold k0_pay2; pointwise

/-- So are those of the down projection. -/
theorem pay3_apply (v : Vec Ideal S176x1024 .f32) (a : Fin 176) (l : Fin 1024) : k0_pay3 v (ix2 a l) = v (ix2 a l) := by
  unfold k0_pay3; pointwise

/-- The normalized, modulated rows of a block. -/
theorem pay6_apply (v : FVec Ideal S1024x1024 .f32) (sh sc : Vec Ideal S1x1024 .f32) (g : FVec Ideal S1x1024 .f32) (r k : Fin 1024) :
    k0_pay6 v sh sc g (ix2 r k)
      = mrow (fun k => v (ix2 r k)) (fun k => g (ix2 0 k)) (fun k => sc (ix2 0 k)) (fun k => sh (ix2 0 k)) k := by
  unfold k0_pay6
  pointwise
  rfl

/-- One 256-column chunk of the merged branches, from the rows, the branches and the chunk's weights. -/
def mixB (h : FVec Ideal S1024x1024 .bf16) (a f : Vec Ideal S1024x512 .bf16) (u v : Vec Ideal S1024x256 .bf16) (p q : Vec Ideal S512x256 .bf16)
    (r : Fin 1024) (n : Fin 256) : EReal :=
  gates (∑ k, h (ix2 r k) * u (ix2 k n)) (∑ k, a (ix2 r k) * p (ix2 k n))
    (∑ k, h (ix2 r k) * v (ix2 k n)) (∑ k, f (ix2 r k) * q (ix2 k n))

section Chunks

variable (h : FVec Ideal S1024x1024 .bf16) (a f : Vec Ideal S1024x512 .bf16) (u v u' v' : Vec Ideal S1024x256 .bf16)
  (p q p' q' : Vec Ideal S512x256 .bf16) (o o' : Vec Ideal S256x1024 .bf16) (y : FVec Ideal S1024x1024 .f32) (r k : Fin 1024) (n : Fin 256)

/-- The first chunk. -/
theorem pay7_apply (b : FVec Ideal S1024x1024 .f32) (sh sc : Vec Ideal S1x1024 .f32) (g : FVec Ideal S1x1024 .f32) :
    k0_pay7 b sh sc g a f u v p q (ix2 r n) = mixB (k0_pay6 b sh sc g) a f u v p q r n := by
  unfold k0_pay7
  generalize k0_pay6 b sh sc g = h
  pointwise
  rfl

/-- The first two chunks' part of the output projection. -/
theorem pay8_apply (m : FVec Ideal S1024x256 .bf16) :
    k0_pay8 h a f m o u v p q o' (ix2 r k) = ∑ n, m (ix2 r n) * o (ix2 n k) + ∑ n, mixB h a f u v p q r n * o' (ix2 n k) := by
  unfold k0_pay8
  pointwise
  rfl

/-- The third and the fourth chunk's part, added to it. -/
theorem pay12_apply :
    k0_pay12 h a f y (k0_pay9 h u) (k0_pay10 h v) (k0_pay11 a p) q o u' v' p' q' o' (ix2 r k)
      = y (ix2 r k) + ∑ n, mixB h a f u v p q r n * o (ix2 n k) + ∑ n, mixB h a f u' v' p' q' r n * o' (ix2 n k) := by
  unfold k0_pay12 k0_pay9 k0_pay10 k0_pay11
  pointwise
  rfl

/-- Its squares. -/
theorem pay14_apply (w z s : FVec Ideal S1024x256 .f32) :
    k0_pay14 h a f y w z s q o u' v' p' q' o' (ix2 r k)
      = k0_pay12 h a f y w z s q o u' v' p' q' o' (ix2 r k) * k0_pay12 h a f y w z s q o u' v' p' q' o' (ix2 r k) := rfl

end Chunks

/-- The residual. -/
theorem pay1_apply (v : FVec Ideal S1024x1024 .f32) (gt : Vec Ideal S1x1024 .f32) (y : FVec Ideal S1024x1024 .f32) (g : FVec Ideal S1x1024 .f32)
    (yy : FVec Ideal S1024x1024 .f32) (r k : Fin 1024) (hy : ∀ j, yy (ix2 r j) = y (ix2 r j) * y (ix2 r j)) :
    k0_pay1 v gt y g yy (ix2 r k)
      = v (ix2 r k) + gt (ix2 0 k) * (y (ix2 r k) * rms (fun j => y (ix2 r j)) * g (ix2 0 k)) := by
  unfold k0_pay1
  pointwise
  simp only [hy]
  rfl

end Merge
-- ==== Proof.Merge.Blocks.lean ====
module

public import proofs.«01_k».proof.Proof.Gen.Kernel3Ideal.Frame
public import proofs.«01_k».proof.Proof.Merge.Spec

@[expose] public section

set_option maxRecDepth 16384

noncomputable section

open Idealize.ShloMosaic Idealize.ShloMosaic.TcCoe Idealize.SL.Sem
open Cert.Kernel3Ideal Cert.Kernel3Ideal.Gen
open ConvFfn (rms mrow)

namespace Merge

variable (m : (ℓ : Loc nD τ sig) → Buf (Elt Ideal) ℓ)

/-- The kernel program's activations, by coordinates. -/
abbrev xK (c : Dev nD) (b : Fin 2) (s : Fin 8192) (k : Fin 1024) : EReal := m (c, Proc.tc.devRef main_arg0) (ix3 b s k)
/-- Its attention branch. -/
abbrev aK (c : Dev nD) (R : Fin 16384) (k : Fin 512) : EReal := m (c, Proc.tc.devRef main_arg1) (ix2 R k)
/-- Its Fourier branch. -/
abbrev fK (c : Dev nD) (R : Fin 16384) (k : Fin 512) : EReal := m (c, Proc.tc.devRef main_arg2) (ix2 R k)
/-- Its modulation vectors. -/
abbrev modsK (c : Dev nD) (b : Fin 8) (k : Fin 6144) : EReal := m (c, Proc.tc.devRef main_arg3) (ix2 b k)
/-- Its first gain vector. -/
abbrev gK (c : Dev nD) (k : Fin 1024) : EReal := m (c, Proc.tc.devRef main_arg4) (ix2 0 k)
/-- Its second gain vector. -/
abbrev g2K (c : Dev nD) (k : Fin 1024) : EReal := m (c, Proc.tc.devRef main_arg5) (ix2 0 k)
/-- Its input projection. -/
abbrev wK (c : Dev nD) (k : Fin 1024) (n : Fin 3328) : EReal := m (c, Proc.tc.devRef main_arg6) (ix3 0 k n)
/-- Its projection of the attention branch. -/
abbrev waK (c : Dev nD) (k : Fin 512) (n : Fin 1024) : EReal := m (c, Proc.tc.devRef main_arg7) (ix3 0 k n)
/-- Its projection of the Fourier branch. -/
abbrev wfK (c : Dev nD) (k : Fin 512) (n : Fin 1024) : EReal := m (c, Proc.tc.devRef main_arg8) (ix3 0 k n)
/-- Its output projection. -/
abbrev woK (c : Dev nD) (n k : Fin 1024) : EReal := m (c, Proc.tc.devRef main_arg9) (ix3 0 n k)

/-- Block `t` of the activations holds the tokens `1024 t, …, 1024 t + 1023`. -/
theorem blk0 (c : Dev nD) (t : Fin cfg0.N) (a l : Fin 1024) (R : Fin 16384) (hR : R.val = 1024 * t.val + a.val) :
    iblk m c 0 t (ix2 a l) = xK m c ⟨R.val / 8192, by omega⟩ ⟨R.val % 8192, by omega⟩ l := by
  have hi : win0_0.index t = ![t.val, 0] := (show ∀ t : Fin cfg0.N, win0_0.index t = ![t.val, 0] by decide +kernel) t
  have ht : t.val < 16 := t.isLt
  trans V m c main_v4 (ix2 R l)
  · blk_ext [iblk, hi]
  entry_read
  pointwise

/-- Block `t` of the attention branch. -/
theorem blk1 (c : Dev nD) (t : Fin cfg0.N) (a : Fin 1024) (l : Fin 512) (R : Fin 16384) (hR : R.val = 1024 * t.val + a.val) :
    iblk m c 1 t (ix2 a l) = aK m c R l := by
  have hi : win0_1.index t = ![t.val, 0] := (show ∀ t : Fin cfg0.N, win0_1.index t = ![t.val, 0] by decide +kernel) t
  have ht : t.val < 16 := t.isLt
  trans V m c main_arg1 (ix2 R l)
  · blk_ext [iblk, hi]
  entry_read
  rfl

/-- Block `t` of the Fourier branch. -/
theorem blk2 (c : Dev nD) (t : Fin cfg0.N) (a : Fin 1024) (l : Fin 512) (R : Fin 16384) (hR : R.val = 1024 * t.val + a.val) :
    iblk m c 2 t (ix2 a l) = fK m c R l := by
  have hi : win0_2.index t = ![t.val, 0] := (show ∀ t : Fin cfg0.N, win0_2.index t = ![t.val, 0] by decide +kernel) t
  have ht : t.val < 16 := t.isLt
  trans V m c main_arg2 (ix2 R l)
  · blk_ext [iblk, hi]
  entry_read
  rfl

/-- 1024 columns of the modulation row of block `t`. -/
theorem blk3_row (c : Dev nD) (t : Fin cfg0.N) (l : Fin 1024) (o : ℕ) (ho : o + 1024 ≤ 6144) (off : Fin 2 → ℕ) (hoff : off = ![t.val / 8, o]) (h) :
    View.ld (iblk m c 3 t) (Rect.unit off ![1,1024] h) (ix2 0 l)
      = modsK m c ⟨t.val / 8, by have := t.isLt; change t.val < 16 at this; omega⟩ ⟨o + l.val, by omega⟩ := by
  have hi : win0_3.index t = ![0, 0] := (show ∀ t : Fin cfg0.N, win0_3.index t = ![0, 0] by decide +kernel) t
  have ht : t.val < 16 := t.isLt
  trans V m c main_arg3 (ix2 ⟨t.val / 8, by omega⟩ ⟨o + l.val, by omega⟩)
  · rw [View.ld_apply]
    blk_ext [iblk, hi]
    · exact (Rect.idx_unit_val _ _ _ _ _).trans (congrArg (· + 0) (congrFun hoff 0))
    · exact (Rect.idx_unit_val _ _ _ _ _).trans (congrArg (· + l.val) (congrFun hoff 1))
  entry_read
  rfl

/-- Where the shift row stands. -/
theorem off1 (t : Fin cfg0.N) : k0_off1 (grid0.coords t) = ![t.val / 8, 0] := by revert t; decide +kernel
/-- Where the scale row stands. -/
theorem off2 (t : Fin cfg0.N) : k0_off2 (grid0.coords t) = ![t.val / 8, 1024] := by revert t; decide +kernel
/-- Where the gate row stands. -/
theorem off3 (t : Fin cfg0.N) : k0_off3 (grid0.coords t) = ![t.val / 8, 2048] := by revert t; decide +kernel

/-- The first gain. -/
theorem blk4 (c : Dev nD) (t : Fin cfg0.N) (l : Fin 1024) : iblk m c 4 t (ix2 0 l) = gK m c l := by
  have hi : win0_4.index t = ![0, 0] := by revert t; decide +kernel
  trans V m c main_v1 (ix2 0 l)
  · blk_ext [iblk, hi]
  entry_read
  pointwise

/-- The second gain. -/
theorem blk5 (c : Dev nD) (t : Fin cfg0.N) (l : Fin 1024) : iblk m c 5 t (ix2 0 l) = g2K m c l := by
  have hi : win0_5.index t = ![0, 0] := by revert t; decide +kernel
  trans V m c main_v3 (ix2 0 l)
  · blk_ext [iblk, hi]
  entry_read
  pointwise

/-- The gates' columns of the input projection. -/
theorem blk6 (c : Dev nD) (t : Fin cfg0.N) (a : Fin 1024) (l : Fin 2048) : iblk m c 6 t (ix2 a l) = wK m c a ⟨1280 + l.val, by omega⟩ := by
  have hi : win0_6.index t = ![0, 0] := by revert t; decide +kernel
  trans V m c main_v7 (ix2 a l)
  · blk_ext [iblk, hi]
  entry_read
  pointwise

/-- The projection of the attention branch. -/
theorem blk7 (c : Dev nD) (t : Fin cfg0.N) (a : Fin 512) (l : Fin 1024) : iblk m c 7 t (ix2 a l) = waK m c a l := by
  have hi : win0_7.index t = ![0, 0] := by revert t; decide +kernel
  trans V m c main_v9 (ix2 a l)
  · blk_ext [iblk, hi]
  entry_read
  pointwise

/-- The projection of the Fourier branch. -/
theorem blk8 (c : Dev nD) (t : Fin cfg0.N) (a : Fin 512) (l : Fin 1024) : iblk m c 8 t (ix2 a l) = wfK m c a l := by
  have hi : win0_8.index t = ![0, 0] := by revert t; decide +kernel
  trans V m c main_v11 (ix2 a l)
  · blk_ext [iblk, hi]
  entry_read
  pointwise

/-- The output projection. -/
theorem blk9 (c : Dev nD) (t : Fin cfg0.N) (a l : Fin 1024) : iblk m c 9 t (ix2 a l) = woK m c a l := by
  have hi : win0_9.index t = ![0, 0] := by revert t; decide +kernel
  trans V m c main_v13 (ix2 a l)
  · blk_ext [iblk, hi]
  entry_read
  pointwise

/-- Block `t` of the up projection holds its rows `64 t, …, 64 t + 63`. -/
theorem blk10 (c : Dev nD) (t : Fin cfg0.N) (a : Fin 64) (l : Fin 5632) (r : Fin 1024) (hr : r.val = 64 * t.val + a.val) :
    iblk m c 10 t (ix2 a l) = m (c, Proc.tc.devRef main_arg10) (ix3 0 r l) := by
  have hi : win0_10.index t = ![t.val, 0] := (show ∀ t : Fin cfg0.N, win0_10.index t = ![t.val, 0] by decide +kernel) t
  have ht : t.val < 16 := t.isLt
  trans V m c main_v14 (ix2 r l)
  · blk_ext [iblk, hi]
  entry_read
  pointwise

/-- Block `t` of the down projection holds its rows `176 t, …, 176 t + 175`. -/
theorem blk11 (c : Dev nD) (t : Fin cfg0.N) (a : Fin 176) (l : Fin 1024) (r : Fin 2816) (hr : r.val = 176 * t.val + a.val) :
    iblk m c 11 t (ix2 a l) = m (c, Proc.tc.devRef main_arg11) (ix3 0 r l) := by
  have hi : win0_11.index t = ![t.val, 0] := (show ∀ t : Fin cfg0.N, win0_11.index t = ![t.val, 0] by decide +kernel) t
  have ht : t.val < 16 := t.isLt
  trans V m c main_v15 (ix2 r l)
  · blk_ext [iblk, hi]
  entry_read
  pointwise

end Merge
-- ==== Proof.Merge.Outs.lean ====
module

public import proofs.«01_k».proof.Proof.Merge.Pays
public import proofs.«01_k».proof.Proof.Merge.Blocks
public import Idealize.ShloMosaic.Lib.Pipeline.ReadBack

@[expose] public section

set_option maxRecDepth 16384

noncomputable section

open Idealize.ShloMosaic Idealize.ShloMosaic.TcCoe Idealize.SL.Sem
open Cert.Kernel3Ideal Cert.Kernel3Ideal.Gen
open ConvFfn (rms mrow)

namespace Merge

/-- 256 columns of the gates' weights. -/
theorem ldG (U : Vec Ideal S1024x2048 .bf16) (o : ℕ) (ho : o + 256 ≤ 2048)
    (h : ∀ a, (![0, o] : Fin 2 → ℕ) a + (![1024, 256] : Fin 2 → ℕ) a ≤ S1024x2048.size a) (a : Fin 1024) (l : Fin 256) :
    View.ld U (Rect.unit ![0, o] ![1024, 256] h) (ix2 a l) = U (ix2 a ⟨o + l.val, by omega⟩) := by
  rw [View.ld_apply]
  refine congrArg U ?_
  funext b
  match b with
  | ⟨0, _⟩ => exact Fin.ext ((Rect.idx_unit_val _ _ _ _ _).trans (Nat.zero_add _))
  | ⟨1, _⟩ => exact Fin.ext (Rect.idx_unit_val _ _ _ _ _)

/-- 256 columns of a branch's projection. -/
theorem ldP (U : Vec Ideal S512x1024 .bf16) (o : ℕ) (ho : o + 256 ≤ 1024)
    (h : ∀ a, (![0, o] : Fin 2 → ℕ) a + (![512, 256] : Fin 2 → ℕ) a ≤ S512x1024.size a) (a : Fin 512) (l : Fin 256) :
    View.ld U (Rect.unit ![0, o] ![512, 256] h) (ix2 a l) = U (ix2 a ⟨o + l.val, by omega⟩) := by
  rw [View.ld_apply]
  refine congrArg U ?_
  funext b
  match b with
  | ⟨0, _⟩ => exact Fin.ext ((Rect.idx_unit_val _ _ _ _ _).trans (Nat.zero_add _))
  | ⟨1, _⟩ => exact Fin.ext (Rect.idx_unit_val _ _ _ _ _)

/-- 256 rows of the output projection. -/
theorem ldO (U : Vec Ideal S1024x1024 .bf16) (o : ℕ) (ho : o + 256 ≤ 1024)
    (h : ∀ a, (![o, 0] : Fin 2 → ℕ) a + (![256, 1024] : Fin 2 → ℕ) a ≤ S1024x1024.size a) (a : Fin 256) (l : Fin 1024) :
    View.ld U (Rect.unit ![o, 0] ![256, 1024] h) (ix2 a l) = U (ix2 ⟨o + a.val, by omega⟩ l) := by
  rw [View.ld_apply]
  refine congrArg U ?_
  funext b
  match b with
  | ⟨0, _⟩ => exact Fin.ext (Rect.idx_unit_val _ _ _ _ _)
  | ⟨1, _⟩ => exact Fin.ext ((Rect.idx_unit_val _ _ _ _ _).trans (Nat.zero_add _))

variable (h : FVec Ideal S1024x1024 .bf16) (a f : Vec Ideal S1024x512 .bf16) (U : Vec Ideal S1024x2048 .bf16) (A W : Vec Ideal S512x1024 .bf16)
  (O : Vec Ideal S1024x1024 .bf16)

/-- Column `n` of row `r` of the merged branches, from the rows, the branches and the weights. -/
def mixF (r n : Fin 1024) : EReal :=
  gates (∑ k, h (ix2 r k) * U (ix2 k ⟨n.val, by omega⟩)) (∑ k, a (ix2 r k) * A (ix2 k n))
    (∑ k, h (ix2 r k) * U (ix2 k ⟨1024 + n.val, by omega⟩)) (∑ k, f (ix2 r k) * W (ix2 k n))

/-- The chunk from column `o` on is those columns of the merged branches. -/
theorem chunk_apply (o o' : ℕ) (ho : o + 256 ≤ 1024) (ho' : o' = 1024 + o) (i1 i2 i3 i4) (r : Fin 1024) (l : Fin 256) :
    mixB h a f (View.ld U (Rect.unit ![0, o] ![1024, 256] i1)) (View.ld U (Rect.unit ![0, o'] ![1024, 256] i2))
      (View.ld A (Rect.unit ![0, o] ![512, 256] i3)) (View.ld W (Rect.unit ![0, o] ![512, 256] i4)) r l
      = mixF h a f U A W r ⟨o + l.val, by omega⟩ := by
  subst ho'
  have e : ∀ p, (⟨1024 + o + l.val, p⟩ : Fin 2048) = ⟨1024 + (o + l.val), by omega⟩ := fun p => Fin.ext (Nat.add_assoc _ _ _)
  unfold mixB mixF
  refine congr (congr (congrArg₂ gates ?_ ?_) ?_) ?_
  · exact Finset.sum_congr rfl fun k _ => congrArg (h (ix2 r k) * ·) (ldG U o (by omega) i1 k l)
  · exact Finset.sum_congr rfl fun k _ => congrArg (a (ix2 r k) * ·) (ldP A o ho i3 k l)
  · exact Finset.sum_congr rfl fun k _ => congrArg (h (ix2 r k) * ·) ((ldG U (1024 + o) (by omega) i2 k l).trans (congrArg (fun z => U (ix2 k z)) (e _)))
  · exact Finset.sum_congr rfl fun k _ => congrArg (f (ix2 r k) * ·) (ldP W o ho i4 k l)

/-- The chunk's part of the output projection. -/
theorem part_apply (o o' : ℕ) (ho : o + 256 ≤ 1024) (ho' : o' = 1024 + o) (i1 i2 i3 i4 i5) (r k : Fin 1024) :
    ∑ n, mixB h a f (View.ld U (Rect.unit ![0, o] ![1024, 256] i1)) (View.ld U (Rect.unit ![0, o'] ![1024, 256] i2))
      (View.ld A (Rect.unit ![0, o] ![512, 256] i3)) (View.ld W (Rect.unit ![0, o] ![512, 256] i4)) r n
        * View.ld O (Rect.unit ![o, 0] ![256, 1024] i5) (ix2 n k)
      = ∑ n : Fin 256, mixF h a f U A W r ⟨o + n.val, by omega⟩ * O (ix2 ⟨o + n.val, by omega⟩ k) :=
  Finset.sum_congr rfl fun n _ => congrArg₂ (· * ·) (chunk_apply h a f U A W o o' ho ho' i1 i2 i3 i4 r n) (ldO O o ho i5 n k)

variable (m : (ℓ : Loc nD τ sig) → Buf (Elt Ideal) ℓ)

/-- The normalized rows of block `t`. -/
abbrev hB (c : Dev nD) (t : Fin cfg0.N) : FVec Ideal S1024x1024 .bf16 :=
  k0_pay6 (k0_pay4 (iblk m c 0 t)) (View.ld (iblk m c 3 t) (Rect.unit (k0_off1 (grid0.coords t)) ![1, 1024] (k0_off1_inb (grid0.coords t))))
    (View.ld (iblk m c 3 t) (Rect.unit (k0_off2 (grid0.coords t)) ![1, 1024] (k0_off2_inb (grid0.coords t)))) (k0_pay5 (iblk m c 4 t))

set_option maxHeartbeats 4000000 in
/-- What point `t` leaves in its block of the result, from its blocks. -/
theorem outs_eq (c : Dev nD) (t : Fin cfg0.N) : ∃ Y YY : FVec Ideal S1024x1024 .f32, (outsAt0 m c t).1
    = k0_pay1 (k0_pay4 (iblk m c 0 t)) (View.ld (iblk m c 3 t) (Rect.unit (k0_off3 (grid0.coords t)) ![1, 1024] (k0_off3_inb (grid0.coords t))))
        Y (k0_pay13 (iblk m c 5 t)) YY
      ∧ (∀ r k, YY (ix2 r k) = Y (ix2 r k) * Y (ix2 r k))
      ∧ ∀ r k, Y (ix2 r k) = ∑ n, mixF (hB m c t) (iblk m c 1 t) (iblk m c 2 t) (iblk m c 6 t) (iblk m c 7 t) (iblk m c 8 t) r n * iblk m c 9 t (ix2 n k) := by
  unfold outsAt0
  dsimp only
  frame_out
  refine ⟨_, _, rfl, fun r k => rfl, fun r k => ?_⟩
  rw [sum_quarters]
  refine (pay12_apply _ _ _ _ _ _ _ _ _ _ _ _ _ _ r k).trans (congrArg₂ (· + ·) (congrArg₂ (· + ·) ?_ ?_) ?_)
  · refine (pay8_apply _ _ _ _ _ _ _ _ _ r k _).trans (congrArg₂ (· + ·) ?_ ?_)
    · refine (Finset.sum_congr rfl fun n _ => congrArg (· * _) (pay7_apply _ _ _ _ _ _ r n _ _ _ _)).trans ?_
      exact part_apply _ _ _ _ _ _ _ 0 1024 (by omega) rfl _ _ _ _ _ r k
    · exact part_apply _ _ _ _ _ _ _ 256 1280 (by omega) rfl _ _ _ _ _ r k
  · exact part_apply _ _ _ _ _ _ _ 512 1536 (by omega) rfl _ _ _ _ _ r k
  · exact part_apply _ _ _ _ _ _ _ 768 1792 (by omega) rfl _ _ _ _ _ r k

end Merge
-- ==== Proof.Merge.Points.lean ====
module

public import proofs.«01_k».proof.Proof.Merge.Outs

@[expose] public section

set_option maxRecDepth 16384

noncomputable section

open Idealize.ShloMosaic Idealize.ShloMosaic.TcCoe Idealize.SL.Sem
open Cert.Kernel3Ideal Cert.Kernel3Ideal.Gen
open ConvFfn (rms mrow)

namespace Merge

variable (m : (ℓ : Loc nD τ sig) → Buf (Elt Ideal) ℓ)

/-- The block's rows are the tokens' modulated rows. -/
theorem hB_apply (c : Dev nD) (t : Fin cfg0.N) (r k : Fin 1024) (R : Fin 16384) (hR : R.val = 1024 * t.val + r.val) :
    hB m c t (ix2 r k) = hrow (xK m c) (modsK m c) (gK m c) R k := by
  have ht : t.val < 16 := t.isLt
  have e : ∀ h, (⟨t.val / 8, h⟩ : Fin 8) = ⟨R.val / 8192, by omega⟩ := fun h => Fin.ext (show t.val / 8 = R.val / 8192 by omega)
  have z : ∀ (j : Fin 1024) h, (⟨0 + j.val, h⟩ : Fin 6144) = ⟨j.val, by omega⟩ := fun j h => Fin.ext (Nat.zero_add _)
  have e1 := fun j => (blk3_row m c t j 0 (by omega) _ (off1 t) (k0_off1_inb (grid0.coords t))).trans (congrArg₂ (modsK m c) (e _) (z j _))
  have e2 := fun j => (blk3_row m c t j 1024 (by omega) _ (off2 t) (k0_off2_inb (grid0.coords t))).trans (congrArg (modsK m c · _) (e _))
  unfold hB
  rw [pay6_apply, pay4_eq, pay5_eq, funext fun j => blk0 m c t r j R hR, funext fun j => blk4 m c t j, funext e1, funext e2]
  rfl

/-- The merged branches of a block's rows are the tokens' merged branches. -/
theorem mixF_apply (c : Dev nD) (t : Fin cfg0.N) (r n : Fin 1024) (R : Fin 16384) (hR : R.val = 1024 * t.val + r.val) :
    mixF (hB m c t) (iblk m c 1 t) (iblk m c 2 t) (iblk m c 6 t) (iblk m c 7 t) (iblk m c 8 t) r n
      = mix (xK m c) (aK m c) (fK m c) (modsK m c) (gK m c) (wK m c) (waK m c) (wfK m c) R n := by
  have e : ∀ h, (⟨1280 + (1024 + n.val), h⟩ : Fin 3328) = ⟨2304 + n.val, by omega⟩ := fun h => Fin.ext (show 1280 + (1024 + n.val) = 2304 + n.val by omega)
  unfold mixF mix
  refine congr (congr (congrArg₂ gates ?_ ?_) ?_) ?_
  · exact Finset.sum_congr rfl fun k _ => congrArg₂ (· * ·) (hB_apply m c t r k R hR) (blk6 m c t k _)
  · exact Finset.sum_congr rfl fun k _ => congrArg₂ (· * ·) (blk1 m c t r k R hR) (blk7 m c t k n)
  · exact Finset.sum_congr rfl fun k _ => congrArg₂ (· * ·) (hB_apply m c t r k R hR) ((blk6 m c t k _).trans (congrArg (wK m c k) (e _)))
  · exact Finset.sum_congr rfl fun k _ => congrArg₂ (· * ·) (blk2 m c t r k R hR) (blk8 m c t k n)

/-- What point `t` leaves in row `r` is the result of token `1024 t + r`. -/
theorem out_apply (c : Dev nD) (t : Fin cfg0.N) (r k : Fin 1024) (R : Fin 16384) (hR : R.val = 1024 * t.val + r.val) :
    (outsAt0 m c t).1 (ix2 r k)
      = res (xK m c) (aK m c) (fK m c) (modsK m c) (gK m c) (g2K m c) (wK m c) (waK m c) (wfK m c) (woK m c) R k := by
  have ht : t.val < 16 := t.isLt
  obtain ⟨Y, YY, hA, hyy, hy⟩ := outs_eq m c t
  have hY : ∀ j, Y (ix2 r j) = outp (xK m c) (aK m c) (fK m c) (modsK m c) (gK m c) (wK m c) (waK m c) (wfK m c) (woK m c) R j :=
    fun j => (hy r j).trans (Finset.sum_congr rfl fun n _ => congrArg₂ (· * ·) (mixF_apply m c t r n R hR) (blk9 m c t n j))
  have e : ∀ h, (⟨t.val / 8, h⟩ : Fin 8) = ⟨R.val / 8192, by omega⟩ := fun h => Fin.ext (show t.val / 8 = R.val / 8192 by omega)
  rw [hA, pay1_apply _ _ _ _ _ _ _ (hyy r), funext hY, hY, pay4_eq, pay13_eq, blk0 m c t r k R hR, blk5, blk3_row m c t k 2048 (by omega) _ (off3 t), e]
  rfl

/-- The rows of the up projection a point copies. -/
theorem out_up_apply (c : Dev nD) (t : Fin cfg0.N) (a : Fin 64) (l : Fin 5632) (r : Fin 1024) (hr : r.val = 64 * t.val + a.val) :
    (outsAt0 m c t).2.1 (ix2 a l) = m (c, Proc.tc.devRef main_arg10) (ix3 0 r l) := by
  rw [← blk10 m c t a l r hr]
  unfold outsAt0
  dsimp only
  frame_out
  exact pay2_apply _ a l

/-- The rows of the down projection a point copies. -/
theorem out_down_apply (c : Dev nD) (t : Fin cfg0.N) (a : Fin 176) (l : Fin 1024) (r : Fin 2816) (hr : r.val = 176 * t.val + a.val) :
    (outsAt0 m c t).2.2 (ix2 a l) = m (c, Proc.tc.devRef main_arg11) (ix3 0 r l) := by
  rw [← blk11 m c t a l r hr]
  unfold outsAt0
  dsimp only
  frame_out
  exact pay3_apply _ a l

/-- The array of the activations after the run. -/
theorem arr_out (c : Dev nD) : (dats m 0 c).arrAt 12 cfg0.N
    = fun i => res (xK m c) (aK m c) (fK m c) (modsK m c) (gK m c) (g2K m c) (wK m c) (waK m c) (wfK m c) (woK m c) (i 0) (i 1) := by
  have hi : ∀ t : Fin cfg0.N, win0_12.index t = ![t.val, 0] := by decide +kernel
  refine (dats m 0 c).arrAt_eq_of_covers 12 _ (by decide +kernel) fun t hf y => ?_
  have ht : t.val < 16 := t.isLt
  blk_simp [hi]
  rw [after0_12]
  idx_vars y
  refine (out_apply m c t _ _ ⟨1024 * t.val + y0.val, by omega⟩ rfl).trans ?_
  refine congrArg₂ (res _ _ _ _ _ _ _ _ _ _) (Fin.ext ?_) (Fin.ext ?_)
  · change 1024 * t.val + y0.val = _
    blk_simp [hi]
    omega
  · blk_simp [hi]

/-- The array of the up projection after the run. -/
theorem arr_up (c : Dev nD) : (dats m 0 c).arrAt 13 cfg0.N = fun i => m (c, Proc.tc.devRef main_arg10) (ix3 0 (i 0) (i 1)) := by
  have hi : ∀ t : Fin cfg0.N, win0_13.index t = ![t.val, 0] := by decide +kernel
  refine (dats m 0 c).arrAt_eq_of_covers 13 _ (by decide +kernel) fun t hf y => ?_
  have ht : t.val < 16 := t.isLt
  blk_simp [hi]
  rw [after0_13]
  idx_vars y
  refine (out_up_apply m c t _ _ ⟨64 * t.val + y0.val, by omega⟩ rfl).trans ?_
  refine congrArg₂ (fun a b => m (c, Proc.tc.devRef main_arg10) (ix3 0 a b)) (Fin.ext ?_) (Fin.ext ?_)
  · change 64 * t.val + y0.val = _
    blk_simp [hi]
    omega
  · blk_simp [hi]

/-- The array of the down projection after the run. -/
theorem arr_down (c : Dev nD) : (dats m 0 c).arrAt 14 cfg0.N = fun i => m (c, Proc.tc.devRef main_arg11) (ix3 0 (i 0) (i 1)) := by
  have hi : ∀ t : Fin cfg0.N, win0_14.index t = ![t.val, 0] := by decide +kernel
  refine (dats m 0 c).arrAt_eq_of_covers 14 _ (by decide +kernel) fun t hf y => ?_
  have ht : t.val < 16 := t.isLt
  blk_simp [hi]
  rw [after0_14]
  idx_vars y
  refine (out_down_apply m c t _ _ ⟨176 * t.val + y0.val, by omega⟩ rfl).trans ?_
  refine congrArg₂ (fun a b => m (c, Proc.tc.devRef main_arg11) (ix3 0 a b)) (Fin.ext ?_) (Fin.ext ?_)
  · change 176 * t.val + y0.val = _
    blk_simp [hi]
    omega
  · blk_simp [hi]

end Merge
-- ==== Proof.Merge.Ref.lean ====
module

public import proofs.«01_k».proof.Proof.Gen.Reference3Ideal.Read
public import proofs.«01_k».proof.Proof.Merge.Spec

@[expose] public section

set_option maxRecDepth 16384

noncomputable section

open Idealize.ShloMosaic Idealize.ShloMosaic.TcCoe Idealize.SL.Sem
open Cert.Reference3Ideal Cert.Reference3Ideal.Gen Cert.Reference3Ideal.Read
open ConvFfn (rms mrow)

namespace Merge

variable (x0 : (⟨S2x8192x1024, .f32⟩ : BufTy).Contents (Elt Ideal)) (x1 x2 : (⟨S16384x512, .bf16⟩ : BufTy).Contents (Elt Ideal))
  (x3 : (⟨S8x6144, .f32⟩ : BufTy).Contents (Elt Ideal)) (x4 x5 : (⟨S1x1024, .f32⟩ : BufTy).Contents (Elt Ideal))
  (x6 : (⟨S1x1024x3328, .f32⟩ : BufTy).Contents (Elt Ideal)) (x7 x8 : (⟨S1x512x1024, .f32⟩ : BufTy).Contents (Elt Ideal))
  (x9 : (⟨S1x1024x1024, .f32⟩ : BufTy).Contents (Elt Ideal)) (x10 : (⟨S1x1024x5632, .f32⟩ : BufTy).Contents (Elt Ideal))
  (x11 : (⟨S1x2816x1024, .f32⟩ : BufTy).Contents (Elt Ideal))

/-- The activations by coordinates. -/
abbrev xA (b : Fin 2) (s : Fin 8192) (k : Fin 1024) : EReal := x0 (ix3 b s k)
/-- A branch by coordinates. -/
abbrev aA (R : Fin 16384) (k : Fin 512) : EReal := x1 (ix2 R k)
/-- The modulation vectors by coordinates. -/
abbrev modsA (b : Fin 8) (k : Fin 6144) : EReal := x3 (ix2 b k)
/-- A gain by coordinate. -/
abbrev gA (k : Fin 1024) : EReal := x4 (ix2 0 k)
/-- The input projection by coordinates. -/
abbrev wA (k : Fin 1024) (n : Fin 3328) : EReal := x6 (ix3 0 k n)
/-- A branch's projection by coordinates. -/
abbrev waA (k : Fin 512) (n : Fin 1024) : EReal := x7 (ix3 0 k n)
/-- The output projection by coordinates. -/
abbrev woA (n k : Fin 1024) : EReal := x9 (ix3 0 n k)

/-- The reference's normalized and modulated rows, by token number. -/
theorem ref_h_tok (R : Fin 16384) (k : Fin 1024) :
    val_main_v32 x0 x3 x4 (ix3 ⟨R.val / 8192, by omega⟩ ⟨R.val % 8192, by omega⟩ k) = hrow (xA x0) (modsA x3) (gA x4) R k := by
  unfold val_main_v32 val_main_v31 val_main_v30 val_main_v29 val_main_v28 val_main_v27 val_main_cst_2 val_main_v26 val_main_v25 val_main_v24 val_main_v23 val_main_v22 val_main_v21 val_main_v20 val_main_v19 val_main_cst_1 val_main_v18 val_main_v17 val_main_cst_0 val_main_v16 val_main_v15 val_main_cst val_main_v14 val_main_v13 val_main_v8 val_main_v7 val_main_v2 val_main_v1 val_main_v0
  pointwise
  unfold hrow mrow rms xA modsA gA
  simp only [mul_assoc]

/-- The reference's input projection, by token number. -/
theorem ref_proj (R : Fin 16384) (n : Fin 3328) :
    val_main_v34 x0 x3 x4 x6 (ix3 ⟨R.val / 8192, by omega⟩ ⟨R.val % 8192, by omega⟩ n)
      = ∑ k, hrow (xA x0) (modsA x3) (gA x4) R k * wA x6 k n := by
  unfold val_main_v34 val_main_v33
  pointwise
  exact Finset.sum_congr rfl fun k _ => congrArg₂ _ (ref_h_tok x0 x3 x4 R k) rfl

/-- The reference's attention branch against its projection. -/
theorem ref_pa (R : Fin 16384) (n : Fin 1024) :
    val_main_v54 x1 x7 (ix3 ⟨R.val / 8192, by omega⟩ ⟨R.val % 8192, by omega⟩ n) = ∑ k, aA x1 R k * waA x7 k n := by
  unfold val_main_v54 val_main_v45 val_main_v42 val_main_v41
  pointwise

/-- The reference's Fourier branch against its projection. -/
theorem ref_pf (R : Fin 16384) (n : Fin 1024) :
    val_main_v62 x2 x8 (ix3 ⟨R.val / 8192, by omega⟩ ⟨R.val % 8192, by omega⟩ n) = ∑ k, aA x2 R k * waA x8 k n :=
  ref_pa x2 x8 R n

/-- The reference's merged branches. -/
theorem ref_mix (R : Fin 16384) (n : Fin 1024) :
    val_main_v64 x0 x1 x2 x3 x4 x6 x7 x8 (ix3 ⟨R.val / 8192, by omega⟩ ⟨R.val % 8192, by omega⟩ n)
      = mix (xA x0) (aA x1) (aA x2) (modsA x3) (gA x4) (wA x6) (waA x7) (waA x8) R n := by
  have hp := ref_proj x0 x3 x4 x6 R
  have ha := ref_pa x1 x7 R n
  have hf := ref_pf x2 x8 R n
  unfold val_main_v64 val_main_v63 val_main_v61 val_main_v60 val_main_cst_6 val_main_v59 val_main_v58 val_main_cst_5 val_main_v57 val_main_v56 val_main_v55 val_main_v53 val_main_v52 val_main_cst_4 val_main_v51 val_main_v50 val_main_cst_3 val_main_v49 val_main_v48 val_main_v40 val_main_v39
  revert hp ha hf
  generalize val_main_v34 x0 x3 x4 x6 = y
  generalize val_main_v54 x1 x7 = p
  generalize val_main_v62 x2 x8 = q
  intro hp ha hf
  pointwise
  rw [hp, hp, ha, hf]
  rfl

/-- The reference's output projection. -/
theorem ref_outp (R : Fin 16384) (k : Fin 1024) :
    val_main_v65 x0 x1 x2 x3 x4 x6 x7 x8 x9 (ix3 ⟨R.val / 8192, by omega⟩ ⟨R.val % 8192, by omega⟩ k)
      = outp (xA x0) (aA x1) (aA x2) (modsA x3) (gA x4) (wA x6) (waA x7) (waA x8) (woA x9) R k := by
  unfold val_main_v65 val_main_v47
  pointwise
  unfold outp
  exact Finset.sum_congr rfl fun n _ => congrArg₂ _ (ref_mix x0 x1 x2 x3 x4 x6 x7 x8 R n) rfl

/-- The reference's first result. -/
theorem ref_res (R : Fin 16384) (k : Fin 1024) :
    val_main_v83 x0 x1 x2 x3 x4 x5 x6 x7 x8 x9 (ix2 R k)
      = res (xA x0) (aA x1) (aA x2) (modsA x3) (gA x4) (gA x5) (wA x6) (waA x7) (waA x8) (woA x9) R k := by
  unfold val_main_v83 val_main_v82 val_main_v81 val_main_v80 val_main_v79 val_main_v78 val_main_v77 val_main_v76 val_main_v75 val_main_v74 val_main_v73 val_main_v72 val_main_cst_9 val_main_v71 val_main_v70 val_main_cst_8 val_main_v69 val_main_v68 val_main_cst_7 val_main_v67 val_main_v66 val_main_v9 val_main_v3 val_main_v0
  have hd := ref_outp x0 x1 x2 x3 x4 x6 x7 x8 x9 R
  revert hd
  generalize val_main_v65 x0 x1 x2 x3 x4 x6 x7 x8 x9 = y
  intro hd
  pointwise
  simp only [hd]
  rfl

/-- Its second result. -/
theorem ref_up (r : Fin 1024) (n : Fin 5632) : val_main_v85 x10 (ix2 r n) = x10 (ix3 0 r n) := by
  unfold val_main_v85 val_main_v84
  pointwise

/-- Its third result. -/
theorem ref_down (r : Fin 2816) (n : Fin 1024) : val_main_v87 x11 (ix2 r n) = x11 (ix3 0 r n) := by
  unfold val_main_v87 val_main_v86
  pointwise

end Merge
-- ==== Proof.Merge.Claim.lean ====
module

public import proofs.«01_k».proof.Defs
public import proofs.«01_k».proof.Proof.Merge.Points
public import proofs.«01_k».proof.Proof.Merge.Ref
public import proofs.«01_k».proof.Proof.Gen.Kernel3Ideal.Value
public import proofs.«01_k».proof.Proof.Gen.Reference3Ideal
public import Idealize.ShloMosaic.Lib.Quiescent

@[expose] public section

set_option maxRecDepth 16384

noncomputable section

open Idealize.ShloMosaic Idealize.ShloMosaic.TcCoe Idealize.SL.Sem
open Cert.Kernel3Ideal Cert.Kernel3Ideal.Gen
open ConvFfn (rms mrow)

namespace Merge

variable (m : (ℓ : Loc nD τ sig) → Buf (Elt Ideal) ℓ)

/-- The reference's activations, from the kernel's arguments. -/
theorem res_out (c : Dev nD)
    (x0 : (⟨Cert.Reference3Ideal.S2x8192x1024, .f32⟩ : BufTy).Contents (Elt Ideal)) (e0 : x0 = m (c, Proc.tc.devRef main_arg0))
    (x1 : (⟨Cert.Reference3Ideal.S16384x512, .bf16⟩ : BufTy).Contents (Elt Ideal)) (e1 : x1 = m (c, Proc.tc.devRef main_arg1))
    (x2 : (⟨Cert.Reference3Ideal.S16384x512, .bf16⟩ : BufTy).Contents (Elt Ideal)) (e2 : x2 = m (c, Proc.tc.devRef main_arg2))
    (x3 : (⟨Cert.Reference3Ideal.S8x6144, .f32⟩ : BufTy).Contents (Elt Ideal)) (e3 : x3 = m (c, Proc.tc.devRef main_arg3))
    (x4 : (⟨Cert.Reference3Ideal.S1x1024, .f32⟩ : BufTy).Contents (Elt Ideal)) (e4 : x4 = m (c, Proc.tc.devRef main_arg4))
    (x5 : (⟨Cert.Reference3Ideal.S1x1024, .f32⟩ : BufTy).Contents (Elt Ideal)) (e5 : x5 = m (c, Proc.tc.devRef main_arg5))
    (x6 : (⟨Cert.Reference3Ideal.S1x1024x3328, .f32⟩ : BufTy).Contents (Elt Ideal)) (e6 : x6 = m (c, Proc.tc.devRef main_arg6))
    (x7 : (⟨Cert.Reference3Ideal.S1x512x1024, .f32⟩ : BufTy).Contents (Elt Ideal)) (e7 : x7 = m (c, Proc.tc.devRef main_arg7))
    (x8 : (⟨Cert.Reference3Ideal.S1x512x1024, .f32⟩ : BufTy).Contents (Elt Ideal)) (e8 : x8 = m (c, Proc.tc.devRef main_arg8))
    (x9 : (⟨Cert.Reference3Ideal.S1x1024x1024, .f32⟩ : BufTy).Contents (Elt Ideal)) (e9 : x9 = m (c, Proc.tc.devRef main_arg9)) :
    Cert.Reference3Ideal.Read.val_main_v83 x0 x1 x2 x3 x4 x5 x6 x7 x8 x9
      = fun i => res (xK m c) (aK m c) (fK m c) (modsK m c) (gK m c) (g2K m c) (wK m c) (waK m c) (wfK m c) (woK m c) (i 0) (i 1) := by
  subst e0 e1 e2 e3 e4 e5 e6 e7 e8 e9
  funext i
  idx_vars i
  exact ref_res _ _ _ _ _ _ _ _ _ _ _ _

/-- The reference's up projection, from the kernel's arguments. -/
theorem res_up (c : Dev nD) (x10 : (⟨Cert.Reference3Ideal.S1x1024x5632, .f32⟩ : BufTy).Contents (Elt Ideal)) (e10 : x10 = m (c, Proc.tc.devRef main_arg10)) :
    Cert.Reference3Ideal.Read.val_main_v85 x10 = fun i => m (c, Proc.tc.devRef main_arg10) (ix3 0 (i 0) (i 1)) := by
  subst e10
  funext i
  idx_vars i
  exact ref_up _ _ _

/-- The reference's down projection, from the kernel's arguments. -/
theorem res_down (c : Dev nD) (x11 : (⟨Cert.Reference3Ideal.S1x2816x1024, .f32⟩ : BufTy).Contents (Elt Ideal)) (e11 : x11 = m (c, Proc.tc.devRef main_arg11)) :
    Cert.Reference3Ideal.Read.val_main_v87 x11 = fun i => m (c, Proc.tc.devRef main_arg11) (ix3 0 (i 0) (i 1)) := by
  subst e11
  funext i
  idx_vars i
  exact ref_down _ _ _

/-- The reference runs, keeps its arguments and leaves every counter at zero. -/
theorem frame_ref : Cert.quiescent_Reference3Ideal (hReference3Ideal := Cert.Reference3Ideal.Gen.facts) := fun m ρ _ =>
  (θ_run _ _ _).mono (fun r h => ⟨fun c => (h c).2.2.2, sem_eq_zero_of_no_sems rfl r.2⟩) (Cert.Reference3Ideal.Value.run (F := Ideal) m ρ)

set_option maxHeartbeats 4000000 in
/-- From equal arguments the kernel and the reference leave equal activations and equal copies of the weights. -/
theorem algebraic : Cert.algebraic_Kernel3Ideal_Reference3Ideal (hKernel3Ideal := Cert.Kernel3Ideal.Gen.facts)
    (hReference3Ideal := Cert.Reference3Ideal.Gen.facts) := fun m ρ m' ρ' _ hag =>
  ⟨_, _, _, (θ_run _ _ _).mono (fun r h c => ⟨(h c).1.trans (arr_out m c), (h c).2.1.trans (arr_up m c), (h c).2.2.1.trans (arr_down m c), (h c).2.2.2⟩)
      (Cert.Kernel3Ideal.Value.run_blocks (F := Ideal) m ρ),
    (θ_run _ _ _).mono (fun r h c =>
      have g := hag c
      ⟨(h c).1.trans ((Cert.Reference3Ideal.Read.val_main_v83_eq _ _).trans (res_out m c _ g.1 _ g.2.1 _ g.2.2.1 _ g.2.2.2.1 _ g.2.2.2.2.1 _ g.2.2.2.2.2.1 _ g.2.2.2.2.2.2.1 _ g.2.2.2.2.2.2.2.1 _ g.2.2.2.2.2.2.2.2.1 _ g.2.2.2.2.2.2.2.2.2.1)),
        (h c).2.1.trans ((Cert.Reference3Ideal.Read.val_main_v85_eq _).trans (res_up m c _ g.2.2.2.2.2.2.2.2.2.2.1)),
        (h c).2.2.1.trans ((Cert.Reference3Ideal.Read.val_main_v87_eq _).trans (res_down m c _ g.2.2.2.2.2.2.2.2.2.2.2)), (h c).2.2.2⟩)
      (Cert.Reference3Ideal.Value.run (F := Ideal) m' ρ')⟩

end Merge
-- ==== Proof.CtxKv.Spec.lean ====
/-
  What the projection of the context computes, written out over the extended reals in plain coordinates: the context
  rows, normalized and modulated, against the key and the value columns of the input projection. Both programs are read
  against this definition.
-/
module

public import proofs.«01_k».proof.Proof.ConvFfn.Spec

@[expose] public section

noncomputable section

open Idealize.ShloMosaic
open ConvFfn (rms mrow)

namespace CtxKv

variable (x : Fin 2 → Fin 256 → Fin 1024 → EReal) (mods : Fin 8 → Fin 6144 → EReal) (g : Fin 1024 → EReal)
  (w : Fin 1024 → Fin 3328 → EReal)

/-- Context token `R`'s row, normalized and modulated by the context's modulation row. -/
def hrow (R : Fin 512) : Fin 1024 → EReal :=
  mrow (x ⟨R.val / 256, by omega⟩ ⟨R.val % 256, by omega⟩) g (fun k => mods 2 ⟨1024 + k.val, by omega⟩)
    (fun k => mods 2 ⟨k.val, by omega⟩)

/-- Its row against column `n` of the keys' and values' columns. -/
def proj (R : Fin 512) (n : Fin 256) : EReal := ∑ k, hrow x mods g R k * w k ⟨512 + n.val, by omega⟩

/-- The keys. -/
def keys (R : Fin 512) (n : Fin 128) : EReal := proj x mods g w R ⟨n.val, by omega⟩

/-- The values, transposed. -/
def vals (n : Fin 128) (R : Fin 512) : EReal := proj x mods g w R ⟨128 + n.val, by omega⟩

end CtxKv
-- ==== Proof.CtxKv.Points.lean ====
module

public import proofs.«01_k».proof.Proof.Gen.Kernel4Ideal.Frame
public import proofs.«01_k».proof.Proof.CtxKv.Spec
public import Idealize.ShloMosaic.Lib.Pipeline.ReadBack

@[expose] public section

set_option maxRecDepth 16384

noncomputable section

open Idealize.ShloMosaic Idealize.ShloMosaic.TcCoe Idealize.SL.Sem
open Cert.Kernel4Ideal Cert.Kernel4Ideal.Gen
open ConvFfn (rms mrow)

namespace CtxKv

variable (m : (ℓ : Loc nD τ sig) → Buf (Elt Ideal) ℓ)

/-- The kernel program's context, by coordinates. -/
abbrev xK (c : Dev nD) (b : Fin 2) (s : Fin 256) (k : Fin 1024) : EReal := m (c, Proc.tc.devRef main_arg0) (ix3 b s k)
/-- Its modulation vectors. -/
abbrev modsK (c : Dev nD) (b : Fin 8) (k : Fin 6144) : EReal := m (c, Proc.tc.devRef main_arg1) (ix2 b k)
/-- Its gain vector. -/
abbrev gK (c : Dev nD) (k : Fin 1024) : EReal := m (c, Proc.tc.devRef main_arg2) (ix2 0 k)
/-- Its input projection. -/
abbrev wK (c : Dev nD) (k : Fin 1024) (n : Fin 3328) : EReal := m (c, Proc.tc.devRef main_arg3) (ix3 0 k n)

/-- Block `t` of the context holds the tokens of sequence `t`. -/
theorem blk0 (c : Dev nD) (t : Fin cfg0.N) (a : Fin 256) (l : Fin 1024) (R : Fin 512) (hR : R.val = 256 * t.val + a.val) :
    iblk m c 0 t (ix2 a l) = xK m c ⟨R.val / 256, by omega⟩ ⟨R.val % 256, by omega⟩ l := by
  have hi : win0_0.index t = ![t.val, 0] := (show ∀ t : Fin cfg0.N, win0_0.index t = ![t.val, 0] by decide +kernel) t
  have ht : t.val < 2 := t.isLt
  trans V m c main_v2 (ix2 R l)
  · blk_ext [iblk, hi]
  entry_read
  pointwise

/-- 1024 columns of the context's modulation row. -/
theorem blk1_row (c : Dev nD) (t : Fin cfg0.N) (l : Fin 1024) (o : ℕ) (ho : o + 1024 ≤ 6144) (h) :
    View.ld (iblk m c 1 t) (Rect.unit ![2, o] ![1, 1024] h) (ix2 0 l) = modsK m c 2 ⟨o + l.val, by omega⟩ := by
  have hi : win0_1.index t = ![0, 0] := (show ∀ t : Fin cfg0.N, win0_1.index t = ![0, 0] by decide +kernel) t
  trans V m c main_arg1 (ix2 2 ⟨o + l.val, by omega⟩)
  · rw [View.ld_apply]
    blk_ext [iblk, hi]
    · exact Rect.idx_unit_val _ _ _ _ _
    · exact Rect.idx_unit_val _ _ _ _ _
  entry_read
  rfl

/-- The gain. -/
theorem blk2 (c : Dev nD) (t : Fin cfg0.N) (l : Fin 1024) : iblk m c 2 t (ix2 0 l) = gK m c l := by
  have hi : win0_2.index t = ![0, 0] := by revert t; decide +kernel
  trans V m c main_v1 (ix2 0 l)
  · blk_ext [iblk, hi]
  entry_read
  pointwise

/-- The keys' and values' columns of the input projection. -/
theorem blk3 (c : Dev nD) (t : Fin cfg0.N) (a : Fin 1024) (l : Fin 256) : iblk m c 3 t (ix2 a l) = wK m c a ⟨512 + l.val, by omega⟩ := by
  have hi : win0_3.index t = ![0, 2] := by revert t; decide +kernel
  trans V m c main_v3 (ix2 a ⟨512 + l.val, by omega⟩)
  · blk_ext [iblk, hi]
  entry_read
  pointwise

/-- The projected rows of a block. -/
theorem pay1_apply (sh sc : Vec Ideal S1x1024 .f32) (x : Vec Ideal S256x1024 .f32) (g : Vec Ideal S1x1024 .f32) (w : Vec Ideal S1024x256 .f32)
    (r n : Fin 256) :
    k0_pay1 sh sc x g w (ix2 r n)
      = ∑ k, mrow (fun k => x (ix2 r k)) (fun k => g (ix2 0 k)) (fun k => sc (ix2 0 k)) (fun k => sh (ix2 0 k)) k * w (ix2 k n) := by
  unfold k0_pay1
  pointwise
  rfl

/-- The block's products, from its blocks. -/
abbrev pB (c : Dev nD) (t : Fin cfg0.N) : FVec Ideal S256x256 .f32 :=
  k0_pay1 (View.ld (iblk m c 1 t) (Rect.unit ![2, 0] ![1, 1024] inb_S8x6144_S1x1024_2_0))
    (View.ld (iblk m c 1 t) (Rect.unit ![2, 1024] ![1, 1024] inb_S8x6144_S1x1024_2_1024)) (iblk m c 0 t) (iblk m c 2 t) (iblk m c 3 t)

/-- They are the products of the tokens' rows. -/
theorem pB_apply (c : Dev nD) (t : Fin cfg0.N) (r n : Fin 256) (R : Fin 512) (hR : R.val = 256 * t.val + r.val) :
    pB m c t (ix2 r n) = proj (xK m c) (modsK m c) (gK m c) (wK m c) R n := by
  have z : ∀ (j : Fin 1024) h, (⟨0 + j.val, h⟩ : Fin 6144) = ⟨j.val, by omega⟩ := fun j h => Fin.ext (Nat.zero_add _)
  have e1 := fun j => (blk1_row m c t j 0 (by omega) inb_S8x6144_S1x1024_2_0).trans (congrArg (modsK m c 2) (z j _))
  have e2 := fun j => blk1_row m c t j 1024 (by omega) inb_S8x6144_S1x1024_2_1024
  unfold pB
  rw [pay1_apply, funext fun j => blk0 m c t r j R hR, funext fun j => blk2 m c t j, funext e1, funext e2]
  exact Finset.sum_congr rfl fun k _ => congrArg (_ * ·) (blk3 m c t k n)

/-- What point `t` leaves in its block of the keys. -/
theorem out_k_apply (c : Dev nD) (t : Fin cfg0.N) (r : Fin 256) (n : Fin 128) (R : Fin 512) (hR : R.val = 256 * t.val + r.val) :
    out0_4 (iblk m c 0 t) (iblk m c 1 t) (iblk m c 2 t) (iblk m c 3 t) (ix2 r n) = keys (xK m c) (modsK m c) (gK m c) (wK m c) R n := by
  refine Eq.trans ?_ (pB_apply m c t r ⟨n.val, by omega⟩ R hR)
  unfold out0_4
  frame_out
  unfold k0_pay2 pB
  generalize k0_pay1 (F := Ideal) _ _ _ _ _ = p
  pointwise

/-- What point `t` leaves in its block of the transposed values. -/
theorem out_v_apply (c : Dev nD) (t : Fin cfg0.N) (n : Fin 128) (r : Fin 256) (R : Fin 512) (hR : R.val = 256 * t.val + r.val) :
    out0_5 (iblk m c 0 t) (iblk m c 1 t) (iblk m c 2 t) (iblk m c 3 t) (ix2 n r) = vals (xK m c) (modsK m c) (gK m c) (wK m c) n R := by
  refine Eq.trans ?_ (pB_apply m c t r ⟨128 + n.val, by omega⟩ R hR)
  unfold out0_5
  frame_out
  unfold k0_pay3 pB
  generalize k0_pay1 (F := Ideal) _ _ _ _ _ = p
  pointwise

/-- The array of the keys after the run. -/
theorem arr_k (c : Dev nD) : (dats m 0 c).arrAt 4 cfg0.N = fun i => keys (xK m c) (modsK m c) (gK m c) (wK m c) (i 0) (i 1) := by
  have hi : ∀ t : Fin cfg0.N, win0_4.index t = ![t.val, 0] := by decide +kernel
  refine (dats m 0 c).arrAt_eq_of_covers 4 _ (by decide +kernel) fun t hf y => ?_
  have ht : t.val < 2 := t.isLt
  blk_simp [hi]
  rw [after0_4]
  idx_vars y
  refine (out_k_apply m c t _ _ ⟨256 * t.val + y0.val, by omega⟩ rfl).trans ?_
  refine congrArg₂ (keys _ _ _ _) (Fin.ext ?_) (Fin.ext ?_)
  · change 256 * t.val + y0.val = _
    blk_simp [hi]
    omega
  · blk_simp [hi]

/-- The array of the transposed values after the run. -/
theorem arr_v (c : Dev nD) : (dats m 0 c).arrAt 5 cfg0.N = fun i => vals (xK m c) (modsK m c) (gK m c) (wK m c) (i 0) (i 1) := by
  have hi : ∀ t : Fin cfg0.N, win0_5.index t = ![0, t.val] := by decide +kernel
  refine (dats m 0 c).arrAt_eq_of_covers 5 _ (by decide +kernel) fun t hf y => ?_
  have ht : t.val < 2 := t.isLt
  blk_simp [hi]
  rw [after0_5]
  idx_vars y
  refine (out_v_apply m c t _ _ ⟨256 * t.val + y1.val, by omega⟩ rfl).trans ?_
  refine congrArg₂ (vals _ _ _ _) (Fin.ext ?_) (Fin.ext ?_)
  · blk_simp [hi]
  · change 256 * t.val + y1.val = _
    blk_simp [hi]
    omega

end CtxKv
-- ==== Proof.CtxKv.Ref.lean ====
module

public import proofs.«01_k».proof.Proof.Gen.Reference4Ideal.Read
public import proofs.«01_k».proof.Proof.CtxKv.Spec

@[expose] public section

set_option maxRecDepth 16384

noncomputable section

open Idealize.ShloMosaic Idealize.ShloMosaic.TcCoe Idealize.SL.Sem
open Cert.Reference4Ideal Cert.Reference4Ideal.Gen Cert.Reference4Ideal.Read
open ConvFfn (rms mrow)

namespace CtxKv

variable (x0 : (⟨S2x256x1024, .f32⟩ : BufTy).Contents (Elt Ideal)) (x1 : (⟨S8x6144, .f32⟩ : BufTy).Contents (Elt Ideal))
  (x2 : (⟨S1x1024, .f32⟩ : BufTy).Contents (Elt Ideal)) (x3 : (⟨S1x1024x3328, .f32⟩ : BufTy).Contents (Elt Ideal))

/-- The context by coordinates. -/
abbrev xA (b : Fin 2) (s : Fin 256) (k : Fin 1024) : EReal := x0 (ix3 b s k)
/-- The modulation vectors by coordinates. -/
abbrev modsA (b : Fin 8) (k : Fin 6144) : EReal := x1 (ix2 b k)
/-- The gain by coordinate. -/
abbrev gA (k : Fin 1024) : EReal := x2 (ix2 0 k)
/-- The input projection by coordinates. -/
abbrev wA (k : Fin 1024) (n : Fin 3328) : EReal := x3 (ix3 0 k n)

/-- The reference's normalized and modulated rows, by token number. -/
theorem ref_h_tok (R : Fin 512) (k : Fin 1024) :
    val_main_v29 x0 x1 x2 (ix3 ⟨R.val / 256, by omega⟩ ⟨R.val % 256, by omega⟩ k) = hrow (xA x0) (modsA x1) (gA x2) R k := by
  unfold val_main_v29 val_main_v28 val_main_v27 val_main_v26 val_main_v25 val_main_v24 val_main_v23 val_main_v22 val_main_cst_2 val_main_v21 val_main_v20 val_main_v19 val_main_v18 val_main_v17 val_main_v16 val_main_v15 val_main_v14 val_main_cst_1 val_main_v13 val_main_v12 val_main_cst_0 val_main_v11 val_main_v10 val_main_cst val_main_v9 val_main_v8 val_main_v3 val_main_v2 val_main_v1 val_main_v0
  pointwise
  unfold hrow mrow rms xA modsA gA
  simp only [mul_assoc]

/-- The reference's products, by token number. -/
theorem ref_proj (R : Fin 512) (n : Fin 256) :
    val_main_v32 x0 x1 x2 x3 (ix3 ⟨R.val / 256, by omega⟩ ⟨R.val % 256, by omega⟩ ⟨512 + n.val, by omega⟩)
      = proj (xA x0) (modsA x1) (gA x2) (wA x3) R n := by
  unfold val_main_v32 val_main_v31 val_main_v30
  pointwise
  exact Finset.sum_congr rfl fun k _ => congrArg₂ _ (ref_h_tok x0 x1 x2 R k) rfl

/-- The reference's keys. -/
theorem ref_k (R : Fin 512) (n : Fin 128) : val_main_v37 x0 x1 x2 x3 (ix2 R n) = keys (xA x0) (modsA x1) (gA x2) (wA x3) R n := by
  refine Eq.trans ?_ (ref_proj x0 x1 x2 x3 R ⟨n.val, by omega⟩)
  unfold val_main_v37 val_main_v34 val_main_v33
  generalize val_main_v32 x0 x1 x2 x3 = y
  pointwise

/-- The reference's transposed values. -/
theorem ref_v (n : Fin 128) (R : Fin 512) : val_main_v39 x0 x1 x2 x3 (ix2 n R) = vals (xA x0) (modsA x1) (gA x2) (wA x3) n R := by
  refine Eq.trans ?_ (ref_proj x0 x1 x2 x3 R ⟨128 + n.val, by omega⟩)
  unfold val_main_v39 val_main_v38 val_main_v36 val_main_v35
  generalize val_main_v32 x0 x1 x2 x3 = y
  pointwise
  exact congrArg y (congrArg (ix3 _ _) (Fin.ext (show 640 + n.val = 512 + (128 + n.val) by omega)))

end CtxKv
-- ==== Proof.CtxKv.Claim.lean ====
module

public import proofs.«01_k».proof.Defs
public import proofs.«01_k».proof.Proof.CtxKv.Points
public import proofs.«01_k».proof.Proof.CtxKv.Ref
public import proofs.«01_k».proof.Proof.Gen.Kernel4Ideal.Value
public import proofs.«01_k».proof.Proof.Gen.Reference4Ideal
public import Idealize.ShloMosaic.Lib.Quiescent

@[expose] public section

set_option maxRecDepth 16384

noncomputable section

open Idealize.ShloMosaic Idealize.ShloMosaic.TcCoe Idealize.SL.Sem
open Cert.Kernel4Ideal Cert.Kernel4Ideal.Gen

namespace CtxKv

variable (m : (ℓ : Loc nD τ sig) → Buf (Elt Ideal) ℓ)

section Results

variable (c : Dev nD)
  (x0 : (⟨Cert.Reference4Ideal.S2x256x1024, .f32⟩ : BufTy).Contents (Elt Ideal)) (e0 : x0 = m (c, Proc.tc.devRef main_arg0))
  (x1 : (⟨Cert.Reference4Ideal.S8x6144, .f32⟩ : BufTy).Contents (Elt Ideal)) (e1 : x1 = m (c, Proc.tc.devRef main_arg1))
  (x2 : (⟨Cert.Reference4Ideal.S1x1024, .f32⟩ : BufTy).Contents (Elt Ideal)) (e2 : x2 = m (c, Proc.tc.devRef main_arg2))
  (x3 : (⟨Cert.Reference4Ideal.S1x1024x3328, .f32⟩ : BufTy).Contents (Elt Ideal)) (e3 : x3 = m (c, Proc.tc.devRef main_arg3))

include e0 e1 e2 e3

/-- The reference's keys, from the kernel's arguments. -/
theorem res_k : Cert.Reference4Ideal.Read.val_main_v37 x0 x1 x2 x3 = fun i => keys (xK m c) (modsK m c) (gK m c) (wK m c) (i 0) (i 1) := by
  subst e0 e1 e2 e3
  funext i
  idx_vars i
  exact ref_k _ _ _ _ _ _

/-- The reference's transposed values, from the kernel's arguments. -/
theorem res_v : Cert.Reference4Ideal.Read.val_main_v39 x0 x1 x2 x3 = fun i => vals (xK m c) (modsK m c) (gK m c) (wK m c) (i 0) (i 1) := by
  subst e0 e1 e2 e3
  funext i
  idx_vars i
  exact ref_v _ _ _ _ _ _

end Results

/-- The reference runs, keeps its arguments and leaves every counter at zero. -/
theorem frame_ref : Cert.quiescent_Reference4Ideal (hReference4Ideal := Cert.Reference4Ideal.Gen.facts) := fun m ρ _ =>
  (θ_run _ _ _).mono (fun r h => ⟨fun c => (h c).2.2, sem_eq_zero_of_no_sems rfl r.2⟩) (Cert.Reference4Ideal.Value.run (F := Ideal) m ρ)

set_option maxHeartbeats 4000000 in
/-- From equal arguments the kernel and the reference leave equal keys and equal transposed values. -/
theorem algebraic : Cert.algebraic_Kernel4Ideal_Reference4Ideal (hKernel4Ideal := Cert.Kernel4Ideal.Gen.facts)
    (hReference4Ideal := Cert.Reference4Ideal.Gen.facts) := fun m ρ m' ρ' _ hag =>
  ⟨_, _, (θ_run _ _ _).mono (fun r h c => ⟨(h c).1.trans (arr_k m c), (h c).2.1.trans (arr_v m c), (h c).2.2⟩)
      (Cert.Kernel4Ideal.Value.run_blocks (F := Ideal) m ρ),
    (θ_run _ _ _).mono (fun r h c =>
      have g := hag c
      ⟨(h c).1.trans ((Cert.Reference4Ideal.Read.val_main_v37_eq _ _ _ _).trans (res_k m c _ g.1 _ g.2.1 _ g.2.2.1 _ g.2.2.2)),
        (h c).2.1.trans ((Cert.Reference4Ideal.Read.val_main_v39_eq _ _ _ _).trans (res_v m c _ g.1 _ g.2.1 _ g.2.2.1 _ g.2.2.2)), (h c).2.2⟩)
      (Cert.Reference4Ideal.Value.run (F := Ideal) m' ρ')⟩

end CtxKv
-- ==== Proof.AdaLn.Spec.lean ====
/-
  What the modulation vectors are, written out over the extended reals in plain coordinates: a row, each entry times its
  logistic, against the columns of the weight, and the bias. Both programs are read against this definition.
-/
module

public import Idealize.ShloMosaic.Lib.Pipeline.ValueKit
public import Idealize.ShloMosaic.Lib.Pointwise

@[expose] public section

noncomputable section

open Idealize.ShloMosaic

namespace AdaLn

variable (x : Fin 2 → Fin 1024 → EReal) (y : Fin 1024 → EReal) (w : Fin 1024 → Fin 6144 → EReal) (b : Fin 6144 → EReal)

/-- Eight rows: the batch's two, the context's, and five of zeros. -/
def row (r : Fin 8) (k : Fin 1024) : EReal :=
  if h : r.val < 2 then x ⟨r.val, h⟩ k else if r.val = 2 then y k else 0

/-- A row, each entry times its logistic, against column `n`, and the bias. -/
def lin (v : Fin 1024 → EReal) (n : Fin 6144) : EReal := ∑ k, v k * Ideal.logistic (v k) * w k n + b n

/-- The modulation vectors. -/
def mods (r : Fin 8) (n : Fin 6144) : EReal := lin w b (row x y r) n

end AdaLn
-- ==== Proof.AdaLn.Points.lean ====
module

public import proofs.«01_k».proof.Proof.Gen.Kernel5Ideal.Frame
public import proofs.«01_k».proof.Proof.AdaLn.Spec
public import Idealize.ShloMosaic.Lib.Pipeline.ReadBack

@[expose] public section

set_option maxRecDepth 16384

noncomputable section

open Idealize.ShloMosaic Idealize.ShloMosaic.TcCoe Idealize.SL.Sem
open Cert.Kernel5Ideal Cert.Kernel5Ideal.Gen

namespace AdaLn

variable (m : (ℓ : Loc nD τ sig) → Buf (Elt Ideal) ℓ)

/-- The kernel program's batch of conditioning vectors, by coordinates. -/
abbrev xK (c : Dev nD) (b : Fin 2) (k : Fin 1024) : EReal := m (c, Proc.tc.devRef main_arg0) (ix2 b k)
/-- The context's conditioning vector. -/
abbrev yK (c : Dev nD) (k : Fin 1024) : EReal := m (c, Proc.tc.devRef main_arg1) (ix1 k)
/-- The weight. -/
abbrev wK (c : Dev nD) (k : Fin 1024) (n : Fin 6144) : EReal := m (c, Proc.tc.devRef main_arg2) (ix3 0 k n)
/-- The bias. -/
abbrev bK (c : Dev nD) (n : Fin 6144) : EReal := m (c, Proc.tc.devRef main_arg3) (ix2 0 n)

/-- The conditioning vectors are read whole. -/
theorem blk0 (c : Dev nD) (t : Fin cfg0.N) (a : Fin 2) (l : Fin 1024) : iblk m c 0 t (ix2 a l) = xK m c a l := by
  have hi : win0_0.index t = ![0, 0] := by revert t; decide +kernel
  trans V m c main_arg0 (ix2 a l)
  · blk_ext [iblk, hi]
  entry_read
  rfl

/-- So is the context's. -/
theorem blk1 (c : Dev nD) (t : Fin cfg0.N) (l : Fin 1024) : iblk m c 1 t (ix2 0 l) = yK m c l := by
  have hi : win0_1.index t = ![0, 0] := by revert t; decide +kernel
  trans V m c main_v0 (ix2 0 l)
  · blk_ext [iblk, hi]
  entry_read
  pointwise

/-- Block `t` of the weight holds its columns `1536 t, …, 1536 t + 1535`. -/
theorem blk2 (c : Dev nD) (t : Fin cfg0.N) (a : Fin 1024) (l : Fin 1536) (n : Fin 6144) (hn : n.val = 1536 * t.val + l.val) :
    iblk m c 2 t (ix2 a l) = wK m c a n := by
  have hi : win0_2.index t = ![0, t.val] := (show ∀ t : Fin cfg0.N, win0_2.index t = ![0, t.val] by decide +kernel) t
  have ht : t.val < 4 := t.isLt
  trans V m c main_v1 (ix2 a n)
  · blk_ext [iblk, hi]
  entry_read
  pointwise

/-- Block `t` of the bias holds the same columns. -/
theorem blk3 (c : Dev nD) (t : Fin cfg0.N) (l : Fin 1536) (n : Fin 6144) (hn : n.val = 1536 * t.val + l.val) :
    iblk m c 3 t (ix2 0 l) = bK m c n := by
  have hi : win0_3.index t = ![0, t.val] := (show ∀ t : Fin cfg0.N, win0_3.index t = ![0, t.val] by decide +kernel) t
  have ht : t.val < 4 := t.isLt
  trans V m c main_v3 (ix2 0 n)
  · blk_ext [iblk, hi]
  entry_read
  pointwise

/-- What a point leaves in its block, from the rows in scratch and its blocks of the weight and of the bias. -/
theorem pay4_apply (s : Vec Ideal S8x1024 .f32) (w : Vec Ideal S1024x1536 .f32) (b : Vec Ideal S1x1536 .f32) (r : Fin 8) (l : Fin 1536) :
    k0_pay4 s w b (ix2 r l) = ∑ k, s (ix2 r k) * Ideal.logistic (s (ix2 r k)) * w (ix2 k l) + b (ix2 0 l) := by
  unfold k0_pay4
  pointwise

/-- The rows a point leaves in scratch: the context's, over the batch's two, over zeros. -/
theorem scratch_apply (x : Vec Ideal S2x1024 .f32) (y : Vec Ideal S1x1024 .f32) (r : Fin 8) (k : Fin 1024) :
    View.canon (Val := Elt Ideal) (s := S8x1024) (e := .f32) [⟨Rect.unit ![2, 0] ![1, 1024] inb_S8x1024_S1x1024_2_0, k0_pay3 y⟩,
      ⟨Rect.unit ![0, 0] ![2, 1024] inb_S8x1024_S2x1024_0_0, k0_pay2 x⟩,
      ⟨Rect.unit ![0, 0] ![8, 1024] inb_S8x1024_S8x1024_0_0, k0_pay1 (F := Ideal)⟩] (ix2 r k)
      = row (fun b k => x (ix2 b k)) (fun k => y (ix2 0 k)) r k := by
  unfold row
  by_cases h2 : r.val = 2
  · have e : (ix2 r k : S8x1024.Idx) = (Rect.unit (s := S8x1024) ![2, 0] ![1, 1024] inb_S8x1024_S1x1024_2_0).emb (ix2 0 k) := by
      blk_ext
    rw [e, View.canon_cons_emb, dif_neg (by omega), if_pos h2]
    unfold k0_pay3
    pointwise
  rw [View.canon_cons_of_not_mem _ _ (by
    rw [Rect.mem_set_unit]
    intro h
    have h0 := h 0
    change 2 ≤ r.val ∧ r.val < 2 + 1 at h0
    omega), if_neg h2]
  by_cases h : r.val < 2
  · have e : (ix2 r k : S8x1024.Idx) = (Rect.unit (s := S8x1024) ![0, 0] ![2, 1024] inb_S8x1024_S2x1024_0_0).emb (ix2 ⟨r.val, h⟩ k) := by
      blk_ext
    rw [e, View.canon_cons_emb, dif_pos h]
    unfold k0_pay2
    pointwise
  rw [View.canon_cons_of_not_mem _ _ (by
    rw [Rect.mem_set_unit]
    intro h'
    have h0 := h' 0
    change 0 ≤ r.val ∧ r.val < 0 + 2 at h0
    omega), dif_neg h]
  have e : (ix2 r k : S8x1024.Idx) = (Rect.unit (s := S8x1024) ![0, 0] ![8, 1024] inb_S8x1024_S8x1024_0_0).emb (ix2 r k) := by
    blk_ext
  rw [e, View.canon_cons_emb]
  unfold k0_pay1
  pointwise

/-- What point `t` leaves in its block. -/
theorem out_apply (c : Dev nD) (t : Fin cfg0.N) (r : Fin 8) (l : Fin 1536) (n : Fin 6144) (hn : n.val = 1536 * t.val + l.val) :
    outsAt0 m c t (ix2 r l) = mods (xK m c) (yK m c) (wK m c) (bK m c) r n := by
  have hs : ∀ k, row (fun b k => iblk m c 0 t (ix2 b k)) (fun k => iblk m c 1 t (ix2 0 k)) r k = row (xK m c) (yK m c) r k := fun k =>
    congrArg₂ (fun x y => row x y r k) (funext fun a => funext fun k => blk0 m c t a k) (funext fun k => blk1 m c t k)
  unfold outsAt0
  frame_out
  rw [View.readCov_eq_canon', pay4_apply]
  have e : ∀ k : Fin 1024, (Rect.unit (s := S8x1024) ![0, 0] ![8, 1024] inb_S8x1024_S8x1024_0_0).toLoadRect.idx (ix2 r k) = (ix2 r k : S8x1024.Idx) := fun k => by
    blk_ext
    · exact (Rect.idx_unit_val _ _ _ _ _).trans (Nat.zero_add _)
    · exact (Rect.idx_unit_val _ _ _ _ _).trans (Nat.zero_add _)
  refine congrArg₂ (· + ·) (Finset.sum_congr rfl fun k _ => ?_) (blk3 m c t l n hn)
  have q := (congrArg _ (e k)).trans ((scratch_apply (iblk m c 0 t) (iblk m c 1 t) r k).trans (hs k))
  exact congrArg₂ (· * ·) (congrArg₂ (fun a b : EReal => a * Ideal.logistic b) q q) (blk2 m c t k l n hn)

/-- The array of the modulation vectors after the run. -/
theorem arr_out (c : Dev nD) : (dats m 0 c).arrAt 4 cfg0.N = fun i => mods (xK m c) (yK m c) (wK m c) (bK m c) (i 0) (i 1) := by
  have hi : ∀ t : Fin cfg0.N, win0_4.index t = ![0, t.val] := by decide +kernel
  refine (dats m 0 c).arrAt_eq_of_covers 4 _ (by decide +kernel) fun t hf y => ?_
  have ht : t.val < 4 := t.isLt
  blk_simp [hi]
  rw [after0_4]
  idx_vars y
  refine (out_apply m c t _ _ ⟨1536 * t.val + y1.val, by omega⟩ rfl).trans ?_
  refine congrArg₂ (mods _ _ _ _) (Fin.ext ?_) (Fin.ext ?_)
  · blk_simp [hi]
  · change 1536 * t.val + y1.val = _
    blk_simp [hi]
    omega

end AdaLn
-- ==== Proof.AdaLn.Ref.lean ====
module

public import proofs.«01_k».proof.Proof.Gen.Reference5Ideal.Read
public import proofs.«01_k».proof.Proof.AdaLn.Spec

@[expose] public section

set_option maxRecDepth 16384

noncomputable section

open Idealize.ShloMosaic Idealize.ShloMosaic.TcCoe Idealize.SL.Sem
open Cert.Reference5Ideal Cert.Reference5Ideal.Gen Cert.Reference5Ideal.Read

namespace AdaLn

variable (x0 : (⟨S2x1024, .f32⟩ : BufTy).Contents (Elt Ideal)) (x1 : (⟨S1024, .f32⟩ : BufTy).Contents (Elt Ideal))
  (x2 : (⟨S1x1024x6144, .f32⟩ : BufTy).Contents (Elt Ideal)) (x3 : (⟨S1x6144, .f32⟩ : BufTy).Contents (Elt Ideal))

/-- The batch's conditioning vectors by coordinates. -/
abbrev xA (b : Fin 2) (k : Fin 1024) : EReal := x0 (ix2 b k)
/-- The context's conditioning vector by coordinate. -/
abbrev yA (k : Fin 1024) : EReal := x1 (ix1 k)
/-- The weight by coordinates. -/
abbrev wA (k : Fin 1024) (n : Fin 6144) : EReal := x2 (ix3 0 k n)
/-- The bias by coordinate. -/
abbrev bA (n : Fin 6144) : EReal := x3 (ix2 0 n)

/-- The reference's rows of the batch. -/
theorem ref_batch (r : Fin 2) (n : Fin 6144) : val_main_v7 x0 x2 x3 (ix2 r n) = lin (wA x2) (bA x3) (xA x0 r) n := by
  unfold val_main_v7 val_main_v6 val_main_v5 val_main_v4 val_main_v3 val_main_call0_v5 val_main_call0_v4 val_main_call0_cst_0 val_main_call0_v3 val_main_call0_v2 val_main_call0_cst val_main_call0_v1 val_main_call0_v0 val_main_v2 val_main_v1
  pointwise
  rfl

/-- The reference's row of the context. -/
theorem ref_ctx (r : Fin 1) (n : Fin 6144) : val_main_v13 x1 x2 x3 (ix2 r n) = lin (wA x2) (bA x3) (yA x1) n := by
  unfold val_main_v13 val_main_v12 val_main_v11 val_main_v10 val_main_call1_v5 val_main_call1_v4 val_main_call1_cst_0 val_main_call1_v3 val_main_call1_v2 val_main_call1_cst val_main_call1_v1 val_main_call1_v0 val_main_v9 val_main_v8
  pointwise
  rfl

/-- The reference's rows of a zero vector. -/
theorem ref_zero (r : Fin 5) (n : Fin 6144) : val_main_v20 x2 x3 (ix2 r n) = lin (wA x2) (bA x3) (fun _ => 0) n := by
  unfold val_main_v20 val_main_v19 val_main_v18 val_main_v17 val_main_v16 val_main_call2_v5 val_main_call2_v4 val_main_call2_cst_0 val_main_call2_v3 val_main_call2_v2 val_main_call2_cst val_main_call2_v1 val_main_call2_v0 val_main_v15 val_main_v14 val_main_v0 val_main_cst
  pointwise
  rfl

/-- The reference's modulation vectors. -/
theorem ref_mods (r : Fin 8) (n : Fin 6144) : val_main_v21 x0 x1 x2 x3 (ix2 r n) = mods (xA x0) (yA x1) (wA x2) (bA x3) r n := by
  unfold val_main_v21 mods row
  have h7 := ref_batch x0 x2 x3
  have h13 := ref_ctx x1 x2 x3
  have h20 := ref_zero x2 x3
  revert h7 h13 h20
  generalize val_main_v7 x0 x2 x3 = a, val_main_v13 x1 x2 x3 = b, val_main_v20 x2 x3 = d
  intro h7 h13 h20
  pointwise
  by_cases h : r.val < 2
  · simp only [dif_pos h]
    exact h7 _ n
  by_cases h2 : r.val = 2
  · simp only [dif_neg h, if_pos h2, dif_pos (show r.val - 2 < 1 by omega)]
    exact h13 _ n
  · simp only [dif_neg h, if_neg h2, dif_neg (show ¬r.val - 2 < 1 by omega)]
    exact h20 _ n

end AdaLn
-- ==== Proof.AdaLn.Claim.lean ====
module

public import proofs.«01_k».proof.Defs
public import proofs.«01_k».proof.Proof.AdaLn.Points
public import proofs.«01_k».proof.Proof.AdaLn.Ref
public import proofs.«01_k».proof.Proof.Gen.Kernel5Ideal.Value
public import proofs.«01_k».proof.Proof.Gen.Reference5Ideal
public import Idealize.ShloMosaic.Lib.Quiescent

@[expose] public section

set_option maxRecDepth 16384

noncomputable section

open Idealize.ShloMosaic Idealize.ShloMosaic.TcCoe Idealize.SL.Sem
open Cert.Kernel5Ideal Cert.Kernel5Ideal.Gen

namespace AdaLn

variable (m : (ℓ : Loc nD τ sig) → Buf (Elt Ideal) ℓ)

section Results

variable (c : Dev nD)
  (x0 : (⟨Cert.Reference5Ideal.S2x1024, .f32⟩ : BufTy).Contents (Elt Ideal)) (e0 : x0 = m (c, Proc.tc.devRef main_arg0))
  (x1 : (⟨Cert.Reference5Ideal.S1024, .f32⟩ : BufTy).Contents (Elt Ideal)) (e1 : x1 = m (c, Proc.tc.devRef main_arg1))
  (x2 : (⟨Cert.Reference5Ideal.S1x1024x6144, .f32⟩ : BufTy).Contents (Elt Ideal)) (e2 : x2 = m (c, Proc.tc.devRef main_arg2))
  (x3 : (⟨Cert.Reference5Ideal.S1x6144, .f32⟩ : BufTy).Contents (Elt Ideal)) (e3 : x3 = m (c, Proc.tc.devRef main_arg3))

include e0 e1 e2 e3

/-- The reference's modulation vectors, from the kernel's arguments. -/
theorem res_mods : Cert.Reference5Ideal.Read.val_main_v21 x0 x1 x2 x3 = fun i => mods (xK m c) (yK m c) (wK m c) (bK m c) (i 0) (i 1) := by
  subst e0 e1 e2 e3
  funext i
  idx_vars i
  exact ref_mods _ _ _ _ _ _

end Results

/-- The reference runs, keeps its arguments and leaves every counter at zero. -/
theorem frame_ref : Cert.quiescent_Reference5Ideal (hReference5Ideal := Cert.Reference5Ideal.Gen.facts) := fun m ρ _ =>
  (θ_run _ _ _).mono (fun r h => ⟨fun c => (h c).2, sem_eq_zero_of_no_sems rfl r.2⟩) (Cert.Reference5Ideal.Value.run (F := Ideal) m ρ)

set_option maxHeartbeats 4000000 in
/-- From equal arguments the kernel and the reference leave equal modulation vectors. -/
theorem algebraic : Cert.algebraic_Kernel5Ideal_Reference5Ideal (hKernel5Ideal := Cert.Kernel5Ideal.Gen.facts)
    (hReference5Ideal := Cert.Reference5Ideal.Gen.facts) := fun m ρ m' ρ' _ hag =>
  ⟨_, (θ_run _ _ _).mono (fun r h c => ⟨(h c).1.trans (arr_out m c), (h c).2⟩) (Cert.Kernel5Ideal.Value.run_blocks (F := Ideal) m ρ),
    (θ_run _ _ _).mono (fun r h c =>
      have g := hag c
      ⟨(h c).1.trans ((Cert.Reference5Ideal.Read.val_main_v21_eq _ _ _ _).trans (res_mods m c _ g.1 _ g.2.1 _ g.2.2.1 _ g.2.2.2)), (h c).2⟩)
      (Cert.Reference5Ideal.Value.run (F := Ideal) m' ρ')⟩

end AdaLn
-- ==== Proof.Attn.Softmax.lean ====
module

public import Idealize.ShloMosaic.Init
public import Idealize.ShloMosaic.Lib.Pointwise

@[expose] public section

noncomputable section

open Idealize.ShloMosaic

namespace Attn

/-- The weight of a score before it is normalized: none for a masked one. -/
def wt (x : EReal) : ℝ := if x = ⊥ then 0 else Real.exp x.toReal

theorem wt_nonneg (x : EReal) : 0 ≤ wt x := by
  unfold wt; split
  · exact le_refl _
  · exact (Real.exp_pos _).le

theorem wt_bot : wt ⊥ = 0 := if_pos rfl

theorem wt_coe (y : ℝ) : wt (y : EReal) = Real.exp y := by
  unfold wt; rw [if_neg (EReal.coe_ne_bot y), EReal.toReal_coe]

/-- The exponential of a shifted score. -/
theorem exp_shift (x : EReal) (m : ℝ) (hx : x ≠ ⊤) : Ideal.exp (x - (m : EReal)) = ((wt x * Real.exp (-m) : ℝ) : EReal) := by
  induction x with
  | bot =>
    rw [wt_bot, zero_mul, EReal.bot_sub]; rfl
  | top => exact absurd rfl hx
  | coe y =>
    rw [wt_coe, ← Real.exp_add, ← EReal.coe_sub, ← sub_eq_add_neg]; rfl

/-- A nonnegative real factor goes into a finite sum of extended reals. -/
theorem sum_mul_coe {ι : Type} (s : Finset ι) (f : ι → EReal) (r : ℝ) (hr : 0 ≤ r) :
    (∑ n ∈ s, f n) * (r : EReal) = ∑ n ∈ s, f n * (r : EReal) := by
  classical
  induction s using Finset.induction_on with
  | empty => simp
  | insert a t ha ih =>
    rw [Finset.sum_insert ha, Finset.sum_insert ha, ← ih]
    exact EReal.right_distrib_of_nonneg_of_ne_top (EReal.coe_nonneg.mpr hr) (EReal.coe_ne_top r) _ _

/-- A finite sum of reals, as an extended real. -/
theorem coe_sum {ι : Type} (s : Finset ι) (f : ι → ℝ) : ((∑ n ∈ s, f n : ℝ) : EReal) = ∑ n ∈ s, (f n : EReal) := by
  classical
  induction s using Finset.induction_on with
  | empty => simp
  | insert a t ha ih => rw [Finset.sum_insert ha, Finset.sum_insert ha, EReal.coe_add, ih]

theorem div_coe (x : EReal) (r : ℝ) (hr : r ≠ 0) : Ideal.div x (r : EReal) = x * ((r⁻¹ : ℝ) : EReal) := by
  unfold Ideal.div
  rw [if_neg (by exact_mod_cast hr), EReal.coe_inv]

/-- The softmax-weighted mean: values `v` with weights `wt (x n)`, and the sink's weight in the denominator only. -/
def mean {ι : Type} [Fintype ι] (v x : ι → EReal) (s : ℝ) : EReal :=
  ∑ n, v n * ((wt (x n) / ((∑ k, wt (x k)) + Real.exp s) : ℝ) : EReal)

theorem den_pos {ι : Type} [Fintype ι] (x : ι → EReal) (s : ℝ) : 0 < (∑ k, wt (x k)) + Real.exp s :=
  add_pos_of_nonneg_of_pos (Finset.sum_nonneg fun k _ => wt_nonneg _) (Real.exp_pos s)

/-- The sum of the shifted exponentials, the sink's among them. -/
theorem den_exp {ι : Type} [Fintype ι] (x : ι → EReal) (s m : ℝ) (hx : ∀ n, x n ≠ ⊤) :
    (∑ k, Ideal.exp (x k - (m : EReal))) + Ideal.exp ((s : EReal) - (m : EReal))
      = ((((∑ k, wt (x k)) + Real.exp s) * Real.exp (-m) : ℝ) : EReal) := by
  rw [exp_shift s m (EReal.coe_ne_top s), wt_coe, add_mul, EReal.coe_add, Finset.sum_mul, coe_sum]
  refine congrArg (· + _) (Finset.sum_congr rfl fun k _ => ?_)
  rw [exp_shift (x k) m (hx k)]

/-- The weighted sum of exponentials over their sum, with any real shift, gives the mean. -/
theorem mean_exp {ι : Type} [Fintype ι] (v x : ι → EReal) (s m : ℝ) (hx : ∀ n, x n ≠ ⊤) :
    Ideal.div (∑ n, Ideal.exp (x n - (m : EReal)) * v n) ((∑ k, Ideal.exp (x k - (m : EReal))) + Ideal.exp ((s : EReal) - (m : EReal)))
      = mean v x s := by
  have hc : 0 < Real.exp (-m) := Real.exp_pos _
  have hp := den_pos x s
  rw [den_exp x s m hx, div_coe _ _ (mul_pos hp hc).ne', sum_mul_coe _ _ _ (inv_nonneg.mpr (mul_pos hp hc).le)]
  refine Finset.sum_congr rfl fun n _ => ?_
  rw [exp_shift (x n) m (hx n), mul_comm _ (v n), mul_assoc, ← EReal.coe_mul]
  congr 2
  field_simp

/-- Each exponential over their sum, with any real shift, gives the mean's weight. -/
theorem weight_exp {ι : Type} [Fintype ι] (x : ι → EReal) (s m : ℝ) (hx : ∀ n, x n ≠ ⊤) (n : ι) :
    Ideal.div (Ideal.exp (x n - (m : EReal))) ((∑ k, Ideal.exp (x k - (m : EReal))) + Ideal.exp ((s : EReal) - (m : EReal)))
      = ((wt (x n) / ((∑ k, wt (x k)) + Real.exp s) : ℝ) : EReal) := by
  have hc : 0 < Real.exp (-m) := Real.exp_pos _
  have hp := den_pos x s
  rw [den_exp x s m hx, div_coe _ _ (mul_pos hp hc).ne', exp_shift (x n) m (hx n), ← EReal.coe_mul]
  congr 1
  field_simp

end Attn

end
-- ==== Proof.Attn.Spec.lean ====
/-
  What the attention is, written out over the extended reals in plain coordinates: a query reads the keys of its own block
  and of the two beside it that lie in its window, and every key of the context; a further score, the sink, takes its share
  of the weight and gives nothing. Both programs are read against these definitions.
-/
module

public import Idealize.ShloMosaic.Lib.Pipeline.ValueKit
public import proofs.«01_k».proof.Proof.Attn.Softmax

@[expose] public section

noncomputable section

open Idealize.ShloMosaic

namespace Attn

variable (Q : Fin 2 → Fin 8192 → Fin 8 → Fin 64 → EReal) (K V : Fin 2 → Fin 8192 → Fin 2 → Fin 64 → EReal)
  (Kx Vx : Fin 2 → Fin 256 → Fin 2 → Fin 64 → EReal) (S : Fin 8 → EReal)

/-- Key `j` of the three blocks at block `n` is in the window of the block's query `q`, and in the sequence. -/
def valid (n : Fin 64) (q : Fin 128) (j : Fin 384) : Prop :=
  q.val ≤ j.val ∧ j.val ≤ q.val + 256 ∧ 128 ≤ 128 * n.val + j.val ∧ 128 * n.val + j.val < 8320

instance (n : Fin 64) (q : Fin 128) (j : Fin 384) : Decidable (valid n q j) := by unfold valid; infer_instance

/-- Where that key stands in the sequence. -/
def key (n : Fin 64) (j : Fin 384) : Fin 8192 := ⟨min (128 * n.val + j.val - 128) 8191, by omega⟩

/-- Where query `q` of block `n` stands. -/
def pos (n : Fin 64) (q : Fin 128) : Fin 8192 := ⟨128 * n.val + q.val, by omega⟩

/-- Query head `g` of the heads that share key head `h`. -/
def head (h : Fin 2) (g : Fin 4) : Fin 8 := ⟨4 * h.val + g.val, by omega⟩

/-- An eighth, the root of one over a head's width. -/
abbrev scale : EReal := ((8⁻¹ : ℝ) : EReal)

/-- A query's scores: its block's window, then the context. -/
def score (b : Fin 2) (n : Fin 64) (q : Fin 128) (h : Fin 2) (g : Fin 4) : Fin 384 ⊕ Fin 256 → EReal
  | .inl j => if valid n q j then (∑ d, K b (key n j) h d * Q b (pos n q) (head h g) d) * scale else ⊥
  | .inr l => (∑ d, Kx b l h d * Q b (pos n q) (head h g) d) * scale

/-- The values the scores weigh. -/
def value (b : Fin 2) (n : Fin 64) (h : Fin 2) (d : Fin 64) : Fin 384 ⊕ Fin 256 → EReal
  | .inl j => V b (key n j) h d
  | .inr l => Vx b l h d

/-- The attention of one query, at one entry of a head. -/
def attn (b : Fin 2) (n : Fin 64) (q : Fin 128) (h : Fin 2) (g : Fin 4) (d : Fin 64) : EReal :=
  mean (value V Vx b n h d) (score Q K Kx b n q h g) (S (head h g)).toReal

end Attn

end
-- ==== Proof.Attn.Points.lean ====
module

public import proofs.«01_k».proof.Proof.Gen.Kernel6Ideal.Frame
public import proofs.«01_k».proof.Proof.Attn.Spec
public import Idealize.ShloMosaic.Lib.Pipeline.ReadBack
public import Idealize.ShloMosaic.Lib.StableHlo.ReadAt
public import Idealize.ShloMosaic.Lib.Tactic.WordOmega

@[expose] public section

set_option maxRecDepth 16384

noncomputable section

open Idealize.ShloMosaic Idealize.ShloMosaic.TcCoe Idealize.SL.Sem
open Cert.Kernel6Ideal Cert.Kernel6Ideal.Gen

namespace Attn

variable (m : (ℓ : Loc nD τ sig) → Buf (Elt Ideal) ℓ)

/-- The kernel program's queries, by coordinates. -/
abbrev qK (c : Dev nD) (b : Fin 2) (s : Fin 8192) (u : Fin 8) (d : Fin 64) : EReal := m (c, Proc.tc.devRef main_arg0) (ix4 b s u d)
/-- The keys. -/
abbrev kK (c : Dev nD) (b : Fin 2) (s : Fin 8192) (h : Fin 2) (d : Fin 64) : EReal := m (c, Proc.tc.devRef main_arg1) (ix4 b s h d)
/-- The values. -/
abbrev vK (c : Dev nD) (b : Fin 2) (s : Fin 8192) (h : Fin 2) (d : Fin 64) : EReal := m (c, Proc.tc.devRef main_arg2) (ix4 b s h d)
/-- The context's keys. -/
abbrev kxK (c : Dev nD) (b : Fin 2) (s : Fin 256) (h : Fin 2) (d : Fin 64) : EReal := m (c, Proc.tc.devRef main_arg3) (ix4 b s h d)
/-- The context's values. -/
abbrev vxK (c : Dev nD) (b : Fin 2) (s : Fin 256) (h : Fin 2) (d : Fin 64) : EReal := m (c, Proc.tc.devRef main_arg4) (ix4 b s h d)
/-- The sinks. -/
abbrev sK (c : Dev nD) (u : Fin 8) : EReal := m (c, Proc.tc.devRef main_arg5) (ix2 0 u)

/-- The sinks are read whole. -/
theorem blk0 (c : Dev nD) (t : Fin cfg0.N) (u : Fin 8) : iblk m c 0 t (ix1 u) = sK m c u := by
  have hi : win0_0.index t = ![0] := by revert t; decide +kernel
  trans V m c main_v53 (ix1 u)
  · blk_ext [iblk, hi]
  unfold V
  simp only [hostOps0, hostOps0_1, hostOps0_2, hostOps0_3, hostOps0_4, hostOps0_5, hostOps0_6, List.flatten_cons, List.flatten_nil, List.append_nil, List.cons_append, List.nil_append]
  entry_read
  pointwise

/-- The host's factor. -/
theorem eighth : Ideal.ofBits .f32 1040187392#32 = scale := by
  simp [Ideal.ofBits, Ideal.ieee, -EReal.coe_mul]; norm_num

/-- A row of the queries, as the call takes them. -/
theorem rows_q (c : Dev nD) (b : Fin 2) (s : Fin 8192) (h : Fin 2) (g : Fin 4) (d : Fin 64) (R : Fin 16384) (C : Fin 512)
    (hR : R.val = 8192 * b.val + s.val) (hC : C.val = 128 * g.val + 64 * h.val + d.val) :
    V m c main_v44 (ix2 R C) = qK m c b s (head h g) d * scale := by
  unfold V
  simp only [hostOps0, hostOps0_1, hostOps0_2, hostOps0_3, hostOps0_4, hostOps0_5, hostOps0_6, List.flatten_cons, List.flatten_nil, List.append_nil, List.cons_append, List.nil_append]
  entry_read
  pointwise
  refine congrArg₂ (fun x y : EReal => x * y) ?_ eighth
  refine congrArg (m (c, Proc.tc.devRef main_arg0)) ?_
  congr 1 <;> apply Fin.ext <;> simp only [head] <;> omega

/-- A row of the keys, as the call takes them. -/
theorem rows_k (c : Dev nD) (b : Fin 2) (s : Fin 8192) (h : Fin 2) (d : Fin 64) (R : Fin 16384) (C : Fin 128)
    (hR : R.val = 8192 * b.val + s.val) (hC : C.val = 64 * h.val + d.val) :
    V m c main_v46 (ix2 R C) = kK m c b s h d := by
  unfold V
  simp only [hostOps0, hostOps0_1, hostOps0_2, hostOps0_3, hostOps0_4, hostOps0_5, hostOps0_6, List.flatten_cons, List.flatten_nil, List.append_nil, List.cons_append, List.nil_append]
  entry_read
  pointwise
  refine congrArg (m (c, Proc.tc.devRef main_arg1)) ?_
  congr 1 <;> apply Fin.ext <;> dsimp only <;> omega

/-- A row of the values, as the call takes them. -/
theorem rows_v (c : Dev nD) (b : Fin 2) (s : Fin 8192) (h : Fin 2) (d : Fin 64) (R : Fin 16384) (C : Fin 128)
    (hR : R.val = 8192 * b.val + s.val) (hC : C.val = 64 * h.val + d.val) :
    V m c main_v48 (ix2 R C) = vK m c b s h d := by
  unfold V
  simp only [hostOps0, hostOps0_1, hostOps0_2, hostOps0_3, hostOps0_4, hostOps0_5, hostOps0_6, List.flatten_cons, List.flatten_nil, List.append_nil, List.cons_append, List.nil_append]
  entry_read
  pointwise
  refine congrArg (m (c, Proc.tc.devRef main_arg2)) ?_
  congr 1 <;> apply Fin.ext <;> dsimp only <;> omega

/-- A row of the context's keys, as the call takes them. -/
theorem rows_kx (c : Dev nD) (b : Fin 2) (s : Fin 256) (h : Fin 2) (d : Fin 64) (R : Fin 512) (C : Fin 128)
    (hR : R.val = 256 * b.val + s.val) (hC : C.val = 64 * h.val + d.val) :
    V m c main_v50 (ix2 R C) = kxK m c b s h d := by
  unfold V
  simp only [hostOps0, hostOps0_1, hostOps0_2, hostOps0_3, hostOps0_4, hostOps0_5, hostOps0_6, List.flatten_cons, List.flatten_nil, List.append_nil, List.cons_append, List.nil_append]
  entry_read
  pointwise
  refine congrArg (m (c, Proc.tc.devRef main_arg3)) ?_
  congr 1 <;> apply Fin.ext <;> dsimp only <;> omega

/-- A row of the context's values, as the call takes them. -/
theorem rows_vx (c : Dev nD) (b : Fin 2) (s : Fin 256) (h : Fin 2) (d : Fin 64) (R : Fin 512) (C : Fin 128)
    (hR : R.val = 256 * b.val + s.val) (hC : C.val = 64 * h.val + d.val) :
    V m c main_v52 (ix2 R C) = vxK m c b s h d := by
  unfold V
  simp only [hostOps0, hostOps0_1, hostOps0_2, hostOps0_3, hostOps0_4, hostOps0_5, hostOps0_6, List.flatten_cons, List.flatten_nil, List.append_nil, List.cons_append, List.nil_append]
  entry_read
  pointwise
  refine congrArg (m (c, Proc.tc.devRef main_arg4)) ?_
  congr 1 <;> apply Fin.ext <;> dsimp only <;> omega

/-- A block of the queries. -/
theorem blk1 (c : Dev nD) (t : Fin cfg0.N) (b : Fin 2) (n : Fin 64) (ht : t.val = 64 * b.val + n.val) (q : Fin 128) (h : Fin 2) (g : Fin 4) (d : Fin 64) (C : Fin 512)
    (hC : C.val = 128 * g.val + 64 * h.val + d.val) :
    iblk m c 1 t (ix2 q C) = qK m c b (pos n q) (head h g) d * scale := by
  have hi : win0_1.index t = ![t.val, 0] := (show ∀ t : Fin cfg0.N, win0_1.index t = ![t.val, 0] by decide +kernel) t
  refine Eq.trans ?_ (rows_q m c b (pos n q) h g d ⟨128 * t.val + q.val, by omega⟩ C (by
    show 128 * t.val + q.val = 8192 * b.val + (128 * n.val + q.val); omega) hC)
  blk_ext [iblk, hi]

/-- The block of keys before. -/
theorem blk2 (c : Dev nD) (t : Fin cfg0.N) (b : Fin 2) (n : Fin 64) (ht : t.val = 64 * b.val + n.val) (r : Fin 128) (h : Fin 2) (d : Fin 64) (C : Fin 128)
    (hC : C.val = 64 * h.val + d.val) :
    iblk m c 2 t (ix2 r C) = kK m c b ⟨128 * ((n.val - 1)) + r.val, by omega⟩ h d := by
  have hi : win0_2.index t = ![64 * (t.val / 64) + (t.val % 64 - 1), 0] := (show ∀ t : Fin cfg0.N, win0_2.index t = ![64 * (t.val / 64) + (t.val % 64 - 1), 0] by decide +kernel) t
  have h1 : t.val / 64 = b.val := by omega
  have h2 : t.val % 64 = n.val := by omega
  rw [h1, h2] at hi
  refine Eq.trans ?_ (rows_k m c b ⟨128 * ((n.val - 1)) + r.val, by omega⟩ h d ⟨128 * (64 * b.val + (n.val - 1)) + r.val, by omega⟩ C (by
    show 128 * (64 * b.val + (n.val - 1)) + r.val = 8192 * b.val + (128 * ((n.val - 1)) + r.val); omega) hC)
  blk_ext [iblk, hi]

/-- The block of keys at the same place. -/
theorem blk3 (c : Dev nD) (t : Fin cfg0.N) (b : Fin 2) (n : Fin 64) (ht : t.val = 64 * b.val + n.val) (r : Fin 128) (h : Fin 2) (d : Fin 64) (C : Fin 128)
    (hC : C.val = 64 * h.val + d.val) :
    iblk m c 3 t (ix2 r C) = kK m c b ⟨128 * (n.val) + r.val, by omega⟩ h d := by
  have hi : win0_3.index t = ![t.val, 0] := (show ∀ t : Fin cfg0.N, win0_3.index t = ![t.val, 0] by decide +kernel) t
  have h1 : t.val / 64 = b.val := by omega
  have h2 : t.val % 64 = n.val := by omega
  rw [ht] at hi
  refine Eq.trans ?_ (rows_k m c b ⟨128 * (n.val) + r.val, by omega⟩ h d ⟨128 * (64 * b.val + n.val) + r.val, by omega⟩ C (by
    show 128 * (64 * b.val + n.val) + r.val = 8192 * b.val + (128 * (n.val) + r.val); omega) hC)
  blk_ext [iblk, hi]

/-- The block of keys after. -/
theorem blk4 (c : Dev nD) (t : Fin cfg0.N) (b : Fin 2) (n : Fin 64) (ht : t.val = 64 * b.val + n.val) (r : Fin 128) (h : Fin 2) (d : Fin 64) (C : Fin 128)
    (hC : C.val = 64 * h.val + d.val) :
    iblk m c 4 t (ix2 r C) = kK m c b ⟨128 * (min (n.val + 1) 63) + r.val, by omega⟩ h d := by
  have hi : win0_4.index t = ![64 * (t.val / 64) + min (t.val % 64 + 1) 63, 0] := (show ∀ t : Fin cfg0.N, win0_4.index t = ![64 * (t.val / 64) + min (t.val % 64 + 1) 63, 0] by decide +kernel) t
  have h1 : t.val / 64 = b.val := by omega
  have h2 : t.val % 64 = n.val := by omega
  rw [h1, h2] at hi
  refine Eq.trans ?_ (rows_k m c b ⟨128 * (min (n.val + 1) 63) + r.val, by omega⟩ h d ⟨128 * (64 * b.val + min (n.val + 1) 63) + r.val, by omega⟩ C (by
    show 128 * (64 * b.val + min (n.val + 1) 63) + r.val = 8192 * b.val + (128 * (min (n.val + 1) 63) + r.val); omega) hC)
  blk_ext [iblk, hi]

/-- The block of values before. -/
theorem blk5 (c : Dev nD) (t : Fin cfg0.N) (b : Fin 2) (n : Fin 64) (ht : t.val = 64 * b.val + n.val) (r : Fin 128) (h : Fin 2) (d : Fin 64) (C : Fin 128)
    (hC : C.val = 64 * h.val + d.val) :
    iblk m c 5 t (ix2 r C) = vK m c b ⟨128 * ((n.val - 1)) + r.val, by omega⟩ h d := by
  have hi : win0_5.index t = ![64 * (t.val / 64) + (t.val % 64 - 1), 0] := (show ∀ t : Fin cfg0.N, win0_5.index t = ![64 * (t.val / 64) + (t.val % 64 - 1), 0] by decide +kernel) t
  have h1 : t.val / 64 = b.val := by omega
  have h2 : t.val % 64 = n.val := by omega
  rw [h1, h2] at hi
  refine Eq.trans ?_ (rows_v m c b ⟨128 * ((n.val - 1)) + r.val, by omega⟩ h d ⟨128 * (64 * b.val + (n.val - 1)) + r.val, by omega⟩ C (by
    show 128 * (64 * b.val + (n.val - 1)) + r.val = 8192 * b.val + (128 * ((n.val - 1)) + r.val); omega) hC)
  blk_ext [iblk, hi]

/-- The block of values at the same place. -/
theorem blk6 (c : Dev nD) (t : Fin cfg0.N) (b : Fin 2) (n : Fin 64) (ht : t.val = 64 * b.val + n.val) (r : Fin 128) (h : Fin 2) (d : Fin 64) (C : Fin 128)
    (hC : C.val = 64 * h.val + d.val) :
    iblk m c 6 t (ix2 r C) = vK m c b ⟨128 * (n.val) + r.val, by omega⟩ h d := by
  have hi : win0_6.index t = ![t.val, 0] := (show ∀ t : Fin cfg0.N, win0_6.index t = ![t.val, 0] by decide +kernel) t
  have h1 : t.val / 64 = b.val := by omega
  have h2 : t.val % 64 = n.val := by omega
  rw [ht] at hi
  refine Eq.trans ?_ (rows_v m c b ⟨128 * (n.val) + r.val, by omega⟩ h d ⟨128 * (64 * b.val + n.val) + r.val, by omega⟩ C (by
    show 128 * (64 * b.val + n.val) + r.val = 8192 * b.val + (128 * (n.val) + r.val); omega) hC)
  blk_ext [iblk, hi]

/-- The block of values after. -/
theorem blk7 (c : Dev nD) (t : Fin cfg0.N) (b : Fin 2) (n : Fin 64) (ht : t.val = 64 * b.val + n.val) (r : Fin 128) (h : Fin 2) (d : Fin 64) (C : Fin 128)
    (hC : C.val = 64 * h.val + d.val) :
    iblk m c 7 t (ix2 r C) = vK m c b ⟨128 * (min (n.val + 1) 63) + r.val, by omega⟩ h d := by
  have hi : win0_7.index t = ![64 * (t.val / 64) + min (t.val % 64 + 1) 63, 0] := (show ∀ t : Fin cfg0.N, win0_7.index t = ![64 * (t.val / 64) + min (t.val % 64 + 1) 63, 0] by decide +kernel) t
  have h1 : t.val / 64 = b.val := by omega
  have h2 : t.val % 64 = n.val := by omega
  rw [h1, h2] at hi
  refine Eq.trans ?_ (rows_v m c b ⟨128 * (min (n.val + 1) 63) + r.val, by omega⟩ h d ⟨128 * (64 * b.val + min (n.val + 1) 63) + r.val, by omega⟩ C (by
    show 128 * (64 * b.val + min (n.val + 1) 63) + r.val = 8192 * b.val + (128 * (min (n.val + 1) 63) + r.val); omega) hC)
  blk_ext [iblk, hi]

/-- A block of the context's keys. -/
theorem blk8 (c : Dev nD) (t : Fin cfg0.N) (b : Fin 2) (n : Fin 64) (ht : t.val = 64 * b.val + n.val) (r : Fin 256) (h : Fin 2) (d : Fin 64) (C : Fin 128)
    (hC : C.val = 64 * h.val + d.val) :
    iblk m c 8 t (ix2 r C) = kxK m c b r h d := by
  have hi : win0_8.index t = ![t.val / 64, 0] := (show ∀ t : Fin cfg0.N, win0_8.index t = ![t.val / 64, 0] by decide +kernel) t
  have h1 : t.val / 64 = b.val := by omega
  rw [h1] at hi
  refine Eq.trans ?_ (rows_kx m c b r h d ⟨256 * b.val + r.val, by omega⟩ C rfl hC)
  blk_ext [iblk, hi]

/-- A block of the context's values. -/
theorem blk9 (c : Dev nD) (t : Fin cfg0.N) (b : Fin 2) (n : Fin 64) (ht : t.val = 64 * b.val + n.val) (r : Fin 256) (h : Fin 2) (d : Fin 64) (C : Fin 128)
    (hC : C.val = 64 * h.val + d.val) :
    iblk m c 9 t (ix2 r C) = vxK m c b r h d := by
  have hi : win0_9.index t = ![t.val / 64, 0] := (show ∀ t : Fin cfg0.N, win0_9.index t = ![t.val / 64, 0] by decide +kernel) t
  have h1 : t.val / 64 = b.val := by omega
  rw [h1] at hi
  refine Eq.trans ?_ (rows_vx m c b r h d ⟨256 * b.val + r.val, by omega⟩ C rfl hC)
  blk_ext [iblk, hi]

end Attn

end
-- ==== Proof.Attn.Half.lean ====
/-
  What one grid point computes for one of its two key heads, from the values it has loaded.
-/
module

public import proofs.«01_k».proof.Proof.Gen.Kernel6Ideal.Frame
public import proofs.«01_k».proof.Proof.Attn.Spec
public import Idealize.ShloMosaic.Lib.Pipeline.ReadBack

@[expose] public section

set_option maxRecDepth 16384

noncomputable section

open Idealize.ShloMosaic Idealize.ShloMosaic.TcCoe Idealize.SL.Sem
open Cert.Kernel6Ideal Cert.Kernel6Ideal.Gen

namespace Attn

/-- A sum over the lanes of which only the lower half counts. -/
theorem lanes_low (a b : Fin 128 → EReal) :
    (∑ x : Fin 128, (if x.val < 64 then a x else 0) * b x) = ∑ d : Fin 64, a ⟨d.val, by omega⟩ * b ⟨d.val, by omega⟩ := by
  rw [show (∑ x : Fin 128, (if x.val < 64 then a x else 0) * b x) = ∑ x : Fin (64 + 64), (if x.val < 64 then a x else 0) * b x from rfl,
    Fin.sum_univ_add]
  have e (d : Fin 64) : ¬ (Fin.natAdd 64 d).val < 64 := by show ¬ 64 + d.val < 64; omega
  have f (d : Fin 64) : (Fin.castAdd 64 d).val < 64 := d.isLt
  simp only [e, f, if_true, if_false, zero_mul, Finset.sum_const_zero, add_zero]
  rfl

/-- A sum over the lanes of which only the upper half counts. -/
theorem lanes_high (a b : Fin 128 → EReal) :
    (∑ x : Fin 128, (if x.val < 64 then 0 else a x) * b x) = ∑ d : Fin 64, a ⟨64 + d.val, by omega⟩ * b ⟨64 + d.val, by omega⟩ := by
  rw [show (∑ x : Fin 128, (if x.val < 64 then 0 else a x) * b x) = ∑ x : Fin (64 + 64), (if x.val < 64 then 0 else a x) * b x from rfl,
    Fin.sum_univ_add]
  have e (d : Fin 64) : ¬ (Fin.natAdd 64 d).val < 64 := by show ¬ 64 + d.val < 64; omega
  have f (d : Fin 64) : (Fin.castAdd 64 d).val < 64 := d.isLt
  simp only [e, f, if_true, if_false, zero_mul, Finset.sum_const_zero, zero_add]
  rfl

/-- The mask of the lower lanes. -/
theorem low_mask (x : Fin 128) (y : EReal) :
    Scalar.select (IntOp.cmpi .slt (BitVec.ofNat 32 x.val) 64#32) y 0 = if x.val < 64 then y else 0 := by
  have e : IntOp.cmpi .slt (BitVec.ofNat 32 x.val) 64#32 = if x.val < 64 then 1#1 else 0#1 := by revert x; decide +kernel
  rw [e]; split_ifs <;> rfl

/-- The mask of the upper lanes. -/
theorem high_mask (x : Fin 128) (y : EReal) :
    Scalar.select (IntOp.xori (IntOp.cmpi .slt (BitVec.ofNat 32 x.val) 64#32) 1#1) y 0 = if x.val < 64 then 0 else y := by
  have e : IntOp.xori (IntOp.cmpi .slt (BitVec.ofNat 32 x.val) 64#32) 1#1 = if x.val < 64 then 0#1 else 1#1 := by revert x; decide +kernel
  rw [e]; split_ifs <;> rfl

/-- Four pieces one after the other are read at a row of one of them. -/
theorem four {α : Type} (f : Fin 4 → Fin 128 → α) (g : Fin 4) (q : Fin 128) (R : Nat) (hR : R = 128 * g.val + q.val) :
    (if h : R < 128 then f 0 ⟨R, h⟩ else if h1 : R - 128 < 128 then f 1 ⟨R - 128, h1⟩ else
      if h2 : R - 128 - 128 < 128 then f 2 ⟨R - 128 - 128, h2⟩ else f 3 ⟨R - 128 - 128 - 128, by omega⟩) = f g q := by
  subst hR
  split_ifs with h h1 h2
  · obtain rfl : g = 0 := Fin.ext (by simp; omega)
    congr 1; apply Fin.ext; simp
  · obtain rfl : g = 1 := Fin.ext (by simp; omega)
    congr 1; apply Fin.ext; simp
  · obtain rfl : g = 2 := Fin.ext (by simp; omega)
    congr 1; apply Fin.ext; simp; omega
  · obtain rfl : g = 3 := Fin.ext (by simp; omega)
    congr 1; apply Fin.ext; simp; omega

/-- The products of the first key head's queries with all keys. -/
theorem dots_low (Q : Fin 4 → S128x128.Idx → EReal) (k : S640x128.Idx → EReal) (g : Fin 4) (q : Fin 128) (R : Fin 512) (n : Fin 640)
    (hR : R.val = 128 * g.val + q.val) :
    k0_pay12 (F := Ideal) k k0_pay8 (k0_pay10 (Q 0)) (k0_pay11 (Q 1)) (Q 2) (Q 3) (ix2 R n)
      = ∑ d : Fin 64, Q g (ix2 q ⟨d.val, by omega⟩) * k (ix2 n ⟨d.val, by omega⟩) := by
  have e (w : Fin 128 → EReal) (hw : ∀ x, (if x.val < 64 then Q g (ix2 q x) else 0) = w x) :
      k0_pay12 (F := Ideal) k k0_pay8 (k0_pay10 (Q 0)) (k0_pay11 (Q 1)) (Q 2) (Q 3) (ix2 R n) = ∑ x : Fin 128, w x * k (ix2 n x) := by
    unfold k0_pay12 k0_pay10 k0_pay11 k0_pay8
    pointwise
    refine Finset.sum_congr rfl fun x _ => congrArg (fun y : EReal => y * k (ix2 n x)) ?_
    rw [← hw]
    simp only [low_mask]
    exact four (fun g q => if x.val < 64 then Q g (ix2 q x) else 0) g q R.val hR
  exact (e _ fun _ => rfl).trans (lanes_low (fun x => Q g (ix2 q x)) (fun x => k (ix2 n x)))

/-- The products of the second key head's queries with all keys. -/
theorem dots_high (Q : Fin 4 → S128x128.Idx → EReal) (k : S640x128.Idx → EReal) (g : Fin 4) (q : Fin 128) (R : Fin 512) (n : Fin 640)
    (hR : R.val = 128 * g.val + q.val) :
    k0_pay22 (F := Ideal) k k0_pay8 (Q 0) (Q 1) (Q 2) (Q 3) (ix2 R n)
      = ∑ d : Fin 64, Q g (ix2 q ⟨64 + d.val, by omega⟩) * k (ix2 n ⟨64 + d.val, by omega⟩) := by
  have e (w : Fin 128 → EReal) (hw : ∀ x, (if x.val < 64 then 0 else Q g (ix2 q x)) = w x) :
      k0_pay22 (F := Ideal) k k0_pay8 (Q 0) (Q 1) (Q 2) (Q 3) (ix2 R n) = ∑ x : Fin 128, w x * k (ix2 n x) := by
    unfold k0_pay22 k0_pay8
    pointwise
    refine Finset.sum_congr rfl fun x _ => congrArg (fun y : EReal => y * k (ix2 n x)) ?_
    rw [← hw]
    simp only [high_mask]
    exact four (fun g q => if x.val < 64 then 0 else Q g (ix2 q x)) g q R.val hR
  exact (e _ fun _ => rfl).trans (lanes_high (fun x => Q g (ix2 q x)) (fun x => k (ix2 n x)))

/-- The sinks stand along the rows, head by head. -/
theorem sinks (S : Fin 4 → EReal) (g : Fin 4) (q : Fin 128) (R : Fin 512) (hR : R.val = 128 * g.val + q.val) :
    k0_pay15 (F := Ideal) (S 0) (S 1) (S 2) (S 3) (ix2 R 0) = S g := by
  unfold k0_pay15
  pointwise
  exact four (fun g _ => S g) g q R.val hR

/-- The output from the scores, their top and the values. -/
theorem core (V : S640x128.Idx → EReal) (x1 : S512x384.Idx → EReal) (x2 : S512x256.Idx → EReal) (s t : S512x1.Idx → EReal)
    (T : S512x384.Idx → EReal) (v X : Fin 384 ⊕ Fin 256 → EReal) (σ τ : ℝ) (R : Fin 512) (c : Fin 128)
    (h1 : ∀ j, x1 (ix2 R j) = X (.inl j)) (h2 : ∀ l, x2 (ix2 R l) = X (.inr l)) (hs : s (ix2 R 0) = (σ : EReal))
    (ht : t (ix2 R 0) = (τ : EReal)) (hT : ∀ j, T (ix2 R j) = (τ : EReal)) (hX : ∀ n, X n ≠ ⊤)
    (hv1 : ∀ j : Fin 384, V (ix2 ⟨j.val, by omega⟩ c) = v (.inl j))
    (hv2 : ∀ l : Fin 256, V (ix2 ⟨384 + l.val, by omega⟩ c) = v (.inr l)) :
    k0_pay1 (F := Ideal) V x1 x2 s t T (ix2 R c) = mean v X σ := by
  rw [← mean_exp v X σ τ hX]
  simp only [Fintype.sum_sum_type, ← h1, ← h2, ← hv1, ← hv2]
  unfold k0_pay1
  pointwise
  simp only [hT, ht, hs]

/-- The word of minus infinity. -/
theorem minus : Ideal.ofBits .f32 4286578688#32 = ⊥ := by
  simp [Ideal.ofBits, Ideal.ieee]

theorem fold_ne_top {ι : Type} (s : Finset ι) (f : ι → EReal) (hf : ∀ i, f i ≠ ⊤) : Finset.fold max (⊥ : EReal) f s ≠ ⊤ := by
  classical
  induction s using Finset.induction_on with
  | empty => simp
  | insert a s ha ih =>
    rw [Finset.fold_insert ha]
    exact (max_lt (lt_top_iff_ne_top.mpr (hf a)) (lt_top_iff_ne_top.mpr ih)).ne

/-- The larger of two numbers below infinity and of a real one is real. -/
theorem max_real (a b : EReal) (σ : ℝ) (ha : a ≠ ⊤) (hb : b ≠ ⊤) : ∃ τ : ℝ, max (max a b) (σ : EReal) = (τ : EReal) := by
  refine ⟨(max (max a b) (σ : EReal)).toReal, (EReal.coe_toReal ?_ ?_).symm⟩
  · exact (max_lt (max_lt (lt_top_iff_ne_top.mpr ha) (lt_top_iff_ne_top.mpr hb)) (EReal.coe_lt_top σ)).ne
  · exact ((EReal.bot_lt_coe σ).trans_le (le_max_right _ _)).ne'

/-- The first key head's half, from its scores and values. -/
theorem half_low (V k : S640x128.Idx → EReal) (M : S128x128.Idx → BitVec 1) (B : S512x384.Idx → EReal)
    (q0 q1 q2 q3 : S128x128.Idx → EReal) (s0 s1 s2 s3 : EReal) (v X : Fin 384 ⊕ Fin 256 → EReal) (σ : ℝ) (R : Fin 512) (c : Fin 128)
    (h1 : ∀ j, k0_pay13 (F := Ideal) k M B q0 q1 q2 q3 (ix2 R j) = X (.inl j))
    (h2 : ∀ l, k0_pay14 (F := Ideal) k M q0 q1 q2 q3 (ix2 R l) = X (.inr l))
    (hs : k0_pay15 (F := Ideal) s0 s1 s2 s3 (ix2 R 0) = (σ : EReal)) (hX : ∀ n, X n ≠ ⊤)
    (hv1 : ∀ j : Fin 384, V (ix2 ⟨j.val, by omega⟩ c) = v (.inl j))
    (hv2 : ∀ l : Fin 256, V (ix2 ⟨384 + l.val, by omega⟩ c) = v (.inr l)) :
    k0_pay21 (F := Ideal) (k0_pay19 k M B q0 q1 q2 q3 s0 s1 s2 s3) (k0_pay20 k V M B q0 q1 q2 q3 s0 s1 s2 s3) (ix2 R c) = mean v X σ := by
  obtain ⟨τ, ht⟩ : ∃ τ : ℝ, k0_pay16 (F := Ideal) k M B q0 q1 q2 q3 s0 s1 s2 s3 (ix2 R 0) = (τ : EReal) := by
    unfold k0_pay16
    pointwise
    rw [hs, minus]
    exact max_real _ _ _ (fold_ne_top _ _ fun j => by rw [h1]; exact hX _) (fold_ne_top _ _ fun l => by rw [h2]; exact hX _)
  exact core V (k0_pay13 (F := Ideal) k M B q0 q1 q2 q3) (k0_pay14 (F := Ideal) k M q0 q1 q2 q3) (k0_pay15 (F := Ideal) s0 s1 s2 s3)
    (k0_pay16 (F := Ideal) k M B q0 q1 q2 q3 s0 s1 s2 s3)
    (broadcastTo S512x384 (k0_pay16 (F := Ideal) k M B q0 q1 q2 q3 s0 s1 s2 s3 : FVec Ideal S512x1 .f32) broadcasts_S512x1_S512x384) v X σ τ R c h1 h2 hs ht (fun j => by pointwise; exact ht) hX hv1 hv2

/-- The second key head's half. -/
theorem half_high (V k : S640x128.Idx → EReal) (M : S128x128.Idx → BitVec 1) (B : S512x384.Idx → EReal)
    (q0 q1 q2 q3 : S128x128.Idx → EReal) (s0 s1 s2 s3 : EReal) (v X : Fin 384 ⊕ Fin 256 → EReal) (σ : ℝ) (R : Fin 512) (c : Fin 128)
    (h1 : ∀ j, k0_pay23 (F := Ideal) k M B q0 q1 q2 q3 (ix2 R j) = X (.inl j))
    (h2 : ∀ l, k0_pay24 (F := Ideal) k M q0 q1 q2 q3 (ix2 R l) = X (.inr l))
    (hs : k0_pay25 (F := Ideal) s0 s1 s2 s3 (ix2 R 0) = (σ : EReal)) (hX : ∀ n, X n ≠ ⊤)
    (hv1 : ∀ j : Fin 384, V (ix2 ⟨j.val, by omega⟩ c) = v (.inl j))
    (hv2 : ∀ l : Fin 256, V (ix2 ⟨384 + l.val, by omega⟩ c) = v (.inr l)) :
    k0_pay1 (F := Ideal) V (k0_pay23 k M B q0 q1 q2 q3) (k0_pay24 k M q0 q1 q2 q3) (k0_pay25 s0 s1 s2 s3)
      (k0_pay26 k M B q0 q1 q2 q3 s0 s1 s2 s3) (k0_pay27 k M B q0 q1 q2 q3 s0 s1 s2 s3) (ix2 R c) = mean v X σ := by
  obtain ⟨τ, ht⟩ : ∃ τ : ℝ, k0_pay26 (F := Ideal) k M B q0 q1 q2 q3 s0 s1 s2 s3 (ix2 R 0) = (τ : EReal) := by
    unfold k0_pay26
    pointwise
    rw [hs, minus]
    exact max_real _ _ _ (fold_ne_top _ _ fun j => by rw [h1]; exact hX _) (fold_ne_top _ _ fun l => by rw [h2]; exact hX _)
  exact core V _ _ _ _ _ v X σ τ R c h1 h2 hs ht (fun j => by unfold k0_pay27; pointwise; exact ht) hX hv1 hv2

/-- The local scores are the products with the first keys and the mask. -/
theorem local_low (k : S640x128.Idx → EReal) (M : S128x128.Idx → BitVec 1) (B : S512x384.Idx → EReal) (q0 q1 q2 q3 : S128x128.Idx → EReal) (R : Fin 512) (j : Fin 384) :
    k0_pay13 (F := Ideal) k M B q0 q1 q2 q3 (ix2 R j) = (k0_pay12 (F := Ideal) k M q0 q1 q2 q3 (ix2 R ⟨j.val, by omega⟩) : EReal) + B (ix2 R j) := by
  unfold k0_pay13; pointwise

theorem ctx_low (k : S640x128.Idx → EReal) (M : S128x128.Idx → BitVec 1) (q0 q1 q2 q3 : S128x128.Idx → EReal) (R : Fin 512) (l : Fin 256) :
    k0_pay14 (F := Ideal) k M q0 q1 q2 q3 (ix2 R l) = k0_pay12 (F := Ideal) k M q0 q1 q2 q3 (ix2 R ⟨384 + l.val, by omega⟩) := by
  unfold k0_pay14; pointwise

theorem local_high (k : S640x128.Idx → EReal) (M : S128x128.Idx → BitVec 1) (B : S512x384.Idx → EReal) (q0 q1 q2 q3 : S128x128.Idx → EReal) (R : Fin 512) (j : Fin 384) :
    k0_pay23 (F := Ideal) k M B q0 q1 q2 q3 (ix2 R j) = (k0_pay22 (F := Ideal) k M q0 q1 q2 q3 (ix2 R ⟨j.val, by omega⟩) : EReal) + B (ix2 R j) := by
  unfold k0_pay23; pointwise

theorem ctx_high (k : S640x128.Idx → EReal) (M : S128x128.Idx → BitVec 1) (q0 q1 q2 q3 : S128x128.Idx → EReal) (R : Fin 512) (l : Fin 256) :
    k0_pay24 (F := Ideal) k M q0 q1 q2 q3 (ix2 R l) = k0_pay22 (F := Ideal) k M q0 q1 q2 q3 (ix2 R ⟨384 + l.val, by omega⟩) := by
  unfold k0_pay24; pointwise

/-- The local keys or values: three blocks one after the other, then the context's. -/
theorem cat_local (a b c : S128x128.Idx → EReal) (x : S256x128.Idx → EReal) (j : Fin 384) (C : Fin 128) :
    k0_pay6 (F := Ideal) a b c x (ix2 ⟨j.val, by omega⟩ C)
      = if h : j.val < 128 then a (ix2 ⟨j.val, h⟩ C) else if h1 : j.val < 256 then b (ix2 ⟨j.val - 128, by omega⟩ C) else c (ix2 ⟨j.val - 256, by omega⟩ C) := by
  unfold k0_pay6
  pointwise
  split_ifs <;> first | rfl | omega | (rw [dif_pos (by omega)]) | (rw [dif_neg (by omega)]; congr 2)

theorem cat_ctx (a b c : S128x128.Idx → EReal) (x : S256x128.Idx → EReal) (l : Fin 256) (C : Fin 128) :
    k0_pay6 (F := Ideal) a b c x (ix2 ⟨384 + l.val, by omega⟩ C) = x (ix2 l C) := by
  unfold k0_pay6
  pointwise
  split_ifs <;> first | rfl | omega | (congr 2; apply Fin.ext; simp; omega)

end Attn

end
-- ==== Proof.Attn.Mask.lean ====
/-
  The masks the attention reads: a query sees the keys at most one block before and after it, inside the sequence.
-/
module

public import proofs.«01_k».proof.Proof.Gen.Kernel6Ideal.Frame
public import proofs.«01_k».proof.Proof.Attn.Spec
public import proofs.«01_k».proof.Proof.Attn.Half
public import Idealize.ShloMosaic.Lib.Pipeline.ReadBack
public import Idealize.ShloMosaic.Lib.StableHlo.ReadAt
public import Idealize.ShloMosaic.Lib.Tactic.WordOmega

@[expose] public section

set_option maxRecDepth 16384

noncomputable section

open Idealize.ShloMosaic Idealize.ShloMosaic.TcCoe Idealize.SL.Sem
open Cert.Kernel6Ideal Cert.Kernel6Ideal.Gen

namespace Attn

variable (m : (ℓ : Loc nD τ sig) → Buf (Elt Ideal) ℓ)

/-- The window, in words. -/
theorem window_word (q : Fin 128) (j : Fin 384) :
    IntOp.cmpi .sle (IntOp.absi (IntOp.subi (IntOp.subi (BitVec.ofNat 32 j.val) 128#32) (BitVec.ofNat 32 q.val))) 128#32
      = if q.val ≤ j.val ∧ j.val ≤ q.val + 256 then 1#1 else 0#1 := by
  revert q j; decide +kernel

theorem from_word (j : Fin 384) : IntOp.cmpi .sge (BitVec.ofNat 32 j.val) 128#32 = if 128 ≤ j.val then 1#1 else 0#1 := by
  revert j; decide +kernel

theorem to_word (j : Fin 384) : IntOp.cmpi .slt (BitVec.ofNat 32 j.val) 256#32 = if j.val < 256 then 1#1 else 0#1 := by
  revert j; decide +kernel

theorem pick (p : Prop) [Decidable p] : Scalar.select (if p then 1#1 else 0#1) (0 : EReal) ⊥ = if p then 0 else ⊥ := by
  split_ifs <;> rfl

theorem pick_both (p r : Prop) [Decidable p] [Decidable r] :
    Scalar.select (IntOp.andi (if p then 1#1 else 0#1) (if r then 1#1 else 0#1)) (0 : EReal) ⊥ = if p ∧ r then 0 else ⊥ := by
  by_cases hp : p <;> by_cases hr : r <;> simp only [hp, hr, if_true, if_false, and_self, and_true, and_false, false_and] <;> rfl

set_option maxHeartbeats 4000000 in
/-- The table of the masks. -/
theorem table (c : Dev nD) (a : Fin 3) (g : Fin 4) (q : Fin 128) (j : Fin 384) (R : Fin 512)
    (hR : R.val = 128 * g.val + q.val) :
    @Eq EReal (V m c main_v38 (ix3 a R j))
      (if q.val ≤ j.val ∧ j.val ≤ q.val + 256 ∧ (a = 0 → 128 ≤ j.val) ∧ (a = 2 → j.val < 256) then 0 else ⊥) := by
  unfold V
  simp only [hostOps0, hostOps0_1, hostOps0_2, hostOps0_3, hostOps0_4, hostOps0_5, hostOps0_6, List.flatten_cons, List.flatten_nil, List.append_nil, List.cons_append, List.nil_append]
  have ha : a = 0 ∨ a = 1 ∨ a = 2 := by omega
  rcases ha with rfl | rfl | rfl
  all_goals
    after_reads_at
    after_reads_at
    simp only [id]
    pointwise
    rw [show R.val % 128 = q.val by omega, window_word, minus]
  · rw [from_word, pick_both]
    exact if_congr (by simp only [true_imp_iff, false_imp_iff, and_true, and_assoc]) rfl rfl
  · rw [pick]
    exact if_congr (by simp only [false_imp_iff, and_true]) rfl rfl
  · rw [to_word, pick_both]
    exact if_congr (by simp only [true_imp_iff, false_imp_iff, true_and, and_assoc]) rfl rfl

/-- The masks of a block. -/
theorem blk10 (c : Dev nD) (t : Fin cfg0.N) (b : Fin 2) (n : Fin 64) (ht : t.val = 64 * b.val + n.val) (g : Fin 4) (q : Fin 128) (j : Fin 384) (R : Fin 512)
    (hR : R.val = 128 * g.val + q.val) :
    @Eq EReal (iblk m c 10 t (ix3 0 R j)) (if valid n q j then 0 else ⊥) := by
  have hi : win0_10.index t = ![if t.val % 64 = 0 then 0 else if t.val % 64 = 63 then 2 else 1, 0, 0] := (show ∀ t : Fin cfg0.N, win0_10.index t = ![if t.val % 64 = 0 then 0 else if t.val % 64 = 63 then 2 else 1, 0, 0] by decide +kernel) t
  have h2 : t.val % 64 = n.val := by omega
  rw [h2] at hi
  have fin (a : Fin 3) (ha : win0_10.index t = ![a.val, 0, 0]) (hv : (q.val ≤ j.val ∧ j.val ≤ q.val + 256 ∧ (a = 0 → 128 ≤ j.val) ∧ (a = 2 → j.val < 256)) ↔ valid n q j) :
      @Eq EReal (iblk m c 10 t (ix3 0 R j)) (if valid n q j then 0 else ⊥) := by
    refine Eq.trans ?_ ((table m c a g q j R hR).trans (if_congr hv rfl rfl))
    blk_ext [iblk, ha]
  clear h2
  by_cases h0 : n.val = 0
  · refine fin 0 (by rw [hi, if_pos h0]; rfl) ?_
    unfold valid
    simp
    omega
  · by_cases h63 : n.val = 63
    · refine fin 2 (by rw [hi, if_neg h0, if_pos h63]; rfl) ?_
      unfold valid
      simp
      omega
    · refine fin 1 (by rw [hi, if_neg h0, if_neg h63]; rfl) ?_
      unfold valid
      simp
      omega

end Attn

end
-- ==== Proof.Attn.Outs.lean ====
/-
  What one grid point stores: the attention of its block of queries, both key heads and all the heads that share them.
-/
module

public import proofs.«01_k».proof.Proof.Attn.Points
public import proofs.«01_k».proof.Proof.Attn.Mask
public import proofs.«01_k».proof.Proof.Attn.Half

@[expose] public section

set_option maxRecDepth 16384

noncomputable section

open Idealize.ShloMosaic Idealize.ShloMosaic.TcCoe Idealize.SL.Sem
open Cert.Kernel6Ideal Cert.Kernel6Ideal.Gen

namespace Attn

variable (m : (ℓ : Loc nD τ sig) → Buf (Elt Ideal) ℓ)

/-- Where a score is minus infinity the value does not count. -/
theorem mean_congr {ι : Type} [Fintype ι] (v w x : ι → EReal) (s : ℝ) (h : ∀ n, x n ≠ ⊥ → v n = w n) : mean v x s = mean w x s := by
  refine Finset.sum_congr rfl fun n _ => ?_
  by_cases hn : x n = ⊥
  · rw [hn, wt_bot, zero_div, EReal.coe_zero, mul_zero, mul_zero]
  · rw [h n hn]

/-- 128 columns of the block of queries. -/
theorem ldq_apply (W : Vec Ideal S128x512 .bf16) (o : ℕ) (ho : o + 128 ≤ 512)
    (h : ∀ a, (![0, o] : Fin 2 → ℕ) a + (![128, 128] : Fin 2 → ℕ) a ≤ S128x512.size a) (a l : Fin 128) :
    View.ld W (Rect.unit ![0, o] ![128, 128] h) (ix2 a l) = W (ix2 a ⟨o + l.val, by omega⟩) := by
  rw [View.ld_apply]
  refine congrArg W ?_
  funext b
  match b with
  | ⟨0, _⟩ => exact Fin.ext ((Rect.idx_unit_val _ _ _ _ _).trans (Nat.zero_add _))
  | ⟨1, _⟩ => exact Fin.ext (Rect.idx_unit_val _ _ _ _ _)

/-- One of the sinks. -/
theorem lds_apply (W : Vec Ideal S8 .f32) (o : Fin 8)
    (h : ∀ a, (![o.val] : Fin 1 → ℕ) a + (![1] : Fin 1 → ℕ) a ≤ S8.size a) (i : (⟨1, ![1]⟩ : Shape).Idx) :
    View.ld W (Rect.unit ![o.val] ![1] h) i = W (ix1 o) := by
  rw [View.ld_apply]
  refine congrArg W ?_
  funext b
  match b with
  | ⟨0, _⟩ => exact Fin.ext ((Rect.idx_unit_val _ _ _ _ _).trans (by
      have hi : (i 0).val < 1 := (i 0).isLt
      show o.val + (i 0).val = o.val
      omega))

/-- The point's queries, by the head's place among those that share a key head. -/
def qs (c : Dev nD) (t : Fin cfg0.N) : Fin 4 → Vec Ideal S128x128 .bf16
  | 0 => View.ld (iblk m c 1 t) (Rect.unit ![0, 0] ![128, 128] inb_S128x512_S128x128_0_0)
  | 1 => View.ld (iblk m c 1 t) (Rect.unit ![0, 128] ![128, 128] inb_S128x512_S128x128_0_128)
  | 2 => View.ld (iblk m c 1 t) (Rect.unit ![0, 256] ![128, 128] inb_S128x512_S128x128_0_256)
  | 3 => View.ld (iblk m c 1 t) (Rect.unit ![0, 384] ![128, 128] inb_S128x512_S128x128_0_384)

/-- The point's keys and values: three blocks, then the context's. -/
abbrev kcat (c : Dev nD) (t : Fin cfg0.N) : Vec Ideal S640x128 .bf16 := k0_pay6 (iblk m c 2 t) (iblk m c 3 t) (iblk m c 4 t) (iblk m c 8 t)
abbrev vcat (c : Dev nD) (t : Fin cfg0.N) : Vec Ideal S640x128 .bf16 := k0_pay7 (iblk m c 5 t) (iblk m c 6 t) (iblk m c 7 t) (iblk m c 9 t)

/-- The scale, on the query or on the product. -/
theorem scaled (k q : Fin 64 → EReal) : (∑ d, q d * scale * k d) = (∑ d, k d * q d) * scale := by
  rw [sum_mul_coe _ _ _ (by norm_num)]
  exact Finset.sum_congr rfl fun d _ => by rw [mul_right_comm, mul_comm (q d)]

section Point

variable (c : Dev nD) (t : Fin cfg0.N) (b : Fin 2) (n : Fin 64) (ht : t.val = 64 * b.val + n.val)

include ht

theorem qs_apply (g : Fin 4) (q x : Fin 128) (h : Fin 2) (d : Fin 64) (hx : x.val = 64 * h.val + d.val) :
    qs m c t g (ix2 q x) = qK m c b (pos n q) (head h g) d * scale := by
  have hg : g = 0 ∨ g = 1 ∨ g = 2 ∨ g = 3 := by omega
  rcases hg with rfl | rfl | rfl | rfl
  · exact (ldq_apply _ 0 (by omega) _ q x).trans (blk1 m c t b n ht q h 0 d _ (by simp; omega))
  · exact (ldq_apply _ 128 (by omega) _ q x).trans (blk1 m c t b n ht q h 1 d _ (by simp; omega))
  · exact (ldq_apply _ 256 (by omega) _ q x).trans (blk1 m c t b n ht q h 2 d _ (by simp; omega))
  · exact (ldq_apply _ 384 (by omega) _ q x).trans (blk1 m c t b n ht q h 3 d _ (by simp; omega))

theorem kcat_local (q : Fin 128) (j : Fin 384) (hv : valid n q j) (h : Fin 2) (d : Fin 64) (C : Fin 128) (hC : C.val = 64 * h.val + d.val) :
    kcat m c t (ix2 ⟨j.val, by omega⟩ C) = kK m c b (key n j) h d := by
  obtain ⟨_, _, v1, v2⟩ := hv
  refine (cat_local _ _ _ _ j C).trans ?_
  split_ifs with h1 h2
  · exact (blk2 m c t b n ht _ h d C hC).trans (congrArg (fun s => kK m c b s h d) (Fin.ext (by simp only [key]; omega)))
  · exact (blk3 m c t b n ht _ h d C hC).trans (congrArg (fun s => kK m c b s h d) (Fin.ext (by simp only [key]; omega)))
  · exact (blk4 m c t b n ht _ h d C hC).trans (congrArg (fun s => kK m c b s h d) (Fin.ext (by simp only [key]; omega)))

theorem vcat_local (q : Fin 128) (j : Fin 384) (hv : valid n q j) (h : Fin 2) (d : Fin 64) (C : Fin 128) (hC : C.val = 64 * h.val + d.val) :
    vcat m c t (ix2 ⟨j.val, by omega⟩ C) = vK m c b (key n j) h d := by
  obtain ⟨_, _, v1, v2⟩ := hv
  refine (cat_local _ _ _ _ j C).trans ?_
  split_ifs with h1 h2
  · exact (blk5 m c t b n ht _ h d C hC).trans (congrArg (fun s => vK m c b s h d) (Fin.ext (by simp only [key]; omega)))
  · exact (blk6 m c t b n ht _ h d C hC).trans (congrArg (fun s => vK m c b s h d) (Fin.ext (by simp only [key]; omega)))
  · exact (blk7 m c t b n ht _ h d C hC).trans (congrArg (fun s => vK m c b s h d) (Fin.ext (by simp only [key]; omega)))

theorem kcat_ctx (l : Fin 256) (h : Fin 2) (d : Fin 64) (C : Fin 128) (hC : C.val = 64 * h.val + d.val) :
    kcat m c t (ix2 ⟨384 + l.val, by omega⟩ C) = kxK m c b l h d :=
  (cat_ctx _ _ _ _ l C).trans (blk8 m c t b n ht l h d C hC)

theorem vcat_ctx (l : Fin 256) (h : Fin 2) (d : Fin 64) (C : Fin 128) (hC : C.val = 64 * h.val + d.val) :
    vcat m c t (ix2 ⟨384 + l.val, by omega⟩ C) = vxK m c b l h d :=
  (cat_ctx _ _ _ _ l C).trans (blk9 m c t b n ht l h d C hC)

/-- A local score of the point, masked. -/
theorem score_local (g : Fin 4) (q : Fin 128) (R : Fin 512) (hR : R.val = 128 * g.val + q.val) (j : Fin 384) (h : Fin 2)
    (lane : Fin 64 → Fin 128) (hl : ∀ d, (lane d).val = 64 * h.val + d.val) :
    (∑ d, qs m c t g (ix2 q (lane d)) * kcat m c t (ix2 ⟨j.val, by omega⟩ (lane d)) : EReal) + k0_pay9 (F := Ideal) (iblk m c 10 t) (ix2 R j)
      = score (qK m c) (kK m c) (kxK m c) b n q h g (.inl j) := by
  have e : @Eq EReal (k0_pay9 (F := Ideal) (iblk m c 10 t) (ix2 R j)) (if valid n q j then 0 else ⊥) := by
    refine Eq.trans ?_ (blk10 m c t b n ht g q j R hR)
    unfold k0_pay9
    pointwise
  rw [e]
  unfold score
  dsimp only
  by_cases hv : valid n q j
  · rw [if_pos hv, if_pos hv, add_zero, ← scaled]
    exact Finset.sum_congr rfl fun d _ => congrArg₂ (fun x y : EReal => x * y) (qs_apply m c t b n ht g q _ h d (hl d)) (kcat_local m c t b n ht q j hv h d _ (hl d))
  · rw [if_neg hv, if_neg hv, EReal.add_bot]

/-- A score of the point with the context. -/
theorem score_ctx (g : Fin 4) (q : Fin 128) (l : Fin 256) (h : Fin 2)
    (lane : Fin 64 → Fin 128) (hl : ∀ d, (lane d).val = 64 * h.val + d.val) :
    (∑ d, qs m c t g (ix2 q (lane d)) * kcat m c t (ix2 ⟨384 + l.val, by omega⟩ (lane d)) : EReal)
      = score (qK m c) (kK m c) (kxK m c) b n q h g (.inr l) := by
  unfold score
  dsimp only
  rw [← scaled]
  exact Finset.sum_congr rfl fun d _ => congrArg₂ (fun x y : EReal => x * y) (qs_apply m c t b n ht g q _ h d (hl d)) (kcat_ctx m c t b n ht l h d _ (hl d))

/-- The values of the point, where the scores count. -/
theorem vals (g : Fin 4) (q : Fin 128) (h : Fin 2) (d : Fin 64) (C : Fin 128) (hC : C.val = 64 * h.val + d.val) (s : ℝ) :
    mean (Sum.elim (fun j : Fin 384 => vcat m c t (ix2 ⟨j.val, by omega⟩ C)) (fun l : Fin 256 => vcat m c t (ix2 ⟨384 + l.val, by omega⟩ C)))
        (score (qK m c) (kK m c) (kxK m c) b n q h g) s
      = mean (value (vK m c) (vxK m c) b n h d) (score (qK m c) (kK m c) (kxK m c) b n q h g) s := by
  refine mean_congr _ _ _ s fun k hk => ?_
  rcases k with j | l
  · have hv : valid n q j := by
      by_contra hv
      exact hk (if_neg hv)
    exact vcat_local m c t b n ht q j hv h d C hC
  · exact vcat_ctx m c t b n ht l h d C hC

variable (hX : ∀ b n q h g k, score (qK m c) (kK m c) (kxK m c) b n q h g k ≠ ⊤) (hS : ∀ u, sK m c u = ((sK m c u).toReal : EReal))
  (s0 s1 s2 s3 : EReal)

include hX hS

theorem low (hs0 : s0 = sK m c 0) (hs1 : s1 = sK m c 1) (hs2 : s2 = sK m c 2) (hs3 : s3 = sK m c 3)
    (g : Fin 4) (q : Fin 128) (R : Fin 512) (hR : R.val = 128 * g.val + q.val) (d : Fin 64) (C : Fin 128) (hC : C.val = d.val) :
    k0_pay21 (F := Ideal) (k0_pay19 (kcat m c t) k0_pay8 (k0_pay9 (iblk m c 10 t)) (k0_pay10 (qs m c t 0)) (k0_pay11 (qs m c t 1)) (qs m c t 2) (qs m c t 3) s0 s1 s2 s3)
      (k0_pay20 (kcat m c t) (vcat m c t) k0_pay8 (k0_pay9 (iblk m c 10 t)) (k0_pay10 (qs m c t 0)) (k0_pay11 (qs m c t 1)) (qs m c t 2) (qs m c t 3) s0 s1 s2 s3) (ix2 R C)
      = attn (qK m c) (kK m c) (vK m c) (kxK m c) (vxK m c) (sK m c) b n q 0 g d := by
  refine (half_low (vcat m c t) (kcat m c t) k0_pay8 (k0_pay9 (iblk m c 10 t)) _ _ _ _ s0 s1 s2 s3
    (Sum.elim (fun j : Fin 384 => vcat m c t (ix2 ⟨j.val, by omega⟩ C)) (fun l : Fin 256 => vcat m c t (ix2 ⟨384 + l.val, by omega⟩ C)))
    (score (qK m c) (kK m c) (kxK m c) b n q 0 g) (sK m c (head 0 g)).toReal R C ?_ ?_ ?_ (hX b n q 0 g) (fun _ => rfl) (fun _ => rfl)).trans
    (vals m c t b n ht g q 0 d C (by simp; omega) _)
  · intro j
    refine (local_low _ _ _ _ _ _ _ R j).trans (Eq.trans ?_ (score_local m c t b n ht g q R hR j 0 (fun d => ⟨d.val, by omega⟩) (fun d => by simp)))
    exact congrArg (fun x : EReal => x + k0_pay9 (F := Ideal) (iblk m c 10 t) (ix2 R j)) (dots_low (qs m c t) (kcat m c t) g q R _ hR)
  · intro l
    refine (ctx_low _ _ _ _ _ _ R l).trans (Eq.trans ?_ (score_ctx m c t b n ht g q l 0 (fun d => ⟨d.val, by omega⟩) (fun d => by simp)))
    exact dots_low (qs m c t) (kcat m c t) g q R _ hR
  · subst hs0 hs1 hs2 hs3
    rw [← hS]
    exact sinks (fun g => sK m c (head 0 g)) g q R hR

theorem high (hs0 : s0 = sK m c 4) (hs1 : s1 = sK m c 5) (hs2 : s2 = sK m c 6) (hs3 : s3 = sK m c 7)
    (g : Fin 4) (q : Fin 128) (R : Fin 512) (hR : R.val = 128 * g.val + q.val) (d : Fin 64) (C : Fin 128) (hC : C.val = 64 + d.val) :
    k0_pay1 (F := Ideal) (vcat m c t) (k0_pay23 (kcat m c t) k0_pay8 (k0_pay9 (iblk m c 10 t)) (qs m c t 0) (qs m c t 1) (qs m c t 2) (qs m c t 3))
      (k0_pay24 (kcat m c t) k0_pay8 (qs m c t 0) (qs m c t 1) (qs m c t 2) (qs m c t 3)) (k0_pay25 s0 s1 s2 s3)
      (k0_pay26 (kcat m c t) k0_pay8 (k0_pay9 (iblk m c 10 t)) (qs m c t 0) (qs m c t 1) (qs m c t 2) (qs m c t 3) s0 s1 s2 s3)
      (k0_pay27 (kcat m c t) k0_pay8 (k0_pay9 (iblk m c 10 t)) (qs m c t 0) (qs m c t 1) (qs m c t 2) (qs m c t 3) s0 s1 s2 s3) (ix2 R C)
      = attn (qK m c) (kK m c) (vK m c) (kxK m c) (vxK m c) (sK m c) b n q 1 g d := by
  refine (half_high (vcat m c t) (kcat m c t) k0_pay8 (k0_pay9 (iblk m c 10 t)) _ _ _ _ s0 s1 s2 s3
    (Sum.elim (fun j : Fin 384 => vcat m c t (ix2 ⟨j.val, by omega⟩ C)) (fun l : Fin 256 => vcat m c t (ix2 ⟨384 + l.val, by omega⟩ C)))
    (score (qK m c) (kK m c) (kxK m c) b n q 1 g) (sK m c (head 1 g)).toReal R C ?_ ?_ ?_ (hX b n q 1 g) (fun _ => rfl) (fun _ => rfl)).trans
    (vals m c t b n ht g q 1 d C (by simp; omega) _)
  · intro j
    refine (local_high _ _ _ _ _ _ _ R j).trans (Eq.trans ?_ (score_local m c t b n ht g q R hR j 1 (fun d => ⟨64 + d.val, by omega⟩) (fun d => by simp)))
    exact congrArg (fun x : EReal => x + k0_pay9 (F := Ideal) (iblk m c 10 t) (ix2 R j)) (dots_high (qs m c t) (kcat m c t) g q R _ hR)
  · intro l
    refine (ctx_high _ _ _ _ _ _ R l).trans (Eq.trans ?_ (score_ctx m c t b n ht g q l 1 (fun d => ⟨64 + d.val, by omega⟩) (fun d => by simp)))
    exact dots_high (qs m c t) (kcat m c t) g q R _ hR
  · subst hs0 hs1 hs2 hs3
    rw [← hS]
    exact sinks (fun g => sK m c (head 1 g)) g q R hR

end Point

end Attn

end
-- ==== Proof.Attn.Arr.lean ====
/-
  The block a grid point stores and the array the call leaves.
-/
module

public import proofs.«01_k».proof.Proof.Attn.Outs
public import Idealize.ShloMosaic.Lib.Pipeline.ValueKit

@[expose] public section

set_option maxRecDepth 16384

noncomputable section

open Idealize.ShloMosaic Idealize.ShloMosaic.TcCoe Idealize.SL.Sem
open Cert.Kernel6Ideal Cert.Kernel6Ideal.Gen

namespace Attn

/-- A lane lies in the first key head's half. -/
theorem lane_word : ∀ x : Fin 128, IntOp.cmpi .slt (BitVec.ofNat 32 x.val) 64#32 = if x.val < 64 then 1#1 else 0#1 := by decide +kernel

theorem lanes_pick (x : Fin 128) (a b z : EReal) (hl : x.val < 64 → a = z) (hh : ¬ x.val < 64 → b = z) :
    Scalar.select (IntOp.cmpi .slt (BitVec.ofNat 32 x.val) 64#32) a b = z := by
  rw [lane_word]
  split_ifs with h
  · exact hl h
  · exact hh h

section Pays

variable (V : S640x128.Idx → EReal) (A : S512x128.Idx → EReal) (x1 : S512x384.Idx → EReal) (x2 : S512x256.Idx → EReal) (s t : S512x1.Idx → EReal)
  (T : S512x384.Idx → EReal) (q x : Fin 128) (z : EReal)

theorem pay2_apply (hl : x.val < 64 → A (ix2 ⟨q.val, by omega⟩ x) = z) (hh : ¬ x.val < 64 → k0_pay1 (F := Ideal) V x1 x2 s t T (ix2 ⟨q.val, by omega⟩ x) = z) :
    k0_pay2 (F := Ideal) V k0_pay8 A x1 x2 s t T (ix2 q x) = z := by
  unfold k0_pay2 k0_pay8; pointwise; exact lanes_pick x _ _ z hl hh

theorem pay3_apply (hl : x.val < 64 → A (ix2 ⟨128 + q.val, by omega⟩ x) = z) (hh : ¬ x.val < 64 → k0_pay1 (F := Ideal) V x1 x2 s t T (ix2 ⟨128 + q.val, by omega⟩ x) = z) :
    k0_pay3 (F := Ideal) V k0_pay8 A x1 x2 s t T (ix2 q x) = z := by
  unfold k0_pay3 k0_pay8; pointwise; exact lanes_pick x _ _ z hl hh

theorem pay4_apply (hl : x.val < 64 → A (ix2 ⟨256 + q.val, by omega⟩ x) = z) (hh : ¬ x.val < 64 → k0_pay1 (F := Ideal) V x1 x2 s t T (ix2 ⟨256 + q.val, by omega⟩ x) = z) :
    k0_pay4 (F := Ideal) V k0_pay8 A x1 x2 s t T (ix2 q x) = z := by
  unfold k0_pay4 k0_pay8; pointwise; exact lanes_pick x _ _ z hl hh

theorem pay5_apply (hl : x.val < 64 → A (ix2 ⟨384 + q.val, by omega⟩ x) = z) (hh : ¬ x.val < 64 → k0_pay1 (F := Ideal) V x1 x2 s t T (ix2 ⟨384 + q.val, by omega⟩ x) = z) :
    k0_pay5 (F := Ideal) V k0_pay8 A x1 x2 s t T (ix2 q x) = z := by
  unfold k0_pay5 k0_pay8; pointwise; exact lanes_pick x _ _ z hl hh

end Pays

variable (m : (ℓ : Loc nD τ sig) → Buf (Elt Ideal) ℓ)

section Point

variable (c : Dev nD) (t : Fin cfg0.N) (b : Fin 2) (n : Fin 64) (ht : t.val = 64 * b.val + n.val)
  (hX : ∀ b n q h g k, score (qK m c) (kK m c) (kxK m c) b n q h g k ≠ ⊤) (hS : ∀ u, sK m c u = ((sK m c u).toReal : EReal))

/-- Sink `u`, as the point loads it. -/
theorem sink_apply (u : Fin 8) (h : ∀ a, (![u.val] : Fin 1 → ℕ) a + (![1] : Fin 1 → ℕ) a ≤ S8.size a) (i : (⟨1, ![1]⟩ : Shape).Idx) :
    View.ld (iblk m c 0 t) (Rect.unit ![u.val] ![1] h) i = sK m c u :=
  (lds_apply _ u h i).trans (blk0 m c t u)

include ht hX hS

/-- What the point stores, at an entry of a head. -/
theorem out_apply (q : Fin 128) (C : Fin 512) (g : Fin 4) (h : Fin 2) (d : Fin 64) (hC : C.val = 128 * g.val + 64 * h.val + d.val) :
    outsAt0 m c t (ix2 q C) = attn (qK m c) (kK m c) (vK m c) (kxK m c) (vxK m c) (sK m c) b n q h g d := by
  unfold outsAt0
  frame_out
  canon_tiles y w
  · idx_vars y
    obtain rfl : y0 = q := Fin.ext w0.symm
    obtain rfl : g = 3 := Fin.ext (by show g.val = 3; omega)
    refine pay5_apply _ _ _ _ _ _ _ _ _ _ (fun hx => ?_) (fun hx => ?_)
    · obtain rfl : h = 0 := Fin.ext (by show h.val = 0; simp at w1 hC; omega)
      exact low m c t b n ht hX hS _ _ _ _ (sink_apply m c t 0 _ _) (sink_apply m c t 1 _ _) (sink_apply m c t 2 _ _) (sink_apply m c t 3 _ _) 3 _ _ rfl d _ (by simp at w1 hC; omega)
    · obtain rfl : h = 1 := Fin.ext (by show h.val = 1; simp at w1 hC; omega)
      exact high m c t b n ht hX hS _ _ _ _ (sink_apply m c t 4 _ _) (sink_apply m c t 5 _ _) (sink_apply m c t 6 _ _) (sink_apply m c t 7 _ _) 3 _ _ rfl d _ (by simp at w1 hC; omega)
  · idx_vars y
    obtain rfl : y0 = q := Fin.ext w0.symm
    obtain rfl : g = 2 := Fin.ext (by show g.val = 2; omega)
    refine pay4_apply _ _ _ _ _ _ _ _ _ _ (fun hx => ?_) (fun hx => ?_)
    · obtain rfl : h = 0 := Fin.ext (by show h.val = 0; simp at w1 hC; omega)
      exact low m c t b n ht hX hS _ _ _ _ (sink_apply m c t 0 _ _) (sink_apply m c t 1 _ _) (sink_apply m c t 2 _ _) (sink_apply m c t 3 _ _) 2 _ _ (by simp) d _ (by simp at w1 hC; omega)
    · obtain rfl : h = 1 := Fin.ext (by show h.val = 1; simp at w1 hC; omega)
      exact high m c t b n ht hX hS _ _ _ _ (sink_apply m c t 4 _ _) (sink_apply m c t 5 _ _) (sink_apply m c t 6 _ _) (sink_apply m c t 7 _ _) 2 _ _ (by simp) d _ (by simp at w1 hC; omega)
  · idx_vars y
    obtain rfl : y0 = q := Fin.ext w0.symm
    obtain rfl : g = 1 := Fin.ext (by show g.val = 1; omega)
    refine pay3_apply _ _ _ _ _ _ _ _ _ _ (fun hx => ?_) (fun hx => ?_)
    · obtain rfl : h = 0 := Fin.ext (by show h.val = 0; simp at w1 hC; omega)
      exact low m c t b n ht hX hS _ _ _ _ (sink_apply m c t 0 _ _) (sink_apply m c t 1 _ _) (sink_apply m c t 2 _ _) (sink_apply m c t 3 _ _) 1 _ _ (by simp) d _ (by simp at w1 hC; omega)
    · obtain rfl : h = 1 := Fin.ext (by show h.val = 1; simp at w1 hC; omega)
      exact high m c t b n ht hX hS _ _ _ _ (sink_apply m c t 4 _ _) (sink_apply m c t 5 _ _) (sink_apply m c t 6 _ _) (sink_apply m c t 7 _ _) 1 _ _ (by simp) d _ (by simp at w1 hC; omega)
  · idx_vars y
    obtain rfl : y0 = q := Fin.ext w0.symm
    obtain rfl : g = 0 := Fin.ext (by show g.val = 0; omega)
    refine pay2_apply _ _ _ _ _ _ _ _ _ _ (fun hx => ?_) (fun hx => ?_)
    · obtain rfl : h = 0 := Fin.ext (by show h.val = 0; simp at w1 hC; omega)
      exact low m c t b n ht hX hS _ _ _ _ (sink_apply m c t 0 _ _) (sink_apply m c t 1 _ _) (sink_apply m c t 2 _ _) (sink_apply m c t 3 _ _) 0 _ _ (by simp) d _ (by simp at w1 hC; omega)
    · obtain rfl : h = 1 := Fin.ext (by show h.val = 1; simp at w1 hC; omega)
      exact high m c t b n ht hX hS _ _ _ _ (sink_apply m c t 4 _ _) (sink_apply m c t 5 _ _) (sink_apply m c t 6 _ _) (sink_apply m c t 7 _ _) 0 _ _ (by simp) d _ (by simp at w1 hC; omega)

end Point

/-- The attention at a row and a column of the call's result: a row is a position of a batch entry, a column an entry of a
    head, the heads that share a key head apart. -/
def whole (c : Dev nD) (R : Fin 16384) (C : Fin 512) : EReal :=
  attn (qK m c) (kK m c) (vK m c) (kxK m c) (vxK m c) (sK m c) ⟨R.val / 8192, by omega⟩ ⟨R.val / 128 % 64, by omega⟩ ⟨R.val % 128, by omega⟩
    ⟨C.val / 64 % 2, by omega⟩ ⟨C.val / 128, by omega⟩ ⟨C.val % 64, by omega⟩

theorem whole_of (c : Dev nD) (b : Fin 2) (n : Fin 64) (q : Fin 128) (h : Fin 2) (g : Fin 4) (d : Fin 64) (R : Fin 16384) (C : Fin 512)
    (hR : R.val = 8192 * b.val + 128 * n.val + q.val) (hC : C.val = 128 * g.val + 64 * h.val + d.val) :
    attn (qK m c) (kK m c) (vK m c) (kxK m c) (vxK m c) (sK m c) b n q h g d = whole m c R C := by
  have e1 : (⟨R.val / 8192, by omega⟩ : Fin 2) = b := Fin.ext (by show R.val / 8192 = b.val; omega)
  have e2 : (⟨R.val / 128 % 64, by omega⟩ : Fin 64) = n := Fin.ext (by show R.val / 128 % 64 = n.val; omega)
  have e3 : (⟨R.val % 128, by omega⟩ : Fin 128) = q := Fin.ext (by show R.val % 128 = q.val; omega)
  have e4 : (⟨C.val / 64 % 2, by omega⟩ : Fin 2) = h := Fin.ext (by show C.val / 64 % 2 = h.val; omega)
  have e5 : (⟨C.val / 128, by omega⟩ : Fin 4) = g := Fin.ext (by show C.val / 128 = g.val; omega)
  have e6 : (⟨C.val % 64, by omega⟩ : Fin 64) = d := Fin.ext (by show C.val % 64 = d.val; omega)
  unfold whole
  rw [e1, e2, e3, e4, e5, e6]

/-- The array the call leaves. -/
theorem arr_out (c : Dev nD) (hX : ∀ b n q h g k, score (qK m c) (kK m c) (kxK m c) b n q h g k ≠ ⊤) (hS : ∀ u, sK m c u = ((sK m c u).toReal : EReal)) :
    (dats m 0 c).arrAt 11 cfg0.N = fun i => whole m c (i 0) (i 1) := by
  have hi : ∀ t : Fin cfg0.N, win0_11.index t = ![t.val, 0] := by decide +kernel
  refine (dats m 0 c).arrAt_eq_of_covers 11 _ (by decide +kernel) fun t hf y => ?_
  have ht : t.val < 128 := t.isLt
  blk_simp [hi]
  rw [after0_11]
  idx_vars y
  refine (out_apply m c t ⟨t.val / 64, by omega⟩ ⟨t.val % 64, by omega⟩ (by show t.val = 64 * (t.val / 64) + t.val % 64; omega) hX hS _ _
    ⟨y1.val / 128, by omega⟩ ⟨y1.val / 64 % 2, by omega⟩ ⟨y1.val % 64, by omega⟩ (by show y1.val = 128 * (y1.val / 128) + 64 * (y1.val / 64 % 2) + y1.val % 64; omega)).trans
    (whole_of m c _ _ _ _ _ _ _ _ ?_ ?_)
  · show _ = 8192 * (t.val / 64) + 128 * (t.val % 64) + y0.val
    blk_simp [hi]
    omega
  · show _ = 128 * (y1.val / 128) + 64 * (y1.val / 64 % 2) + y1.val % 64
    blk_simp [hi]
    omega

end Attn

end
-- ==== Proof.Attn.Pre.lean ====
/-
  The precondition read at an entry: the queries, the keys, the context's keys and the sinks are real numbers, and so
  no score is plus infinity.
-/
module

public import proofs.«01_k».proof.Defs
public import proofs.«01_k».proof.Proof.Attn.Points
public import Idealize.ShloMosaic.Lib.ReduceAll

@[expose] public section

set_option maxRecDepth 16384

noncomputable section

open Idealize.ShloMosaic Idealize.ShloMosaic.TcCoe Idealize.SL.Sem
open Cert.Kernel6Ideal Cert.Kernel6Ideal.Gen

namespace Attn

/-- The side conditions of the precondition's operations. -/
theorem preFacts : Cert.Pre_finite.Facts where
  bcast_S_S2x8192x8x64 := by decide
  reducesTo_S2x8192x8x64_S_d0_1_2_3 := by decide
  h_S_ := by decide
  bcast_S_S2x8192x2x64 := by decide
  reducesTo_S2x8192x2x64_S_d0_1_2_3 := by decide
  bcast_S_S2x256x2x64 := by decide
  reducesTo_S2x256x2x64_S_d0_1_2_3 := by decide
  bcast_S_S1x8 := by decide
  reducesTo_S1x8_S_d0_1 := by decide

/-- A number whose size is below infinity is real. -/
theorem real_of_lt (x : EReal) (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  constructor <;> rintro rfl <;> simp [Ideal.cmp] at h

theorem and_one {a b : BitVec 1} (h : IntOp.andi a b = 1#1) : a = 1#1 ∧ b = 1#1 := by
  revert a b; decide

variable (m : (ℓ : Loc nD τ sig) → Buf (Elt Ideal) ℓ)

/-- The precondition, entry by entry. -/
theorem pre_entries (hp : Cert.Pre_Kernel6Ideal_finite (hPre_finite := preFacts) m) (c : Dev nD) :
    (∀ b s u d, qK m c b s u d ≠ ⊤ ∧ qK m c b s u d ≠ ⊥) ∧ (∀ b s h d, kK m c b s h d ≠ ⊤ ∧ kK m c b s h d ≠ ⊥)
      ∧ (∀ b s h d, kxK m c b s h d ≠ ⊤ ∧ kxK m c b s h d ≠ ⊥) ∧ (∀ u, sK m c u ≠ ⊤ ∧ sK m c u ≠ ⊥) := by
  have h := congrFun (hp c) (Shape.Idx.first (by decide : 0 < Cert.Pre_finite.S_.numel))
  dsimp only [Cert.Pre_finite.fn, Cert.Pre_finite.fn_part1] at h
  obtain ⟨h, h4⟩ := and_one h
  obtain ⟨h, h3⟩ := and_one h
  obtain ⟨h1, h2⟩ := and_one h
  haveI : Subsingleton Cert.Pre_finite.S_.Idx := ⟨fun a b => funext fun k => k.elim0⟩
  exact ⟨fun b s u d => real_of_lt _ (Host.reduce_andi_all _ _ _ _ _ h1 (ix4 b s u d)), fun b s u d => real_of_lt _ (Host.reduce_andi_all _ _ _ _ _ h2 (ix4 b s u d)),
    fun b s u d => real_of_lt _ (Host.reduce_andi_all _ _ _ _ _ h3 (ix4 b s u d)), fun u => real_of_lt _ (Host.reduce_andi_all _ _ _ _ _ h4 (ix2 0 u))⟩

/-- A sum of products of real numbers is real. -/
theorem dot_real (k q : Fin 64 → EReal) (hk : ∀ d, k d ≠ ⊤ ∧ k d ≠ ⊥) (hq : ∀ d, q d ≠ ⊤ ∧ q d ≠ ⊥) :
    (∑ d, k d * q d) * scale ≠ ⊤ := by
  have e (d : Fin 64) : k d * q d = (((k d).toReal * (q d).toReal : ℝ) : EReal) := by
    rw [EReal.coe_mul, EReal.coe_toReal (hk d).1 (hk d).2, EReal.coe_toReal (hq d).1 (hq d).2]
  rw [Finset.sum_congr rfl (fun d _ => e d), ← coe_sum, ← EReal.coe_mul]
  exact EReal.coe_ne_top _

/-- No score is plus infinity. -/
theorem score_ne_top (hp : Cert.Pre_Kernel6Ideal_finite (hPre_finite := preFacts) m) (c : Dev nD) (b : Fin 2) (n : Fin 64) (q : Fin 128) (h : Fin 2) (g : Fin 4)
    (k : Fin 384 ⊕ Fin 256) : score (qK m c) (kK m c) (kxK m c) b n q h g k ≠ ⊤ := by
  obtain ⟨h1, h2, h3, _⟩ := pre_entries m hp c
  rcases k with j | l
  · unfold score
    dsimp only
    split_ifs
    · exact dot_real _ _ (fun d => h2 _ _ _ d) (fun d => h1 _ _ _ d)
    · exact bot_ne_top
  · exact dot_real _ _ (fun d => h3 _ _ _ d) (fun d => h1 _ _ _ d)

/-- The sinks are real. -/
theorem sink_real (hp : Cert.Pre_Kernel6Ideal_finite (hPre_finite := preFacts) m) (c : Dev nD) (u : Fin 8) : sK m c u = ((sK m c u).toReal : EReal) :=
  (EReal.coe_toReal ((pre_entries m hp c).2.2.2 u).1 ((pre_entries m hp c).2.2.2 u).2).symm

end Attn

end
-- ==== Proof.Attn.Vals.lean ====
/-
  The values of the reference's line, each by name, in the order of its operations.
-/
module

public import proofs.«01_k».proof.Proof.Gen.Reference6Ideal.Run
public import Idealize.ShloMosaic.Lib.Pipeline.Value

@[expose] public section

noncomputable section

namespace Attn

open Cert.Reference6Ideal Cert.Reference6Ideal.Gen Idealize.ShloMosaic Idealize.ShloMosaic.TcCoe Idealize.SL.Sem Idealize.ShloMosaic.StableHlo

variable {F : FTy → Type} [FloatOps F]

def val_main_v0 (x5 : (⟨S1x8, .f32⟩ : BufTy).Contents (Elt F)) : (⟨S8, .f32⟩ : BufTy).Contents (Elt F) :=
  shapeCast _ (x5) shapeCasts_S1x8_S8

def val_main_v1 (x0 : (⟨S2x8192x8x64, .f32⟩ : BufTy).Contents (Elt F)) : (⟨S2x64x128x2x4x64, .f32⟩ : BufTy).Contents (Elt F) :=
  shapeCast _ (x0) shapeCasts_S2x8192x8x64_S2x64x128x2x4x64

def val_main_c : (⟨S_, .i32⟩ : BufTy).Contents (Elt F) :=
  constantI S_ 32 0#32

def val_main_call0_v0 : (⟨S_, .f32⟩ : BufTy).Contents (Elt F) :=
  sitofp .f32 (val_main_c (F := F))

def val_main_v2 (x1 : (⟨S2x8192x2x64, .f32⟩ : BufTy).Contents (Elt F)) : (⟨S2x8448x2x64, .f32⟩ : BufTy).Contents (Elt F) :=
  pad S2x8448x2x64 ![0, 128, 0, 0] ![0, 128, 0, 0] ![0, 0, 0, 0] (x1) (val_main_call0_v0 (F := F)) pads_S2x8192x2x64_S2x8448x2x64_000_1281280_000_000 h_S_

def val_main_v3 (x1 : (⟨S2x8192x2x64, .f32⟩ : BufTy).Contents (Elt F)) : (⟨S2x66x128x2x64, .f32⟩ : BufTy).Contents (Elt F) :=
  shapeCast _ (val_main_v2 (F := F) x1) shapeCasts_S2x8448x2x64_S2x66x128x2x64

def val_main_v4 (x1 : (⟨S2x8192x2x64, .f32⟩ : BufTy).Contents (Elt F)) : (⟨S2x64x128x2x64, .f32⟩ : BufTy).Contents (Elt F) :=
  extractStridedSlice S2x64x128x2x64 ![0, 0, 0, 0, 0] (val_main_v3 (F := F) x1) slices_S2x66x128x2x64_S2x64x128x2x64_0_0_0_0_0

def val_main_v5 (x1 : (⟨S2x8192x2x64, .f32⟩ : BufTy).Contents (Elt F)) : (⟨S2x64x128x2x64, .f32⟩ : BufTy).Contents (Elt F) :=
  extractStridedSlice S2x64x128x2x64 ![0, 1, 0, 0, 0] (val_main_v3 (F := F) x1) slices_S2x66x128x2x64_S2x64x128x2x64_0_1_0_0_0

def val_main_v6 (x1 : (⟨S2x8192x2x64, .f32⟩ : BufTy).Contents (Elt F)) : (⟨S2x64x128x2x64, .f32⟩ : BufTy).Contents (Elt F) :=
  extractStridedSlice S2x64x128x2x64 ![0, 2, 0, 0, 0] (val_main_v3 (F := F) x1) slices_S2x66x128x2x64_S2x64x128x2x64_0_2_0_0_0

def val_main_v7 (x1 : (⟨S2x8192x2x64, .f32⟩ : BufTy).Contents (Elt F)) : (⟨S2x64x384x2x64, .f32⟩ : BufTy).Contents (Elt F) :=
  (concatenate S2x64x384x2x64 2 [⟨S2x64x128x2x64, ((val_main_v4 (F := F) x1) : (⟨S2x64x128x2x64, .f32⟩ : BufTy).Contents (Elt F))⟩, ⟨S2x64x128x2x64, ((val_main_v5 (F := F) x1) : (⟨S2x64x128x2x64, .f32⟩ : BufTy).Contents (Elt F))⟩, ⟨S2x64x128x2x64, ((val_main_v6 (F := F) x1) : (⟨S2x64x128x2x64, .f32⟩ : BufTy).Contents (Elt F))⟩] concatenates_S2x64x128x2x64_S2x64x128x2x64_S2x64x128x2x64_S2x64x384x2x64_d2 : (⟨S2x64x384x2x64, .f32⟩ : BufTy).Contents (Elt F))

def val_main_c_0 : (⟨S_, .i32⟩ : BufTy).Contents (Elt F) :=
  constantI S_ 32 0#32

def val_main_call1_v0 : (⟨S_, .f32⟩ : BufTy).Contents (Elt F) :=
  sitofp .f32 (val_main_c_0 (F := F))

def val_main_v8 (x2 : (⟨S2x8192x2x64, .f32⟩ : BufTy).Contents (Elt F)) : (⟨S2x8448x2x64, .f32⟩ : BufTy).Contents (Elt F) :=
  pad S2x8448x2x64 ![0, 128, 0, 0] ![0, 128, 0, 0] ![0, 0, 0, 0] (x2) (val_main_call1_v0 (F := F)) pads_S2x8192x2x64_S2x8448x2x64_000_1281280_000_000 h_S_

def val_main_v9 (x2 : (⟨S2x8192x2x64, .f32⟩ : BufTy).Contents (Elt F)) : (⟨S2x66x128x2x64, .f32⟩ : BufTy).Contents (Elt F) :=
  shapeCast _ (val_main_v8 (F := F) x2) shapeCasts_S2x8448x2x64_S2x66x128x2x64

def val_main_v10 (x2 : (⟨S2x8192x2x64, .f32⟩ : BufTy).Contents (Elt F)) : (⟨S2x64x128x2x64, .f32⟩ : BufTy).Contents (Elt F) :=
  extractStridedSlice S2x64x128x2x64 ![0, 0, 0, 0, 0] (val_main_v9 (F := F) x2) slices_S2x66x128x2x64_S2x64x128x2x64_0_0_0_0_0

def val_main_v11 (x2 : (⟨S2x8192x2x64, .f32⟩ : BufTy).Contents (Elt F)) : (⟨S2x64x128x2x64, .f32⟩ : BufTy).Contents (Elt F) :=
  extractStridedSlice S2x64x128x2x64 ![0, 1, 0, 0, 0] (val_main_v9 (F := F) x2) slices_S2x66x128x2x64_S2x64x128x2x64_0_1_0_0_0

def val_main_v12 (x2 : (⟨S2x8192x2x64, .f32⟩ : BufTy).Contents (Elt F)) : (⟨S2x64x128x2x64, .f32⟩ : BufTy).Contents (Elt F) :=
  extractStridedSlice S2x64x128x2x64 ![0, 2, 0, 0, 0] (val_main_v9 (F := F) x2) slices_S2x66x128x2x64_S2x64x128x2x64_0_2_0_0_0

def val_main_v13 (x2 : (⟨S2x8192x2x64, .f32⟩ : BufTy).Contents (Elt F)) : (⟨S2x64x384x2x64, .f32⟩ : BufTy).Contents (Elt F) :=
  (concatenate S2x64x384x2x64 2 [⟨S2x64x128x2x64, ((val_main_v10 (F := F) x2) : (⟨S2x64x128x2x64, .f32⟩ : BufTy).Contents (Elt F))⟩, ⟨S2x64x128x2x64, ((val_main_v11 (F := F) x2) : (⟨S2x64x128x2x64, .f32⟩ : BufTy).Contents (Elt F))⟩, ⟨S2x64x128x2x64, ((val_main_v12 (F := F) x2) : (⟨S2x64x128x2x64, .f32⟩ : BufTy).Contents (Elt F))⟩] concatenates_S2x64x128x2x64_S2x64x128x2x64_S2x64x128x2x64_S2x64x384x2x64_d2 : (⟨S2x64x384x2x64, .f32⟩ : BufTy).Contents (Elt F))

def val_main_v14 (x0 : (⟨S2x8192x8x64, .f32⟩ : BufTy).Contents (Elt F)) (x1 : (⟨S2x8192x2x64, .f32⟩ : BufTy).Contents (Elt F)) : (⟨S2x64x2x384x128x4, .f32⟩ : BufTy).Contents (Elt F) :=
  Host.dotGeneral dot_S2x64x384x2x64_S2x64x128x2x4x64_S2x64x2x384x128x4_4_5_2_24_013_013 none (val_main_v7 (F := F) x1) (val_main_v1 (F := F) x0)

def val_main_v15 (x0 : (⟨S2x8192x8x64, .f32⟩ : BufTy).Contents (Elt F)) (x1 : (⟨S2x8192x2x64, .f32⟩ : BufTy).Contents (Elt F)) : (⟨S2x64x2x4x128x384, .f32⟩ : BufTy).Contents (Elt F) :=
  transpose S2x64x2x4x128x384 [0, 1, 2, 5, 4, 3] (val_main_v14 (F := F) x0 x1) transposes_S2x64x2x384x128x4_S2x64x2x4x128x384_0_1_2_5_4_3

def val_main_cst : (⟨S_, .f32⟩ : BufTy).Contents (Elt F) :=
  constant S_ .f32 0x3E000000#32

def val_main_v16 : (⟨S2x64x2x4x128x384, .f32⟩ : BufTy).Contents (Elt F) :=
  broadcastInDim S2x64x2x4x128x384 ![] bcast_S_S2x64x2x4x128x384 (val_main_cst (F := F))

def val_main_v17 (x0 : (⟨S2x8192x8x64, .f32⟩ : BufTy).Contents (Elt F)) (x1 : (⟨S2x8192x2x64, .f32⟩ : BufTy).Contents (Elt F)) : (⟨S2x64x2x4x128x384, .f32⟩ : BufTy).Contents (Elt F) :=
  mulf (val_main_v15 (F := F) x0 x1) (val_main_v16 (F := F))

def val_main_v18 (x0 : (⟨S2x8192x8x64, .f32⟩ : BufTy).Contents (Elt F)) (x3 : (⟨S2x256x2x64, .f32⟩ : BufTy).Contents (Elt F)) : (⟨S2x2x256x64x128x4, .f32⟩ : BufTy).Contents (Elt F) :=
  Host.dotGeneral dot_S2x256x2x64_S2x64x128x2x4x64_S2x2x256x64x128x4_3_5_1_124_02_03 none (x3) (val_main_v1 (F := F) x0)

def val_main_v19 (x0 : (⟨S2x8192x8x64, .f32⟩ : BufTy).Contents (Elt F)) (x3 : (⟨S2x256x2x64, .f32⟩ : BufTy).Contents (Elt F)) : (⟨S2x64x2x4x128x256, .f32⟩ : BufTy).Contents (Elt F) :=
  transpose S2x64x2x4x128x256 [0, 3, 1, 5, 4, 2] (val_main_v18 (F := F) x0 x3) transposes_S2x2x256x64x128x4_S2x64x2x4x128x256_0_3_1_5_4_2

def val_main_cst_1 : (⟨S_, .f32⟩ : BufTy).Contents (Elt F) :=
  constant S_ .f32 0x3E000000#32

def val_main_v20 : (⟨S2x64x2x4x128x256, .f32⟩ : BufTy).Contents (Elt F) :=
  broadcastInDim S2x64x2x4x128x256 ![] bcast_S_S2x64x2x4x128x256 (val_main_cst_1 (F := F))

def val_main_v21 (x0 : (⟨S2x8192x8x64, .f32⟩ : BufTy).Contents (Elt F)) (x3 : (⟨S2x256x2x64, .f32⟩ : BufTy).Contents (Elt F)) : (⟨S2x64x2x4x128x256, .f32⟩ : BufTy).Contents (Elt F) :=
  mulf (val_main_v19 (F := F) x0 x3) (val_main_v20 (F := F))

def val_main_v22 : (⟨S128, .i32⟩ : BufTy).Contents (Elt F) :=
  iotaInDim S128 32 0

def val_main_v23 : (⟨S128x1, .i32⟩ : BufTy).Contents (Elt F) :=
  broadcastInDim S128x1 ![0] bcast_S128_S128x1_0 (val_main_v22 (F := F))

def val_main_v24 : (⟨S384, .i32⟩ : BufTy).Contents (Elt F) :=
  iotaInDim S384 32 0

def val_main_v25 : (⟨S1x384, .i32⟩ : BufTy).Contents (Elt F) :=
  broadcastInDim S1x384 ![1] bcast_S384_S1x384_1 (val_main_v24 (F := F))

def val_main_c_2 : (⟨S_, .i32⟩ : BufTy).Contents (Elt F) :=
  constantI S_ 32 128#32

def val_main_v26 : (⟨S1x384, .i32⟩ : BufTy).Contents (Elt F) :=
  broadcastInDim S1x384 ![] bcast_S_S1x384 (val_main_c_2 (F := F))

def val_main_v27 : (⟨S1x384, .i32⟩ : BufTy).Contents (Elt F) :=
  subi (val_main_v25 (F := F)) (val_main_v26 (F := F))

def val_main_v28 : (⟨S128x384, .i32⟩ : BufTy).Contents (Elt F) :=
  broadcastInDim S128x384 ![0, 1] bcast_S1x384_S128x384_0_1 (val_main_v27 (F := F))

def val_main_v29 : (⟨S128x384, .i32⟩ : BufTy).Contents (Elt F) :=
  broadcastInDim S128x384 ![0, 1] bcast_S128x1_S128x384_0_1 (val_main_v23 (F := F))

def val_main_v30 : (⟨S128x384, .i32⟩ : BufTy).Contents (Elt F) :=
  subi (val_main_v28 (F := F)) (val_main_v29 (F := F))

def val_main_v31 : (⟨S64, .i32⟩ : BufTy).Contents (Elt F) :=
  iotaInDim S64 32 0

def val_main_v32 : (⟨S64x1x1, .i32⟩ : BufTy).Contents (Elt F) :=
  broadcastInDim S64x1x1 ![0] bcast_S64_S64x1x1_0 (val_main_v31 (F := F))

def val_main_c_3 : (⟨S_, .i32⟩ : BufTy).Contents (Elt F) :=
  constantI S_ 32 128#32

def val_main_v33 : (⟨S64x1x1, .i32⟩ : BufTy).Contents (Elt F) :=
  broadcastInDim S64x1x1 ![] bcast_S_S64x1x1 (val_main_c_3 (F := F))

def val_main_v34 : (⟨S64x1x1, .i32⟩ : BufTy).Contents (Elt F) :=
  muli (val_main_v32 (F := F)) (val_main_v33 (F := F))

def val_main_v35 : (⟨S1x1x384, .i32⟩ : BufTy).Contents (Elt F) :=
  broadcastInDim S1x1x384 ![1, 2] bcast_S1x384_S1x1x384_1_2 (val_main_v25 (F := F))

def val_main_v36 : (⟨S64x1x384, .i32⟩ : BufTy).Contents (Elt F) :=
  broadcastInDim S64x1x384 ![0, 1, 2] bcast_S64x1x1_S64x1x384_0_1_2 (val_main_v34 (F := F))

def val_main_v37 : (⟨S64x1x384, .i32⟩ : BufTy).Contents (Elt F) :=
  broadcastInDim S64x1x384 ![0, 1, 2] bcast_S1x1x384_S64x1x384_0_1_2 (val_main_v35 (F := F))

def val_main_v38 : (⟨S64x1x384, .i32⟩ : BufTy).Contents (Elt F) :=
  addi (val_main_v36 (F := F)) (val_main_v37 (F := F))

def val_main_c_4 : (⟨S_, .i32⟩ : BufTy).Contents (Elt F) :=
  constantI S_ 32 128#32

def val_main_v39 : (⟨S64x1x384, .i32⟩ : BufTy).Contents (Elt F) :=
  broadcastInDim S64x1x384 ![] bcast_S_S64x1x384 (val_main_c_4 (F := F))

def val_main_v40 : (⟨S64x1x384, .i32⟩ : BufTy).Contents (Elt F) :=
  subi (val_main_v38 (F := F)) (val_main_v39 (F := F))

def val_main_v41 : (⟨S128x384, .i32⟩ : BufTy).Contents (Elt F) :=
  absi (val_main_v30 (F := F))

def val_main_c_5 : (⟨S_, .i32⟩ : BufTy).Contents (Elt F) :=
  constantI S_ 32 128#32

def val_main_v42 : (⟨S128x384, .i32⟩ : BufTy).Contents (Elt F) :=
  broadcastInDim S128x384 ![] bcast_S_S128x384 (val_main_c_5 (F := F))

def val_main_v43 : (⟨S128x384, .i1⟩ : BufTy).Contents (Elt F) :=
  cmpi .sle (val_main_v41 (F := F)) (val_main_v42 (F := F))

def val_main_v44 : (⟨S1x128x384, .i1⟩ : BufTy).Contents (Elt F) :=
  broadcastInDim S1x128x384 ![1, 2] bcast_S128x384_S1x128x384_1_2 (val_main_v43 (F := F))

def val_main_c_6 : (⟨S_, .i32⟩ : BufTy).Contents (Elt F) :=
  constantI S_ 32 0#32

def val_main_v45 : (⟨S64x1x384, .i32⟩ : BufTy).Contents (Elt F) :=
  broadcastInDim S64x1x384 ![] bcast_S_S64x1x384 (val_main_c_6 (F := F))

def val_main_v46 : (⟨S64x1x384, .i1⟩ : BufTy).Contents (Elt F) :=
  cmpi .sge (val_main_v40 (F := F)) (val_main_v45 (F := F))

def val_main_v47 : (⟨S64x128x384, .i1⟩ : BufTy).Contents (Elt F) :=
  broadcastInDim S64x128x384 ![0, 1, 2] bcast_S1x128x384_S64x128x384_0_1_2 (val_main_v44 (F := F))

def val_main_v48 : (⟨S64x128x384, .i1⟩ : BufTy).Contents (Elt F) :=
  broadcastInDim S64x128x384 ![0, 1, 2] bcast_S64x1x384_S64x128x384_0_1_2 (val_main_v46 (F := F))

def val_main_v49 : (⟨S64x128x384, .i1⟩ : BufTy).Contents (Elt F) :=
  andi (val_main_v47 (F := F)) (val_main_v48 (F := F))

def val_main_c_7 : (⟨S_, .i32⟩ : BufTy).Contents (Elt F) :=
  constantI S_ 32 8192#32

def val_main_v50 : (⟨S64x1x384, .i32⟩ : BufTy).Contents (Elt F) :=
  broadcastInDim S64x1x384 ![] bcast_S_S64x1x384 (val_main_c_7 (F := F))

def val_main_v51 : (⟨S64x1x384, .i1⟩ : BufTy).Contents (Elt F) :=
  cmpi .slt (val_main_v40 (F := F)) (val_main_v50 (F := F))

def val_main_v52 : (⟨S64x128x384, .i1⟩ : BufTy).Contents (Elt F) :=
  broadcastInDim S64x128x384 ![0, 1, 2] bcast_S64x1x384_S64x128x384_0_1_2 (val_main_v51 (F := F))

def val_main_v53 : (⟨S64x128x384, .i1⟩ : BufTy).Contents (Elt F) :=
  andi (val_main_v49 (F := F)) (val_main_v52 (F := F))

def val_main_v54 : (⟨S1x64x1x1x128x384, .i1⟩ : BufTy).Contents (Elt F) :=
  broadcastInDim S1x64x1x1x128x384 ![1, 4, 5] bcast_S64x128x384_S1x64x1x1x128x384_1_4_5 (val_main_v53 (F := F))

def val_main_cst_8 : (⟨S_, .f32⟩ : BufTy).Contents (Elt F) :=
  constant S_ .f32 0xFF800000#32

def val_main_call2_v0 : (⟨S_, .f32⟩ : BufTy).Contents (Elt F) :=
  id (val_main_cst_8 (F := F))

def val_main_call2_v1 : (⟨S2x64x2x4x128x384, .i1⟩ : BufTy).Contents (Elt F) :=
  broadcastInDim S2x64x2x4x128x384 ![0, 1, 2, 3, 4, 5] bcast_S1x64x1x1x128x384_S2x64x2x4x128x384_0_1_2_3_4_5 (val_main_v54 (F := F))

def val_main_call2_v2 : (⟨S2x64x2x4x128x384, .f32⟩ : BufTy).Contents (Elt F) :=
  broadcastInDim S2x64x2x4x128x384 ![] bcast_S_S2x64x2x4x128x384 (val_main_call2_v0 (F := F))

def val_main_v55 (x0 : (⟨S2x8192x8x64, .f32⟩ : BufTy).Contents (Elt F)) (x1 : (⟨S2x8192x2x64, .f32⟩ : BufTy).Contents (Elt F)) : (⟨S2x64x2x4x128x384, .f32⟩ : BufTy).Contents (Elt F) :=
  select (val_main_call2_v1 (F := F)) (val_main_v17 (F := F) x0 x1) (val_main_call2_v2 (F := F))

def val_main_v56 (x5 : (⟨S1x8, .f32⟩ : BufTy).Contents (Elt F)) : (⟨S1x1x2x4x1x1, .f32⟩ : BufTy).Contents (Elt F) :=
  shapeCast _ (val_main_v0 (F := F) x5) shapeCasts_S8_S1x1x2x4x1x1

def val_main_v57 (x5 : (⟨S1x8, .f32⟩ : BufTy).Contents (Elt F)) : (⟨S2x64x2x4x128x1, .f32⟩ : BufTy).Contents (Elt F) :=
  broadcastInDim S2x64x2x4x128x1 ![0, 1, 2, 3, 4, 5] bcast_S1x1x2x4x1x1_S2x64x2x4x128x1_0_1_2_3_4_5 (val_main_v56 (F := F) x5)

def val_main_v58 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x641, .f32⟩ : BufTy).Contents (Elt F) :=
  (concatenate S2x64x2x4x128x641 5 [⟨S2x64x2x4x128x384, ((val_main_v55 (F := F) x0 x1) : (⟨S2x64x2x4x128x384, .f32⟩ : BufTy).Contents (Elt F))⟩, ⟨S2x64x2x4x128x256, ((val_main_v21 (F := F) x0 x3) : (⟨S2x64x2x4x128x256, .f32⟩ : BufTy).Contents (Elt F))⟩, ⟨S2x64x2x4x128x1, ((val_main_v57 (F := F) x5) : (⟨S2x64x2x4x128x1, .f32⟩ : BufTy).Contents (Elt F))⟩] concatenates_S2x64x2x4x128x384_S2x64x2x4x128x256_S2x64x2x4x128x1_S2x64x2x4x128x641_d5 : (⟨S2x64x2x4x128x641, .f32⟩ : BufTy).Contents (Elt F))

def val_main_cst_9 : (⟨S_, .f32⟩ : BufTy).Contents (Elt F) :=
  constant S_ .f32 0xFF800000#32

def val_main_v59 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128, .f32⟩ : BufTy).Contents (Elt F) :=
  Host.reduce FloatOps.maximumf (val_main_v58 (F := F) x0 x1 x3 x5) (val_main_cst_9 (F := F)) reducesTo_S2x64x2x4x128x641_S2x64x2x4x128_d5 h_S_

def val_main_cst_10 : (⟨S_, .f32⟩ : BufTy).Contents (Elt F) :=
  constant S_ .f32 0xFF800000#32

def val_main_v60 : (⟨S2x64x2x4x128, .f32⟩ : BufTy).Contents (Elt F) :=
  broadcastInDim S2x64x2x4x128 ![] bcast_S_S2x64x2x4x128 (val_main_cst_10 (F := F))

def val_main_v61 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128, .f32⟩ : BufTy).Contents (Elt F) :=
  maximumf (val_main_v60 (F := F)) (val_main_v59 (F := F) x0 x1 x3 x5)

def val_main_v62 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x1, .f32⟩ : BufTy).Contents (Elt F) :=
  broadcastInDim S2x64x2x4x128x1 ![0, 1, 2, 3, 4] bcast_S2x64x2x4x128_S2x64x2x4x128x1_0_1_2_3_4 (val_main_v61 (F := F) x0 x1 x3 x5)

def val_main_v63 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x641, .f32⟩ : BufTy).Contents (Elt F) :=
  broadcastInDim S2x64x2x4x128x641 ![0, 1, 2, 3, 4, 5] bcast_S2x64x2x4x128x1_S2x64x2x4x128x641_0_1_2_3_4_5 (val_main_v62 (F := F) x0 x1 x3 x5)

def val_main_v64 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x641, .f32⟩ : BufTy).Contents (Elt F) :=
  subf (val_main_v58 (F := F) x0 x1 x3 x5) (val_main_v63 (F := F) x0 x1 x3 x5)

def val_main_v65 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x641, .f32⟩ : BufTy).Contents (Elt F) :=
  Host.exp (val_main_v64 (F := F) x0 x1 x3 x5)

def val_main_cst_11 : (⟨S_, .f32⟩ : BufTy).Contents (Elt F) :=
  constant S_ .f32 0x00000000#32

def val_main_v66 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128, .f32⟩ : BufTy).Contents (Elt F) :=
  Host.reduceAdd (val_main_v65 (F := F) x0 x1 x3 x5) (val_main_cst_11 (F := F)) reducesTo_S2x64x2x4x128x641_S2x64x2x4x128_d5 h_S_

def val_main_v67 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x1, .f32⟩ : BufTy).Contents (Elt F) :=
  broadcastInDim S2x64x2x4x128x1 ![0, 1, 2, 3, 4] bcast_S2x64x2x4x128_S2x64x2x4x128x1_0_1_2_3_4 (val_main_v66 (F := F) x0 x1 x3 x5)

def val_main_v68 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x641, .f32⟩ : BufTy).Contents (Elt F) :=
  broadcastInDim S2x64x2x4x128x641 ![0, 1, 2, 3, 4, 5] bcast_S2x64x2x4x128x1_S2x64x2x4x128x641_0_1_2_3_4_5 (val_main_v67 (F := F) x0 x1 x3 x5)

def val_main_v69 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x641, .f32⟩ : BufTy).Contents (Elt F) :=
  Host.divf (val_main_v65 (F := F) x0 x1 x3 x5) (val_main_v68 (F := F) x0 x1 x3 x5)

def val_main_v70 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x384, .f32⟩ : BufTy).Contents (Elt F) :=
  extractStridedSlice S2x64x2x4x128x384 ![0, 0, 0, 0, 0, 0] (val_main_v69 (F := F) x0 x1 x3 x5) slices_S2x64x2x4x128x641_S2x64x2x4x128x384_0_0_0_0_0_0

def val_main_v71 (x0 : (⟨S2x8192x8x64, .f32⟩ : BufTy).Contents (Elt F)) (x1 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x4x128x256, .f32⟩ : BufTy).Contents (Elt F) :=
  extractStridedSlice S2x64x2x4x128x256 ![0, 0, 0, 0, 0, 384] (val_main_v69 (F := F) x0 x1 x3 x5) slices_S2x64x2x4x128x641_S2x64x2x4x128x256_0_0_0_0_0_384

def val_main_v72 (x0 : (⟨S2x8192x8x64, .f32⟩ : BufTy).Contents (Elt F)) (x1 x2 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x2x64x4x128, .f32⟩ : BufTy).Contents (Elt F) :=
  Host.dotGeneral dot_S2x64x384x2x64_S2x64x2x4x128x384_S2x64x2x64x4x128_2_5_4_34_013_012 none (val_main_v13 (F := F) x2) (val_main_v70 (F := F) x0 x1 x3 x5)

def val_main_v73 (x0 : (⟨S2x8192x8x64, .f32⟩ : BufTy).Contents (Elt F)) (x1 x2 : (⟨S2x8192x2x64, .f32⟩ : BufTy).Contents (Elt F)) (x3 : (⟨S2x256x2x64, .f32⟩ : BufTy).Contents (Elt F)) (x5 : (⟨S1x8, .f32⟩ : BufTy).Contents (Elt F)) : (⟨S2x64x128x2x4x64, .f32⟩ : BufTy).Contents (Elt F) :=
  transpose S2x64x128x2x4x64 [0, 1, 5, 2, 4, 3] (val_main_v72 (F := F) x0 x1 x2 x3 x5) transposes_S2x64x2x64x4x128_S2x64x128x2x4x64_0_1_5_2_4_3

def val_main_v74 (x0 : (⟨S2x8192x8x64, .f32⟩ : BufTy).Contents (Elt F)) (x1 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S2x2x64x64x4x128, .f32⟩ : BufTy).Contents (Elt F) :=
  Host.dotGeneral dot_S2x256x2x64_S2x64x2x4x128x256_S2x2x64x64x4x128_1_5_3_134_02_02 none (x4) (val_main_v71 (F := F) x0 x1 x3 x5)

def val_main_v75 (x0 : (⟨S2x8192x8x64, .f32⟩ : BufTy).Contents (Elt F)) (x1 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S2x64x128x2x4x64, .f32⟩ : BufTy).Contents (Elt F) :=
  transpose S2x64x128x2x4x64 [0, 3, 5, 1, 4, 2] (val_main_v74 (F := F) x0 x1 x3 x4 x5) transposes_S2x2x64x64x4x128_S2x64x128x2x4x64_0_3_5_1_4_2

def val_main_v76 (x0 : (⟨S2x8192x8x64, .f32⟩ : BufTy).Contents (Elt F)) (x1 x2 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S2x64x128x2x4x64, .f32⟩ : BufTy).Contents (Elt F) :=
  addf (val_main_v73 (F := F) x0 x1 x2 x3 x5) (val_main_v75 (F := F) x0 x1 x3 x4 x5)

def val_main_v77 (x0 : (⟨S2x8192x8x64, .f32⟩ : BufTy).Contents (Elt F)) (x1 x2 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S2x8192x512, .f32⟩ : BufTy).Contents (Elt F) :=
  shapeCast _ (val_main_v76 (F := F) x0 x1 x2 x3 x4 x5) shapeCasts_S2x64x128x2x4x64_S2x8192x512

def val_main_v78 (x0 : (⟨S2x8192x8x64, .f32⟩ : BufTy).Contents (Elt F)) (x1 x2 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S16384x2x4x64, .f32⟩ : BufTy).Contents (Elt F) :=
  shapeCast _ (val_main_v77 (F := F) x0 x1 x2 x3 x4 x5) shapeCasts_S2x8192x512_S16384x2x4x64

def val_main_v79 (x0 : (⟨S2x8192x8x64, .f32⟩ : BufTy).Contents (Elt F)) (x1 x2 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S16384x4x2x64, .f32⟩ : BufTy).Contents (Elt F) :=
  transpose S16384x4x2x64 [0, 2, 1, 3] (val_main_v78 (F := F) x0 x1 x2 x3 x4 x5) transposes_S16384x2x4x64_S16384x4x2x64_0_2_1_3

def val_main_v80 (x0 : (⟨S2x8192x8x64, .f32⟩ : BufTy).Contents (Elt F)) (x1 x2 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S16384x512, .f32⟩ : BufTy).Contents (Elt F) :=
  shapeCast _ (val_main_v79 (F := F) x0 x1 x2 x3 x4 x5) shapeCasts_S16384x4x2x64_S16384x512

def val_main_v81 (x0 : (⟨S2x8192x8x64, .f32⟩ : BufTy).Contents (Elt F)) (x1 x2 : (⟨S2x8192x2x64, .f32⟩ : BufTy).Contents (Elt F)) (x3 x4 : (⟨S2x256x2x64, .f32⟩ : BufTy).Contents (Elt F)) (x5 : (⟨S1x8, .f32⟩ : BufTy).Contents (Elt F)) : (⟨S16384x512, .bf16⟩ : BufTy).Contents (Elt F) :=
  truncf .bf16 (val_main_v80 (F := F) x0 x1 x2 x3 x4 x5) bitsLt_bf16_f32

end Attn

end
-- ==== Proof.Attn.ValsEq.lean ====
/-
  The reference's result is the last of its values.
-/
module

public import proofs.«01_k».proof.Proof.Attn.Vals

@[expose] public section

noncomputable section

namespace Attn

open Cert.Reference6Ideal Cert.Reference6Ideal.Gen Idealize.ShloMosaic Idealize.ShloMosaic.TcCoe Idealize.SL.Sem Idealize.ShloMosaic.StableHlo

variable {F : FTy → Type} [FloatOps F]

theorem val_eq (m : (ℓ : Loc nD τ sig) → Buf (Elt F) ℓ) (c : Dev nD) :
    Cert.Reference6Ideal.Value.res_main_v81 m c = val_main_v81 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.Reference6Ideal.Value.res_main_v81; rfl

end Attn

end
-- ==== Proof.Attn.RefBand.lean ====
/-
  The reference's band of keys: the blocks before, at and after a query block.
-/
module

public import proofs.«01_k».proof.Proof.Attn.ValsEq
public import proofs.«01_k».proof.Proof.Attn.Spec
public import Idealize.ShloMosaic.Lib.KernelVsHost

@[expose] public section

set_option maxRecDepth 16384

noncomputable section

open Idealize.ShloMosaic Idealize.ShloMosaic.TcCoe Idealize.SL.Sem
open Cert.Reference6Ideal Cert.Reference6Ideal.Gen

namespace Attn

variable (x1 x2 : (⟨S2x8192x2x64, .f32⟩ : BufTy).Contents (Elt Ideal))

/-- The padded keys, inside the sequence. -/
theorem ref_pad (b : Fin 2) (p : Fin 8448) (h : Fin 2) (d : Fin 64) (P : Fin 8192) (hp : p.val = 128 + P.val) :
    val_main_v2 x1 (ix4 b p h d) = x1 (ix4 b P h d) := by
  unfold val_main_v2
  refine pad_apply_of_inside _ _ _ _ _ _ _ _ (ix4 b P h d) fun a => ?_
  match a with
  | ⟨0, _⟩ => show b.val = 0 + b.val * 1; omega
  | ⟨1, _⟩ => show p.val = 128 + P.val * 1; omega
  | ⟨2, _⟩ => show h.val = 0 + h.val * 1; omega
  | ⟨3, _⟩ => show d.val = 0 + d.val * 1; omega

/-- The keys' band: the blocks before, at and after a query block, inside the sequence. -/
theorem ref_band (b : Fin 2) (n : Fin 64) (j : Fin 384) (h : Fin 2) (d : Fin 64) (h1 : 128 ≤ 128 * n.val + j.val) (h2 : 128 * n.val + j.val < 8320) :
    val_main_v7 x1 (ix5 b n j h d) = x1 (ix4 b (key n j) h d) := by
  unfold val_main_v7 val_main_v6 val_main_v5 val_main_v4 val_main_v3
  pointwise
  split_ifs <;> refine ref_pad x1 b _ h d (key n j) ?_ <;> simp only [key] <;> omega

/-- The values' band is cut the same way. -/
theorem ref_vband : val_main_v13 x2 = val_main_v7 x2 := rfl

end Attn

end
-- ==== Proof.Attn.RefMask.lean ====
/-
  Which keys of its band the reference lets a query read.
-/
module

public import proofs.«01_k».proof.Proof.Attn.ValsEq
public import proofs.«01_k».proof.Proof.Attn.Spec
public import proofs.«01_k».proof.Proof.Attn.Mask

@[expose] public section

set_option maxRecDepth 16384

noncomputable section

open Idealize.ShloMosaic Idealize.ShloMosaic.TcCoe Idealize.SL.Sem
open Cert.Reference6Ideal Cert.Reference6Ideal.Gen

namespace Attn

/-- Where a key of the band stands is not before the sequence, in words. -/
theorem start_word : ∀ (n : Fin 64) (j : Fin 384),
    IntOp.cmpi .sge (IntOp.subi (IntOp.addi (IntOp.muli (BitVec.ofNat 32 n.val) 128#32) (BitVec.ofNat 32 j.val)) 128#32) 0#32
      = if 128 ≤ 128 * n.val + j.val then 1#1 else 0#1 := by decide +kernel

/-- It is not past the sequence, in words. -/
theorem stop_word : ∀ (n : Fin 64) (j : Fin 384),
    IntOp.cmpi .slt (IntOp.subi (IntOp.addi (IntOp.muli (BitVec.ofNat 32 n.val) 128#32) (BitVec.ofNat 32 j.val)) 128#32) 8192#32
      = if 128 * n.val + j.val < 8320 then 1#1 else 0#1 := by decide +kernel

/-- Three conditions as one bit. -/
theorem and_word (p r s v : Prop) [Decidable p] [Decidable r] [Decidable s] [Decidable v] (e : v ↔ (p ∧ r) ∧ s) :
    IntOp.andi (IntOp.andi (if p then 1#1 else 0#1) (if r then 1#1 else 0#1)) (if s then 1#1 else 0#1) = if v then 1#1 else 0#1 := by
  by_cases hp : p <;> by_cases hr : r <;> by_cases hs : s <;> simp [e, hp, hr, hs] <;> decide

/-- The reference's mask lets through the window inside the sequence. -/
theorem ref_valid (n : Fin 64) (q : Fin 128) (j : Fin 384) :
    val_main_v53 (F := Ideal) (ix3 n q j) = if valid n q j then 1#1 else 0#1 := by
  unfold val_main_v53 val_main_v52 val_main_v51 val_main_v50 val_main_c_7 val_main_v49 val_main_v48 val_main_v47 val_main_v46 val_main_v45 val_main_c_6 val_main_v44 val_main_v43 val_main_v42 val_main_c_5 val_main_v41 val_main_v40 val_main_v39 val_main_c_4 val_main_v38 val_main_v37 val_main_v36 val_main_v35 val_main_v34 val_main_v33 val_main_c_3 val_main_v32 val_main_v31 val_main_v30 val_main_v29 val_main_v28 val_main_v27 val_main_v26 val_main_c_2 val_main_v25 val_main_v24 val_main_v23 val_main_v22
  pointwise
  rw [window_word, start_word, stop_word]
  exact and_word _ _ _ _ ⟨fun h => ⟨⟨⟨h.1, h.2.1⟩, h.2.2.1⟩, h.2.2.2⟩, fun h => ⟨h.1.1.1, h.1.1.2, h.1.2, h.2⟩⟩

end Attn

end
-- ==== Proof.Attn.RefScores.lean ====
/-
  The reference's scores, read at an entry.
-/
module

public import proofs.«01_k».proof.Proof.Attn.RefBand
public import proofs.«01_k».proof.Proof.Attn.RefMask
public import proofs.«01_k».proof.Proof.Attn.Spec

@[expose] public section

set_option maxRecDepth 16384

noncomputable section

open Idealize.ShloMosaic Idealize.ShloMosaic.TcCoe Idealize.SL.Sem
open Cert.Reference6Ideal Cert.Reference6Ideal.Gen

namespace Attn

variable (x0 : (⟨S2x8192x8x64, .f32⟩ : BufTy).Contents (Elt Ideal)) (x1 x2 : (⟨S2x8192x2x64, .f32⟩ : BufTy).Contents (Elt Ideal))
  (x3 x4 : (⟨S2x256x2x64, .f32⟩ : BufTy).Contents (Elt Ideal)) (x5 : (⟨S1x8, .f32⟩ : BufTy).Contents (Elt Ideal))

/-- The reference's scores. -/
abbrev scoreR (b : Fin 2) (n : Fin 64) (q : Fin 128) (h : Fin 2) (g : Fin 4) : Fin 384 ⊕ Fin 256 → EReal :=
  score (fun b s u d => x0 (ix4 b s u d)) (fun b s h d => x1 (ix4 b s h d)) (fun b s h d => x3 (ix4 b s h d)) b n q h g

/-- The factor of the scores. -/
theorem eighthR : Ideal.ofBits .f32 1040187392#32 = scale := by
  simp [Ideal.ofBits, Ideal.ieee, -EReal.coe_mul]; norm_num

theorem minusR : Ideal.ofBits .f32 4286578688#32 = ⊥ := by
  simp [Ideal.ofBits, Ideal.ieee]

/-- A query, by where it stands and by its head. -/
theorem query_at (b : Fin 2) (n : Fin 64) (h : Fin 2) (g : Fin 4) (q : Fin 128) (d : Fin 64) (A : Fin 8192) (B : Fin 8)
    (hA : A.val = 128 * n.val + q.val) (hB : B.val = 4 * h.val + g.val) : x0 (ix4 b A B d) = x0 (ix4 b (pos n q) (head h g) d) := by
  obtain rfl : A = pos n q := Fin.ext hA
  obtain rfl : B = head h g := Fin.ext hB
  rfl

theorem ref_loc (b : Fin 2) (n : Fin 64) (h : Fin 2) (g : Fin 4) (q : Fin 128) (j : Fin 384) (hv : valid n q j) :
    val_main_v17 x0 x1 (ix6 b n h g q j) = scoreR x0 x1 x3 b n q h g (.inl j) := by
  refine Eq.trans ?_ (if_pos hv).symm
  unfold val_main_v17 val_main_v16 val_main_cst val_main_v15 val_main_v14 val_main_v1
  pointwise
  exact congrArg₂ (fun x y : EReal => x * y) (Finset.sum_congr rfl fun d _ => congrArg₂ (fun x y : EReal => x * y)
    (ref_band x1 b n j h d hv.2.2.1 hv.2.2.2) (query_at x0 b n h g q d _ _ (by simp only []; omega) (by simp only []; omega))) eighthR

theorem ref_ctx (b : Fin 2) (n : Fin 64) (h : Fin 2) (g : Fin 4) (q : Fin 128) (l : Fin 256) :
    val_main_v21 x0 x3 (ix6 b n h g q l) = scoreR x0 x1 x3 b n q h g (.inr l) := by
  refine Eq.trans ?_ (show (∑ d, x3 (ix4 b l h d) * x0 (ix4 b (pos n q) (head h g) d) : EReal) * scale = _ from rfl)
  unfold val_main_v21 val_main_v20 val_main_cst_1 val_main_v19 val_main_v18 val_main_v1
  pointwise
  exact congrArg₂ (fun x y : EReal => x * y) (Finset.sum_congr rfl fun d _ => congrArg (fun y : EReal => x3 (ix4 b l h d) * y)
    (query_at x0 b n h g q d _ _ (by simp only []; omega) (by simp only []; omega))) eighthR

/-- The masked scores. -/
theorem ref_where (b : Fin 2) (n : Fin 64) (h : Fin 2) (g : Fin 4) (q : Fin 128) (j : Fin 384) (w : EReal)
    (h1 : valid n q j → val_main_v17 x0 x1 (ix6 b n h g q j) = w) (h2 : ¬ valid n q j → ⊥ = w) :
    val_main_v55 x0 x1 (ix6 b n h g q j) = w := by
  unfold val_main_v55 val_main_call2_v2 val_main_call2_v1 val_main_call2_v0 val_main_cst_8 val_main_v54
  pointwise
  rw [ref_valid]
  split_ifs with hv
  · exact h1 hv
  · exact minusR.trans (h2 hv)

theorem ref_win (b : Fin 2) (n : Fin 64) (h : Fin 2) (g : Fin 4) (q : Fin 128) (j : Fin 384) :
    val_main_v55 x0 x1 (ix6 b n h g q j) = scoreR x0 x1 x3 b n q h g (.inl j) :=
  ref_where x0 x1 b n h g q j _ (fun hv => ref_loc x0 x1 x3 b n h g q j hv) (fun hv => (if_neg hv).symm)

theorem ref_sink (b : Fin 2) (n : Fin 64) (h : Fin 2) (g : Fin 4) (q : Fin 128) :
    val_main_v57 x5 (ix6 b n h g q 0) = x5 (ix2 0 (head h g)) := by
  unfold val_main_v57 val_main_v56 val_main_v0
  pointwise
  exact congrArg (fun u => x5 (ix2 0 u)) (Fin.ext (by simp only [head]; omega))

end Attn

end
-- ==== Proof.Attn.RefRow.lean ====
/-
  The reference's attention, read at an entry: a row of scores.
-/
module

public import proofs.«01_k».proof.Proof.Attn.RefScores
public import proofs.«01_k».proof.Proof.Attn.Half

@[expose] public section

set_option maxRecDepth 16384

noncomputable section

open Idealize.ShloMosaic Idealize.ShloMosaic.TcCoe Idealize.SL.Sem
open Cert.Reference6Ideal Cert.Reference6Ideal.Gen

namespace Attn

variable (x0 : (⟨S2x8192x8x64, .f32⟩ : BufTy).Contents (Elt Ideal)) (x1 x2 : (⟨S2x8192x2x64, .f32⟩ : BufTy).Contents (Elt Ideal))
  (x3 x4 : (⟨S2x256x2x64, .f32⟩ : BufTy).Contents (Elt Ideal)) (x5 : (⟨S1x8, .f32⟩ : BufTy).Contents (Elt Ideal))

/-- A score's place in the row: its block's window, then the context; the sink comes last. -/
def place : Fin 384 ⊕ Fin 256 → Fin 641
  | .inl j => ⟨j.val, by omega⟩
  | .inr l => ⟨384 + l.val, by omega⟩

theorem sum_places (f : Fin 641 → EReal) : ∑ j, f j = (∑ k, f (place k)) + f (Fin.last 640) :=
  (Fin.sum_univ_castSucc f).trans (congrArg (fun x : EReal => x + f (Fin.last 640))
    ((Fin.sum_univ_add (a := 384) (b := 256) (fun i : Fin (384 + 256) => f (Fin.castSucc i))).trans (Fintype.sum_sum_type (fun k => f (place k))).symm))

/-- A row of scores: the window's, the context's, the sink. -/
theorem ref_row (b : Fin 2) (n : Fin 64) (h : Fin 2) (g : Fin 4) (q : Fin 128) (j : Fin 641) (w : EReal)
    (h1 : ∀ (i : Fin 384), i.val = j.val → val_main_v55 x0 x1 (ix6 b n h g q i) = w)
    (h2 : ∀ (i : Fin 256), 384 + i.val = j.val → val_main_v21 x0 x3 (ix6 b n h g q i) = w)
    (h3 : ∀ i : Fin 1, j.val = 640 → val_main_v57 x5 (ix6 b n h g q i) = w) : val_main_v58 x0 x1 x3 x5 (ix6 b n h g q j) = w := by
  unfold val_main_v58
  pointwise
  split_ifs <;> first | exact h1 _ rfl | exact h2 ⟨j.val - 384, by omega⟩ (by show 384 + (j.val - 384) = j.val; omega) | exact h3 _ (by omega)

theorem ref_place (b : Fin 2) (n : Fin 64) (h : Fin 2) (g : Fin 4) (q : Fin 128) (k : Fin 384 ⊕ Fin 256) :
    val_main_v58 x0 x1 x3 x5 (ix6 b n h g q (place k)) = scoreR x0 x1 x3 b n q h g k := by
  rcases k with j | l
  · refine ref_row x0 x1 x3 x5 b n h g q _ _ (fun i hi => ?_) (fun i hi => ?_) (fun _ hi => ?_)
    · obtain rfl : i = j := Fin.ext hi
      exact ref_win x0 x1 x3 b n h g q i
    · exact absurd hi (by show ¬ 384 + i.val = j.val; omega)
    · exact absurd hi (by show ¬ j.val = 640; omega)
  · refine ref_row x0 x1 x3 x5 b n h g q _ _ (fun i hi => ?_) (fun i hi => ?_) (fun _ hi => ?_)
    · exact absurd hi (by show ¬ i.val = 384 + l.val; omega)
    · obtain rfl : i = l := Fin.ext (by have hi' : 384 + i.val = 384 + l.val := hi; omega)
      exact ref_ctx x0 x1 x3 b n h g q i
    · exact absurd hi (by show ¬ 384 + l.val = 640; omega)

theorem ref_last (b : Fin 2) (n : Fin 64) (h : Fin 2) (g : Fin 4) (q : Fin 128) :
    val_main_v58 x0 x1 x3 x5 (ix6 b n h g q (Fin.last 640)) = x5 (ix2 0 (head h g)) :=
  ref_row x0 x1 x3 x5 b n h g q _ _ (fun i hi => absurd hi (by show ¬ i.val = 640; omega)) (fun i hi => absurd hi (by show ¬ 384 + i.val = 640; omega))
    (fun i _ => by obtain rfl : i = 0 := Subsingleton.elim _ _; exact ref_sink x5 b n h g q)

/-- The largest of numbers below infinity, a real one among them, is real. -/
theorem fold_real (f : Fin 641 → EReal) (σ : ℝ) (hf : ∀ k, f (place k) ≠ ⊤) (hl : f (Fin.last 640) = (σ : EReal)) :
    ∃ τ : ℝ, max ⊥ (Finset.fold max (⊥ : EReal) f Finset.univ) = (τ : EReal) := by
  have ht : ∀ j, f j ≠ ⊤ := fun j => by
    by_cases h1 : j.val < 384
    · exact hf (.inl ⟨j.val, h1⟩)
    · by_cases h2 : j.val < 640
      · have e : place (.inr ⟨j.val - 384, by omega⟩) = j := Fin.ext (by show 384 + (j.val - 384) = j.val; omega)
        rw [← e]; exact hf _
      · have e : j = Fin.last 640 := Fin.ext (by show j.val = 640; omega)
        rw [e, hl]; exact EReal.coe_ne_top σ
  refine ⟨(max ⊥ (Finset.fold max (⊥ : EReal) f Finset.univ)).toReal, (EReal.coe_toReal ?_ ?_).symm⟩
  · exact (max_lt bot_lt_top (lt_top_iff_ne_top.mpr (fold_ne_top _ _ ht))).ne
  · refine ((EReal.bot_lt_coe σ).trans_le (le_trans ?_ (le_max_right _ _))).ne'
    exact Finset.le_fold_max (σ : EReal) |>.mpr (Or.inr ⟨Fin.last 640, Finset.mem_univ _, hl.ge⟩)

end Attn

end
-- ==== Proof.Attn.RefReduce.lean ====
/-
  The largest and the sum of a row of 641 scores, as the reference takes them along its last axis.
-/
module

public import proofs.«01_k».proof.Proof.Attn.ValsEq
public import Idealize.ShloMosaic.Lib.Pipeline.ValueKit

@[expose] public section

noncomputable section

open Idealize.ShloMosaic Idealize.ShloMosaic.TcCoe Idealize.SL.Sem
open Cert.Reference6Ideal Cert.Reference6Ideal.Gen

namespace Attn

theorem last_axis : S2x64x2x4x128x641.Reduces [5] S2x64x2x4x128 := by decide +kernel

/-- The index of a row's entry. -/
theorem lift_row (b : Fin 2) (n : Fin 64) (h : Fin 2) (g : Fin 4) (q : Fin 128) (k : Fin 641) :
    last_axis.lift (ix5 b n h g q) k = ix6 b n h g q k := by
  funext a
  apply Fin.ext
  match a with
  | ⟨0, _⟩ => rfl
  | ⟨1, _⟩ => rfl
  | ⟨2, _⟩ => rfl
  | ⟨3, _⟩ => rfl
  | ⟨4, _⟩ => rfl
  | ⟨5, _⟩ => rfl

/-- The sum of a row. -/
theorem sum_row (v : FVec Ideal S2x64x2x4x128x641 .f32) (c : FVec Ideal S_ .f32) (b : Fin 2) (n : Fin 64) (h : Fin 2) (g : Fin 4) (q : Fin 128) :
    @Eq EReal (Host.reduceAdd v c reducesTo_S2x64x2x4x128x641_S2x64x2x4x128_d5 h_S_ (ix5 b n h g q))
      (c (Shape.Idx.first h_S_) + ∑ k : Fin 641, v (ix6 b n h g q k) : EReal) := by
  simp only [Host.reduceAdd, Ideal.hostReduceAdd_def]
  rw [Ideal.hostReduceAdd_single reducesTo_S2x64x2x4x128x641_S2x64x2x4x128_d5 last_axis]
  exact congrArg (fun x : EReal => c (Shape.Idx.first h_S_) + x) (Finset.sum_congr rfl fun k _ => congrArg v (lift_row b n h g q k))

/-- The largest of a row. -/
theorem max_row (v : FVec Ideal S2x64x2x4x128x641 .f32) (c : FVec Ideal S_ .f32) (b : Fin 2) (n : Fin 64) (h : Fin 2) (g : Fin 4) (q : Fin 128) :
    @Eq EReal (Host.reduce (FloatOps.maximumf (F := Ideal) (φ := .f32)) v c reducesTo_S2x64x2x4x128x641_S2x64x2x4x128_d5 h_S_ (ix5 b n h g q))
      (Finset.fold (max : EReal → EReal → EReal) (c (Shape.Idx.first h_S_)) (fun k : Fin 641 => v (ix6 b n h g q k)) Finset.univ) := by
  refine (Host.reduce_eq_fold_single (max : EReal → EReal → EReal) v c reducesTo_S2x64x2x4x128x641_S2x64x2x4x128_d5 last_axis h_S_ (ix5 b n h g q)).trans ?_
  exact congrArg (fun f => Finset.fold (max : EReal → EReal → EReal) (c (Shape.Idx.first h_S_)) f Finset.univ) (funext fun k => congrArg v (lift_row b n h g q k))

end Attn

end
-- ==== Proof.Attn.RefProb.lean ====
/-
  The reference's attention, read at an entry: the weights.
-/
module

public import proofs.«01_k».proof.Proof.Attn.RefRow
public import proofs.«01_k».proof.Proof.Attn.RefReduce

@[expose] public section

set_option maxRecDepth 16384

noncomputable section

open Idealize.ShloMosaic Idealize.ShloMosaic.TcCoe Idealize.SL.Sem
open Cert.Reference6Ideal Cert.Reference6Ideal.Gen

namespace Attn

variable (x0 : (⟨S2x8192x8x64, .f32⟩ : BufTy).Contents (Elt Ideal)) (x1 x2 : (⟨S2x8192x2x64, .f32⟩ : BufTy).Contents (Elt Ideal))
  (x3 x4 : (⟨S2x256x2x64, .f32⟩ : BufTy).Contents (Elt Ideal)) (x5 : (⟨S1x8, .f32⟩ : BufTy).Contents (Elt Ideal))

/-- The larger of two arrays, at an entry. -/
theorem max_at {s : Shape} (a b : FVec Ideal s .f32) (i : s.Idx) : @Eq EReal (maximumf a b i) (max (a i : EReal) (b i)) := rfl

section Real

variable (hX : ∀ b n q h g k, scoreR x0 x1 x3 b n q h g k ≠ ⊤) (hS : ∀ u, x5 (ix2 0 u) = ((x5 (ix2 0 u)).toReal : EReal))

include hX hS

/-- The largest score of a row is real. -/
theorem ref_max (b : Fin 2) (n : Fin 64) (h : Fin 2) (g : Fin 4) (q : Fin 128) :
    ∃ τ : ℝ, val_main_v61 x0 x1 x3 x5 (ix5 b n h g q) = (τ : EReal) := by
  obtain ⟨τ, ht⟩ := fold_real (fun j => val_main_v58 x0 x1 x3 x5 (ix6 b n h g q j)) (x5 (ix2 0 (head h g))).toReal
    (fun k => (ref_place x0 x1 x3 x5 b n h g q k).trans_ne (hX b n q h g k)) ((ref_last x0 x1 x3 x5 b n h g q).trans (hS _))
  have e60 : @Eq EReal (val_main_v60 (F := Ideal) (ix5 b n h g q)) ⊥ := by
    unfold val_main_v60 val_main_cst_10; pointwise; exact minusR
  have ec : @Eq EReal (val_main_cst_9 (F := Ideal) (Shape.Idx.first h_S_)) ⊥ := by
    unfold val_main_cst_9; pointwise; exact minusR
  have e59 : @Eq EReal (val_main_v59 x0 x1 x3 x5 (ix5 b n h g q))
      (Finset.fold (max : EReal → EReal → EReal) ⊥ (fun j : Fin 641 => val_main_v58 x0 x1 x3 x5 (ix6 b n h g q j)) Finset.univ) := by
    unfold val_main_v59
    generalize val_main_v58 x0 x1 x3 x5 = v
    rw [← ec]
    exact max_row v (val_main_cst_9 (F := Ideal)) b n h g q
  have e61 : @Eq EReal (val_main_v61 x0 x1 x3 x5 (ix5 b n h g q)) (max (val_main_v60 (F := Ideal) (ix5 b n h g q) : EReal) (val_main_v59 x0 x1 x3 x5 (ix5 b n h g q))) := by
    unfold val_main_v61
    exact max_at _ _ _
  exact ⟨τ, (e61.trans (congrArg₂ (fun x y : EReal => max x y) e60 e59)).trans ht⟩

omit hX hS in
/-- A score's exponential, its row's largest score taken away. -/
theorem ref_exp (b : Fin 2) (n : Fin 64) (h : Fin 2) (g : Fin 4) (q : Fin 128) (j : Fin 641) :
    val_main_v65 x0 x1 x3 x5 (ix6 b n h g q j) = Ideal.exp (val_main_v58 x0 x1 x3 x5 (ix6 b n h g q j) - val_main_v61 x0 x1 x3 x5 (ix5 b n h g q) : EReal) := by
  unfold val_main_v65 val_main_v64 val_main_v63 val_main_v62
  pointwise

omit hX hS in
/-- The sum of a row's exponentials. -/
theorem ref_den (b : Fin 2) (n : Fin 64) (h : Fin 2) (g : Fin 4) (q : Fin 128) :
    @Eq EReal (val_main_v66 x0 x1 x3 x5 (ix5 b n h g q)) (∑ j : Fin 641, val_main_v65 x0 x1 x3 x5 (ix6 b n h g q j) : EReal) := by
  have e0 : Ideal.ofBits .f32 0x00000000#32 = 0 := by simp [Ideal.ofBits, Ideal.ieee]
  refine (sum_row (val_main_v65 x0 x1 x3 x5) (val_main_cst_11 (F := Ideal)) b n h g q).trans ?_
  exact (congrArg (fun x : EReal => x + _) e0).trans (zero_add _)

omit hX hS in
/-- A weight is an exponential over the sum of its row's. -/
theorem ref_quot (b : Fin 2) (n : Fin 64) (h : Fin 2) (g : Fin 4) (q : Fin 128) (j : Fin 641) :
    val_main_v69 x0 x1 x3 x5 (ix6 b n h g q j) = Ideal.div (val_main_v65 x0 x1 x3 x5 (ix6 b n h g q j)) (val_main_v66 x0 x1 x3 x5 (ix5 b n h g q)) := by
  unfold val_main_v69 val_main_v68 val_main_v67
  pointwise

/-- A weight, from the scores. -/
theorem ref_prob (b : Fin 2) (n : Fin 64) (h : Fin 2) (g : Fin 4) (q : Fin 128) (k : Fin 384 ⊕ Fin 256) :
    val_main_v69 x0 x1 x3 x5 (ix6 b n h g q (place k))
      = ((wt (scoreR x0 x1 x3 b n q h g k) / ((∑ k, wt (scoreR x0 x1 x3 b n q h g k)) + Real.exp (x5 (ix2 0 (head h g))).toReal) : ℝ) : EReal) := by
  obtain ⟨τ, ht⟩ := ref_max x0 x1 x3 x5 hX hS b n h g q
  refine Eq.trans ?_ (weight_exp (scoreR x0 x1 x3 b n q h g) (x5 (ix2 0 (head h g))).toReal τ (hX b n q h g) k)
  have e (j : Fin 641) : val_main_v65 x0 x1 x3 x5 (ix6 b n h g q j) = Ideal.exp (val_main_v58 x0 x1 x3 x5 (ix6 b n h g q j) - (τ : EReal) : EReal) := by
    rw [ref_exp, ht]
  rw [ref_quot, ref_den, Finset.sum_congr rfl (fun j _ => e j), e, sum_places, ref_last, ref_place, ← hS]
  exact congrArg (fun x : EReal => Ideal.div _ (x + _)) (Finset.sum_congr rfl fun k _ => by rw [ref_place])

end Real

end Attn

end
-- ==== Proof.Attn.Ref.lean ====
/-
  The reference's attention, read at an entry: the same weighted mean as the kernel's.
-/
module

public import proofs.«01_k».proof.Proof.Attn.RefProb

@[expose] public section

set_option maxRecDepth 16384

noncomputable section

open Idealize.ShloMosaic Idealize.ShloMosaic.TcCoe Idealize.SL.Sem
open Cert.Reference6Ideal Cert.Reference6Ideal.Gen

namespace Attn

variable (x0 : (⟨S2x8192x8x64, .f32⟩ : BufTy).Contents (Elt Ideal)) (x1 x2 : (⟨S2x8192x2x64, .f32⟩ : BufTy).Contents (Elt Ideal))
  (x3 x4 : (⟨S2x256x2x64, .f32⟩ : BufTy).Contents (Elt Ideal)) (x5 : (⟨S1x8, .f32⟩ : BufTy).Contents (Elt Ideal))

/-- The sum of two arrays, at an entry. -/
theorem add_at {s : Shape} (a b : FVec Ideal s .f32) (i : s.Idx) : @Eq EReal (addf a b i) ((a i : EReal) + b i) := rfl

/-- The weights of the window. -/
theorem ref_win_w (b : Fin 2) (n : Fin 64) (h : Fin 2) (g : Fin 4) (q : Fin 128) (j : Fin 384) :
    val_main_v70 x0 x1 x3 x5 (ix6 b n h g q j) = val_main_v69 x0 x1 x3 x5 (ix6 b n h g q ⟨j.val, by omega⟩) := by
  unfold val_main_v70
  generalize val_main_v69 x0 x1 x3 x5 = v
  pointwise

/-- The weights of the context. -/
theorem ref_ctx_w (b : Fin 2) (n : Fin 64) (h : Fin 2) (g : Fin 4) (q : Fin 128) (l : Fin 256) :
    val_main_v71 x0 x1 x3 x5 (ix6 b n h g q l) = val_main_v69 x0 x1 x3 x5 (ix6 b n h g q ⟨384 + l.val, by omega⟩) := by
  unfold val_main_v71
  generalize val_main_v69 x0 x1 x3 x5 = v
  pointwise

/-- The window's part of the result. -/
theorem ref_win_o (b : Fin 2) (n : Fin 64) (h : Fin 2) (g : Fin 4) (q : Fin 128) (d : Fin 64) :
    @Eq EReal (val_main_v73 x0 x1 x2 x3 x5 (ix6 b n q h g d)) (∑ j : Fin 384, val_main_v13 x2 (ix5 b n j h d) * val_main_v70 x0 x1 x3 x5 (ix6 b n h g q j) : EReal) := by
  unfold val_main_v73 val_main_v72
  generalize val_main_v70 x0 x1 x3 x5 = v
  generalize val_main_v13 x2 = u
  pointwise

/-- The context's part of the result. -/
theorem ref_ctx_o (b : Fin 2) (n : Fin 64) (h : Fin 2) (g : Fin 4) (q : Fin 128) (d : Fin 64) :
    @Eq EReal (val_main_v75 x0 x1 x3 x4 x5 (ix6 b n q h g d)) (∑ l : Fin 256, x4 (ix4 b l h d) * val_main_v71 x0 x1 x3 x5 (ix6 b n h g q l) : EReal) := by
  unfold val_main_v75 val_main_v74
  generalize val_main_v71 x0 x1 x3 x5 = v
  pointwise

section Real

variable (hX : ∀ b n q h g k, scoreR x0 x1 x3 b n q h g k ≠ ⊤) (hS : ∀ u, x5 (ix2 0 u) = ((x5 (ix2 0 u)).toReal : EReal))

include hX hS

/-- The reference's attention is the weighted mean. -/
theorem ref_out (b : Fin 2) (n : Fin 64) (h : Fin 2) (g : Fin 4) (q : Fin 128) (d : Fin 64) :
    val_main_v76 x0 x1 x2 x3 x4 x5 (ix6 b n q h g d)
      = attn (fun b s u d => x0 (ix4 b s u d)) (fun b s h d => x1 (ix4 b s h d)) (fun b s h d => x2 (ix4 b s h d)) (fun b s h d => x3 (ix4 b s h d))
          (fun b s h d => x4 (ix4 b s h d)) (fun u => x5 (ix2 0 u)) b n q h g d := by
  have e1 (j : Fin 384) : (val_main_v13 x2 (ix5 b n j h d) * val_main_v69 x0 x1 x3 x5 (ix6 b n h g q (place (.inl j))) : EReal)
      = x2 (ix4 b (key n j) h d) * val_main_v69 x0 x1 x3 x5 (ix6 b n h g q (place (.inl j))) := by
    by_cases hv : valid n q j
    · exact congrArg (fun x : EReal => x * _) ((congrFun (ref_vband x2) _).trans (ref_band x2 b n j h d hv.2.2.1 hv.2.2.2))
    · have e : scoreR x0 x1 x3 b n q h g (.inl j) = ⊥ := if_neg hv
      rw [ref_prob x0 x1 x3 x5 hX hS, e, wt_bot, zero_div, EReal.coe_zero, mul_zero, mul_zero]
  have e2 : attn (fun b s u d => x0 (ix4 b s u d)) (fun b s h d => x1 (ix4 b s h d)) (fun b s h d => x2 (ix4 b s h d)) (fun b s h d => x3 (ix4 b s h d))
          (fun b s h d => x4 (ix4 b s h d)) (fun u => x5 (ix2 0 u)) b n q h g d
      = (∑ j : Fin 384, val_main_v13 x2 (ix5 b n j h d) * val_main_v69 x0 x1 x3 x5 (ix6 b n h g q ⟨j.val, by omega⟩) : EReal)
        + ∑ l : Fin 256, x4 (ix4 b l h d) * val_main_v69 x0 x1 x3 x5 (ix6 b n h g q ⟨384 + l.val, by omega⟩) := by
    unfold attn mean
    rw [Fintype.sum_sum_type]
    exact congrArg₂ (fun x y : EReal => x + y)
      (Finset.sum_congr rfl fun j _ => (congrArg (fun x : EReal => x2 (ix4 b (key n j) h d) * x) (ref_prob x0 x1 x3 x5 hX hS b n h g q (.inl j)).symm).trans (e1 j).symm)
      (Finset.sum_congr rfl fun l _ => congrArg (fun x : EReal => x4 (ix4 b l h d) * x) (ref_prob x0 x1 x3 x5 hX hS b n h g q (.inr l)).symm)
  rw [e2]
  unfold val_main_v76
  refine (add_at _ _ _).trans ?_
  rw [ref_win_o, ref_ctx_o]
  exact congrArg₂ (fun x y : EReal => x + y)
    (Finset.sum_congr rfl fun j _ => congrArg (fun x : EReal => val_main_v13 x2 (ix5 b n j h d) * x) (ref_win_w x0 x1 x3 x5 b n h g q j))
    (Finset.sum_congr rfl fun l _ => congrArg (fun x : EReal => x4 (ix4 b l h d) * x) (ref_ctx_w x0 x1 x3 x5 b n h g q l))

end Real

/-- The reference's result, by row and column. -/
theorem ref_res (R : Fin 16384) (C : Fin 512) (b : Fin 2) (n : Fin 64) (h : Fin 2) (g : Fin 4) (q : Fin 128) (d : Fin 64)
    (hR : R.val = 8192 * b.val + 128 * n.val + q.val) (hC : C.val = 128 * g.val + 64 * h.val + d.val) :
    val_main_v81 x0 x1 x2 x3 x4 x5 (ix2 R C) = val_main_v76 x0 x1 x2 x3 x4 x5 (ix6 b n q h g d) := by
  unfold val_main_v81 val_main_v80 val_main_v79 val_main_v78 val_main_v77
  pointwise
  have e1 : (⟨R.val / 8192, by omega⟩ : Fin 2) = b := Fin.ext (by show R.val / 8192 = b.val; omega)
  have e2 : (⟨R.val / 128 % 64, by omega⟩ : Fin 64) = n := Fin.ext (by show R.val / 128 % 64 = n.val; omega)
  have e3 : (⟨R.val % 128, by omega⟩ : Fin 128) = q := Fin.ext (by show R.val % 128 = q.val; omega)
  have e4 : (⟨C.val / 64 % 2, by omega⟩ : Fin 2) = h := Fin.ext (by show C.val / 64 % 2 = h.val; omega)
  have e5 : (⟨C.val / 128, by omega⟩ : Fin 4) = g := Fin.ext (by show C.val / 128 = g.val; omega)
  have e6 : (⟨C.val % 64, by omega⟩ : Fin 64) = d := Fin.ext (by show C.val % 64 = d.val; omega)
  rw [e1, e2, e3, e4, e5, e6]

end Attn

end
-- ==== Proof.Attn.Claim.lean ====
/-
  The claims of the attention: the reference's frame, and the kernel's result equal to the reference's.
-/
module

public import proofs.«01_k».proof.Defs
public import proofs.«01_k».proof.Proof.Attn.Arr
public import proofs.«01_k».proof.Proof.Attn.Pre
public import proofs.«01_k».proof.Proof.Attn.Ref
public import proofs.«01_k».proof.Proof.Gen.Kernel6Ideal.Value
public import proofs.«01_k».proof.Proof.Gen.Reference6Ideal
public import Idealize.ShloMosaic.Lib.Quiescent

@[expose] public section

set_option maxRecDepth 16384

noncomputable section

open Idealize.ShloMosaic Idealize.ShloMosaic.TcCoe Idealize.SL.Sem
open Cert.Kernel6Ideal Cert.Kernel6Ideal.Gen

namespace Attn

variable (m : (ℓ : Loc nD τ sig) → Buf (Elt Ideal) ℓ)

section Results

variable (c : Dev nD) (hp : Cert.Pre_Kernel6Ideal_finite (hPre_finite := preFacts) m)
  (x0 : (⟨Cert.Reference6Ideal.S2x8192x8x64, .f32⟩ : BufTy).Contents (Elt Ideal)) (e0 : x0 = m (c, Proc.tc.devRef main_arg0))
  (x1 : (⟨Cert.Reference6Ideal.S2x8192x2x64, .f32⟩ : BufTy).Contents (Elt Ideal)) (e1 : x1 = m (c, Proc.tc.devRef main_arg1))
  (x2 : (⟨Cert.Reference6Ideal.S2x8192x2x64, .f32⟩ : BufTy).Contents (Elt Ideal)) (e2 : x2 = m (c, Proc.tc.devRef main_arg2))
  (x3 : (⟨Cert.Reference6Ideal.S2x256x2x64, .f32⟩ : BufTy).Contents (Elt Ideal)) (e3 : x3 = m (c, Proc.tc.devRef main_arg3))
  (x4 : (⟨Cert.Reference6Ideal.S2x256x2x64, .f32⟩ : BufTy).Contents (Elt Ideal)) (e4 : x4 = m (c, Proc.tc.devRef main_arg4))
  (x5 : (⟨Cert.Reference6Ideal.S1x8, .f32⟩ : BufTy).Contents (Elt Ideal)) (e5 : x5 = m (c, Proc.tc.devRef main_arg5))

include hp e0 e1 e2 e3 e4 e5

/-- The reference's attention, from the kernel's arguments. -/
theorem res_attn : val_main_v81 x0 x1 x2 x3 x4 x5 = fun i => whole m c (i 0) (i 1) := by
  subst e0 e1 e2 e3 e4 e5
  funext i
  idx_vars i
  have hR : i0.val = 8192 * (⟨i0.val / 8192, by omega⟩ : Fin 2).val + 128 * (⟨i0.val / 128 % 64, by omega⟩ : Fin 64).val + (⟨i0.val % 128, by omega⟩ : Fin 128).val := by
    show i0.val = 8192 * (i0.val / 8192) + 128 * (i0.val / 128 % 64) + i0.val % 128; omega
  have hC : i1.val = 128 * (⟨i1.val / 128, by omega⟩ : Fin 4).val + 64 * (⟨i1.val / 64 % 2, by omega⟩ : Fin 2).val + (⟨i1.val % 64, by omega⟩ : Fin 64).val := by
    show i1.val = 128 * (i1.val / 128) + 64 * (i1.val / 64 % 2) + i1.val % 64; omega
  refine (ref_res _ _ _ _ _ _ i0 i1 _ _ _ _ _ _ hR hC).trans ?_
  refine (ref_out _ _ _ _ _ _ (fun b n q h g k => score_ne_top m hp c b n q h g k) (fun u => sink_real m hp c u) _ _ _ _ _ _).trans ?_
  exact whole_of m c _ _ _ _ _ _ i0 i1 hR hC

end Results

/-- The reference runs, keeps its arguments and leaves every counter at zero. -/
theorem frame_ref : Cert.quiescent_Reference6Ideal (hReference6Ideal := Cert.Reference6Ideal.Gen.facts) := fun m ρ _ =>
  (θ_run _ _ _).mono (fun r h => ⟨fun c => (h c).2, sem_eq_zero_of_no_sems rfl r.2⟩) (Cert.Reference6Ideal.Value.run (F := Ideal) m ρ)

/-- The same from memories that meet the precondition. -/
theorem frame_ref_finite : Cert.quiescent_Reference6Ideal_pre_finite (hReference6Ideal := Cert.Reference6Ideal.Gen.facts) (hPre_finite := preFacts) :=
  fun m ρ _ => (θ_run _ _ _).mono (fun r h => ⟨fun c => (h c).2, sem_eq_zero_of_no_sems rfl r.2⟩) (Cert.Reference6Ideal.Value.run (F := Ideal) m ρ)

set_option maxHeartbeats 4000000 in
/-- From equal arguments that meet the precondition the kernel and the reference leave equal attentions. -/
theorem algebraic : Cert.algebraic_Kernel6Ideal_Reference6Ideal_pre_finite (hKernel6Ideal := Cert.Kernel6Ideal.Gen.facts)
    (hReference6Ideal := Cert.Reference6Ideal.Gen.facts) (hPre_finite := preFacts) := fun m ρ m' ρ' hp hag =>
  ⟨_, (θ_run _ _ _).mono (fun r h c => ⟨(h c).1.trans (arr_out m c (score_ne_top m hp c) (sink_real m hp c)), (h c).2⟩)
      (Cert.Kernel6Ideal.Value.run_blocks (F := Ideal) m ρ),
    (θ_run _ _ _).mono (fun r h c =>
      have g := hag c
      ⟨(h c).1.trans ((val_eq _ _).trans
        (res_attn m c hp _ g.1 _ g.2.1 _ g.2.2.1 _ g.2.2.2.1 _ g.2.2.2.2.1 _ g.2.2.2.2.2)), (h c).2⟩)
      (Cert.Reference6Ideal.Value.run (F := Ideal) m' ρ')⟩

end Attn

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel.Frame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.InProj.Claim
public import proofs.«01_k».proof.Proof.ConvFfn.Claim
public import proofs.«01_k».proof.Proof.Merge.Claim
public import proofs.«01_k».proof.Proof.CtxKv.Claim
public import proofs.«01_k».proof.Proof.AdaLn.Claim
public import proofs.«01_k».proof.Proof.Attn.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel6Ideal.Value
public import Idealize.ShloMosaic.Adequacy
public import Idealize.ShloMosaic.Init

@[expose] public section

noncomputable section

namespace Cert.Proof

open Idealize.ShloMosaic Idealize.SL.Sem Cert.Kernel

/-- The frames of the programs, the idealizations, and the equality of the in-projection, of the convolutional feed-forward,
    of the gated merge, of the context's keys and values, of the modulation vectors and of the banded attention with their
    references. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Attn.preFacts,
  fun m ρ _ => Cert.Kernel.Gen.frame m ρ, fun m ρ _ => Cert.KernelIdeal.Gen.frame m ρ, InProj.frame_ref,
  fun m ρ _ => Cert.Kernel2.Gen.frame m ρ, fun m ρ _ => Cert.Kernel2Ideal.Gen.frame m ρ, ConvFfn.frame_ref,
  fun m ρ _ => Cert.Kernel3.Gen.frame m ρ, fun m ρ _ => Cert.Kernel3Ideal.Gen.frame m ρ, Merge.frame_ref,
  fun m ρ _ => Cert.Kernel4.Gen.frame m ρ, fun m ρ _ => Cert.Kernel4Ideal.Gen.frame m ρ, CtxKv.frame_ref,
  fun m ρ _ => Cert.Kernel5.Gen.frame m ρ, fun m ρ _ => Cert.Kernel5Ideal.Gen.frame m ρ, AdaLn.frame_ref,
  fun m ρ _ => Cert.Kernel6.Gen.frame m ρ, fun m ρ _ => Cert.Kernel6Ideal.Gen.frame m ρ, fun m ρ _ => Cert.Kernel6Ideal.Gen.frame m ρ,
  Attn.frame_ref, Attn.frame_ref_finite,
  trivial, InProj.algebraic, trivial, ConvFfn.algebraic, trivial, Merge.algebraic,
  trivial, CtxKv.algebraic, trivial, AdaLn.algebraic, trivial, Attn.algebraic⟩

end Cert.Proof

end
